-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 8192]⟩ ⟨2, ![4096, 8192]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x8192 : Shape := ⟨2, ![512, 8192]⟩
abbrev S4096x8192 : Shape := ⟨2, ![4096, 8192]⟩
abbrev S512x4096 : Shape := ⟨2, ![512, 4096]⟩
abbrev S2x512x4096 : Shape := ⟨3, ![2, 512, 4096]⟩
abbrev S8x8x128 : Shape := ⟨3, ![8, 8, 128]⟩
abbrev S2 : Shape := ⟨1, ![2]⟩
abbrev S7 : Shape := ⟨1, ![7]⟩
abbrev S_ : Shape := ⟨0, ![]⟩
abbrev S512x512 : Shape := ⟨2, ![512, 512]⟩
abbrev S512x2048 : Shape := ⟨2, ![512, 2048]⟩
abbrev S1 : Shape := ⟨1, ![1]⟩
abbrev S1x512x4096 : Shape := ⟨3, ![1, 512, 4096]⟩
abbrev S1x1x1 : Shape := ⟨3, ![1, 1, 1]⟩
abbrev S8x128 : Shape := ⟨2, ![8, 128]⟩
abbrev S1x8x128 : Shape := ⟨3, ![1, 8, 128]⟩

abbrev nBuf : Space → Nat
  | .hbm => 3
  | .vmem => 9
  | .smem => 0
  | _ => 0

abbrev bufTy : (tb : Table) → Fin (tcTables nBuf tb) → BufTy
  | .hbm, ⟨0, _⟩ => ⟨S4096x512, .bf16⟩
  | .hbm, ⟨1, _⟩ => ⟨S512x8192, .bf16⟩
  | .hbm, ⟨2, _⟩ => ⟨S4096x8192, .f32⟩
  | .local _ .vmem, ⟨0, _⟩ => ⟨S4096x512, .bf16⟩
  | .local _ .vmem, ⟨1, _⟩ => ⟨S512x8192, .bf16⟩
  | .local _ .vmem, ⟨2, _⟩ => ⟨S512x4096, .bf16⟩
  | .local _ .vmem, ⟨3, _⟩ => ⟨S512x4096, .bf16⟩
  | .local _ .vmem, ⟨4, _⟩ => ⟨S2x512x4096, .bf16⟩
  | .local _ .vmem, ⟨5, _⟩ => ⟨S2x512x4096, .bf16⟩
  | .local _ .vmem, ⟨6, _⟩ => ⟨S512x4096, .f32⟩
  | .local _ .vmem, ⟨7, _⟩ => ⟨S512x4096, .f32⟩
  | .local _ .vmem, ⟨8, _⟩ => ⟨S8x8x128, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 3 → Bool
  | ⟨0, _⟩ => true
  | ⟨1, _⟩ => true
  | ⟨2, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 3 28 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_sem0_0 : DmaSem sig := 0
abbrev cc0_sem1_0 : DmaSem sig := 1
abbrev barrier0 : Sem sig := 2

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_8 : BitVec 32 := 1#32
  let v11 : BitVec 32 := Scalar.muli v4 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v13 : BitVec 32 := Scalar.muli v2 c512_i32
  let v14 : Index := Scalar.indexCast v13
  let c0 : Index := 0#32
  ![v14.toNat, 0]
def k0_dev3 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_39 : BitVec 32 := 1#32
  let v55 : BitVec 32 := Scalar.muli v4 c1_i32_39
  let v56 : BitVec 32 := Scalar.addi c0_i32_40 v55
  v56.toNat
def k0_dev4 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_46 : BitVec 32 := 1#32
  let v63 : BitVec 32 := Scalar.muli v7 c1_i32_46
  let v64 : BitVec 32 := Scalar.addi c0_i32_47 v63
  v64.toNat
def k0_off2 (d0 : Dev nD) (c15_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v71 : BitVec 32 := Scalar.addi v2 c15_i32
  let c8_i32_50 : BitVec 32 := 8#32
  let v72 : BitVec 32 := Scalar.remsi v71 c8_i32_50
  let c512_i32_54 : BitVec 32 := 512#32
  let v76 : BitVec 32 := Scalar.muli v72 c512_i32_54
  let v77 : Index := Scalar.indexCast v76
  let c0_55 : Index := 0#32
  ![v77.toNat, 0]
def k0_off3 (d0 : Dev nD) (c0_i32_51 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v73 : BitVec 32 := Scalar.addi v2 c0_i32_51
  let c1_i32_52 : BitVec 32 := 1#32
  let v74 : BitVec 32 := Scalar.addi v73 c1_i32_52
  let c8_i32_53 : BitVec 32 := 8#32
  let v75 : BitVec 32 := Scalar.remsi v74 c8_i32_53
  let c512_i32_66 : BitVec 32 := 512#32
  let v92 : BitVec 32 := Scalar.muli v75 c512_i32_66
  let v93 : Index := Scalar.indexCast v92
  let c0_67 : Index := 0#32
  ![v93.toNat, 0]
def k0_dev5 (d0 : Dev nD) : Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_119 : BitVec 32 := 1#32
  let v146 : BitVec 32 := Scalar.muli v7 c1_i32_119
  let v147 : BitVec 32 := Scalar.addi c0_i32_120 v146
  v147.toNat
def k0_dev6 (d0 : Dev nD) : Nat :=
  let c0_i32_123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_122 : BitVec 32 := 1#32
  let v148 : BitVec 32 := Scalar.muli v4 c1_i32_122
  let v149 : BitVec 32 := Scalar.addi c0_i32_123 v148
  v149.toNat
def k0_dev7 (d0 : Dev nD) : Nat :=
  let c0_i32_128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_127 : BitVec 32 := 1#32
  let v150 : BitVec 32 := Scalar.muli v4 c1_i32_127
  let v151 : BitVec 32 := Scalar.addi c0_i32_128 v150
  v151.toNat
def k0_dev8 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_134 : BitVec 32 := 1#32
  let v158 : BitVec 32 := Scalar.muli v7 c1_i32_134
  let v159 : BitVec 32 := Scalar.addi c0_i32_135 v158
  v159.toNat
def k0_dev9 (d0 : Dev nD) : Nat :=
  let c0_i32_207 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_206 : BitVec 32 := 1#32
  let v241 : BitVec 32 := Scalar.muli v7 c1_i32_206
  let v242 : BitVec 32 := Scalar.addi c0_i32_207 v241
  v242.toNat
def k0_dev10 (d0 : Dev nD) : Nat :=
  let c0_i32_210 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_209 : BitVec 32 := 1#32
  let v243 : BitVec 32 := Scalar.muli v4 c1_i32_209
  let v244 : BitVec 32 := Scalar.addi c0_i32_210 v243
  v244.toNat
@[reducible] def k0_t1_loop : Scf.Loop 32 :=
  let c2_i32_211 : BitVec 32 := 2#32
  let c5_i32 : BitVec 32 := 5#32
  let v245 : BitVec 32 := Scalar.addi c2_i32_211 c5_i32
  let c1_i32_212 : BitVec 32 := 1#32
  ⟨c2_i32_211, v245, c1_i32_212⟩
def k0_off4 (k0_t1 : Fin k0_t1_loop.trips) : Fin 1 → Nat :=
  let c2_i32_211 : BitVec 32 := 2#32
  let c1_i32_212 : BitVec 32 := 1#32
  let arg20 : BitVec 32 := Scf.iv c2_i32_211 c1_i32_212 k0_t1
  let c2_i32_500 : BitVec 32 := 2#32
  let v817 : BitVec 32 := Scalar.remsi arg20 c2_i32_500
  ![v817.toNat]
def k0_off5 (k0_t1 : Fin k0_t1_loop.trips) : Fin 3 → Nat :=
  let c2_i32_211 : BitVec 32 := 2#32
  let c1_i32_212 : BitVec 32 := 1#32
  let arg20 : BitVec 32 := Scf.iv c2_i32_211 c1_i32_212 k0_t1
  let c2_i32_500 : BitVec 32 := 2#32
  let v817 : BitVec 32 := Scalar.remsi arg20 c2_i32_500
  let c0_i32_503 : BitVec 32 := 0#32
  let c0_i32_504 : BitVec 32 := 0#32
  ![v817.toNat, 0, 0]
def k0_dev11 (d0 : Dev nD) : Nat :=
  let c0_i32_502 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_501 : BitVec 32 := 1#32
  let v818 : BitVec 32 := Scalar.muli v4 c1_i32_501
  let v819 : BitVec 32 := Scalar.addi c0_i32_502 v818
  v819.toNat
def k0_dev12 (d0 : Dev nD) : Nat :=
  let c0_i32_506 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_505 : BitVec 32 := 1#32
  let v826 : BitVec 32 := Scalar.muli v7 c1_i32_505
  let v827 : BitVec 32 := Scalar.addi c0_i32_506 v826
  v827.toNat
def k0_off6 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c15_i32_509 : BitVec 32 := 15#32
  let c2_i32_211 : BitVec 32 := 2#32
  let c1_i32_212 : BitVec 32 := 1#32
  let arg20 : BitVec 32 := Scf.iv c2_i32_211 c1_i32_212 k0_t1
  let v834 : BitVec 32 := Scalar.subi c15_i32_509 arg20
  let v835 : BitVec 32 := Scalar.addi v2 v834
  let c8_i32_510 : BitVec 32 := 8#32
  let v836 : BitVec 32 := Scalar.remsi v835 c8_i32_510
  let c512_i32_513 : BitVec 32 := 512#32
  let v840 : BitVec 32 := Scalar.muli v836 c512_i32_513
  let v841 : Index := Scalar.indexCast v840
  let c0_514 : Index := 0#32
  ![v841.toNat, 0]
def k0_off7 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_211 : BitVec 32 := 2#32
  let c1_i32_212 : BitVec 32 := 1#32
  let arg20 : BitVec 32 := Scf.iv c2_i32_211 c1_i32_212 k0_t1
  let v837 : BitVec 32 := Scalar.addi v2 arg20
  let c1_i32_511 : BitVec 32 := 1#32
  let v838 : BitVec 32 := Scalar.addi v837 c1_i32_511
  let c8_i32_512 : BitVec 32 := 8#32
  let v839 : BitVec 32 := Scalar.remsi v838 c8_i32_512
  let c512_i32_525 : BitVec 32 := 512#32
  let v856 : BitVec 32 := Scalar.muli v839 c512_i32_525
  let v857 : Index := Scalar.indexCast v856
  let c0_526 : Index := 0#32
  ![v857.toNat, 0]
def k0_off8 (k0_t1 : Fin k0_t1_loop.trips) : Fin 3 → Nat :=
  let c2_i32_211 : BitVec 32 := 2#32
  let c1_i32_212 : BitVec 32 := 1#32
  let arg20 : BitVec 32 := Scf.iv c2_i32_211 c1_i32_212 k0_t1
  let c2_i32_500 : BitVec 32 := 2#32
  let v817 : BitVec 32 := Scalar.remsi arg20 c2_i32_500
  let v893 : Index := Scalar.indexCast v817
  let c0_553 : Index := 0#32
  let c0_554 : Index := 0#32
  ![v893.toNat, 0, 0]
def k0_dev13 (d0 : Dev nD) : Nat :=
  let c0_i32_565 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_564 : BitVec 32 := 1#32
  let v912 : BitVec 32 := Scalar.muli v7 c1_i32_564
  let v913 : BitVec 32 := Scalar.addi c0_i32_565 v912
  v913.toNat
def k0_dev14 (d0 : Dev nD) : Nat :=
  let c0_i32_568 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_567 : BitVec 32 := 1#32
  let v914 : BitVec 32 := Scalar.muli v4 c1_i32_567
  let v915 : BitVec 32 := Scalar.addi c0_i32_568 v914
  v915.toNat
@[reducible] def k0_t2_loop : Scf.Loop 32 :=
  let c0_i32_222 : BitVec 32 := 0#32
  let c7_i32 : BitVec 32 := 7#32
  let v265 : BitVec 32 := Scalar.addi c0_i32_222 c7_i32
  let c1_i32_223 : BitVec 32 := 1#32
  ⟨c0_i32_222, v265, c1_i32_223⟩
def k0_off9 (k0_t2 : Fin k0_t2_loop.trips) : Fin 1 → Nat :=
  let c0_i32_222 : BitVec 32 := 0#32
  let c1_i32_223 : BitVec 32 := 1#32
  let arg20 : BitVec 32 := Scf.iv c0_i32_222 c1_i32_223 k0_t2
  ![arg20.toNat]
def k0_off10 (k0_t2 : Fin k0_t2_loop.trips) : Fin 3 → Nat :=
  let c0_i32_222 : BitVec 32 := 0#32
  let c1_i32_223 : BitVec 32 := 1#32
  let arg20 : BitVec 32 := Scf.iv c0_i32_222 c1_i32_223 k0_t2
  let c0_i32_499 : BitVec 32 := 0#32
  let c0_i32_500 : BitVec 32 := 0#32
  ![arg20.toNat, 0, 0]
def k0_dev15 (d0 : Dev nD) : Nat :=
  let c0_i32_498 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_497 : BitVec 32 := 1#32
  let v817 : BitVec 32 := Scalar.muli v4 c1_i32_497
  let v818 : BitVec 32 := Scalar.addi c0_i32_498 v817
  v818.toNat
def k0_off11 (k0_t2 : Fin k0_t2_loop.trips) : Fin 3 → Nat :=
  let c0_i32_222 : BitVec 32 := 0#32
  let c1_i32_223 : BitVec 32 := 1#32
  let arg20 : BitVec 32 := Scf.iv c0_i32_222 c1_i32_223 k0_t2
  let v843 : Index := Scalar.indexCast arg20
  let c0_519 : Index := 0#32
  let c0_520 : Index := 0#32
  ![v843.toNat, 0, 0]
def k0_dev16 (d0 : Dev nD) : Nat :=
  let c0_i32_238 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_237 : BitVec 32 := 1#32
  let v273 : BitVec 32 := Scalar.muli v4 c1_i32_237
  let v274 : BitVec 32 := Scalar.addi c0_i32_238 v273
  v274.toNat
def k0_dev17 (d0 : Dev nD) : Nat :=
  let c0_i32_245 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_244 : BitVec 32 := 1#32
  let v281 : BitVec 32 := Scalar.muli v7 c1_i32_244
  let v282 : BitVec 32 := Scalar.addi c0_i32_245 v281
  v282.toNat
def k0_off12 (d0 : Dev nD) (c1_i32_332 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v517 : BitVec 32 := Scalar.addi v2 c1_i32_332
  let c8_i32_333 : BitVec 32 := 8#32
  let v518 : BitVec 32 := Scalar.remsi v517 c8_i32_333
  let c512_i32_334 : BitVec 32 := 512#32
  let v519 : BitVec 32 := Scalar.muli v518 c512_i32_334
  let c0_i32_336 : BitVec 32 := 0#32
  ![v519.toNat, 0]
def k0_off13 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_337 : BitVec 32 := 8#32
  let v523 : BitVec 32 := Scalar.addi v2 c8_i32_337
  let c1_i32_338 : BitVec 32 := 1#32
  let v524 : BitVec 32 := Scalar.subi v523 c1_i32_338
  let c8_i32_339 : BitVec 32 := 8#32
  let v525 : BitVec 32 := Scalar.remsi v524 c8_i32_339
  let c512_i32_340 : BitVec 32 := 512#32
  let v526 : BitVec 32 := Scalar.muli v525 c512_i32_340
  let c4096_i32 : BitVec 32 := 4096#32
  ![v526.toNat, 4096]
@[reducible] def k0_t3_loop : Scf.Loop 32 :=
  let c1_i32_368 : BitVec 32 := 1#32
  let c6_i32 : BitVec 32 := 6#32
  let v550 : BitVec 32 := Scalar.addi c1_i32_368 c6_i32
  let c1_i32_369 : BitVec 32 := 1#32
  ⟨c1_i32_368, v550, c1_i32_369⟩
def k0_off14 (k0_t3 : Fin k0_t3_loop.trips) : Fin 1 → Nat :=
  let c1_i32_368 : BitVec 32 := 1#32
  let c1_i32_369 : BitVec 32 := 1#32
  let arg20 : BitVec 32 := Scf.iv c1_i32_368 c1_i32_369 k0_t3
  let c1_i32_496 : BitVec 32 := 1#32
  let v817 : BitVec 32 := Scalar.addi arg20 c1_i32_496
  let c2_i32_497 : BitVec 32 := 2#32
  let v818 : BitVec 32 := Scalar.remsi v817 c2_i32_497
  ![v818.toNat]
def k0_off15 (k0_t3 : Fin k0_t3_loop.trips) : Fin 3 → Nat :=
  let c1_i32_368 : BitVec 32 := 1#32
  let c1_i32_369 : BitVec 32 := 1#32
  let arg20 : BitVec 32 := Scf.iv c1_i32_368 c1_i32_369 k0_t3
  let c1_i32_496 : BitVec 32 := 1#32
  let v817 : BitVec 32 := Scalar.addi arg20 c1_i32_496
  let c2_i32_497 : BitVec 32 := 2#32
  let v818 : BitVec 32 := Scalar.remsi v817 c2_i32_497
  let c0_i32_506 : BitVec 32 := 0#32
  let c0_i32_507 : BitVec 32 := 0#32
  ![v818.toNat, 0, 0]
def k0_off16 (k0_t3 : Fin k0_t3_loop.trips) : Fin 3 → Nat :=
  let c1_i32_502 : BitVec 32 := 1#32
  let c1_i32_368 : BitVec 32 := 1#32
  let c1_i32_369 : BitVec 32 := 1#32
  let arg20 : BitVec 32 := Scf.iv c1_i32_368 c1_i32_369 k0_t3
  let c1_i32_496 : BitVec 32 := 1#32
  let v817 : BitVec 32 := Scalar.addi arg20 c1_i32_496
  let c2_i32_497 : BitVec 32 := 2#32
  let v818 : BitVec 32 := Scalar.remsi v817 c2_i32_497
  let v819 : BitVec 32 := Scalar.subi c1_i32_502 v818
  let c0_i32_508 : BitVec 32 := 0#32
  let c0_i32_509 : BitVec 32 := 0#32
  ![v819.toNat, 0, 0]
def k0_dev18 (d0 : Dev nD) : Nat :=
  let c0_i32_505 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_504 : BitVec 32 := 1#32
  let v821 : BitVec 32 := Scalar.muli v4 c1_i32_504
  let v822 : BitVec 32 := Scalar.addi c0_i32_505 v821
  v822.toNat
def k0_dev19 (d0 : Dev nD) : Nat :=
  let c0_i32_511 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_510 : BitVec 32 := 1#32
  let v831 : BitVec 32 := Scalar.muli v7 c1_i32_510
  let v832 : BitVec 32 := Scalar.addi c0_i32_511 v831
  v832.toNat
def k0_off17 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let c1_i32_368 : BitVec 32 := 1#32
  let c1_i32_369 : BitVec 32 := 1#32
  let arg20 : BitVec 32 := Scf.iv c1_i32_368 c1_i32_369 k0_t3
  let v841 : BitVec 32 := Scalar.subi c16_i32 arg20
  let v842 : BitVec 32 := Scalar.addi v2 v841
  let c1_i32_516 : BitVec 32 := 1#32
  let v843 : BitVec 32 := Scalar.addi v842 c1_i32_516
  let c8_i32_517 : BitVec 32 := 8#32
  let v844 : BitVec 32 := Scalar.remsi v843 c8_i32_517
  let c512_i32_520 : BitVec 32 := 512#32
  let v848 : BitVec 32 := Scalar.muli v844 c512_i32_520
  let c0_i32_521 : BitVec 32 := 0#32
  ![v848.toNat, 0]
def k0_off18 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_368 : BitVec 32 := 1#32
  let c1_i32_369 : BitVec 32 := 1#32
  let arg20 : BitVec 32 := Scf.iv c1_i32_368 c1_i32_369 k0_t3
  let v845 : BitVec 32 := Scalar.addi v2 arg20
  let c1_i32_518 : BitVec 32 := 1#32
  let v846 : BitVec 32 := Scalar.subi v845 c1_i32_518
  let c8_i32_519 : BitVec 32 := 8#32
  let v847 : BitVec 32 := Scalar.remsi v846 c8_i32_519
  let c512_i32_522 : BitVec 32 := 512#32
  let v852 : BitVec 32 := Scalar.muli v847 c512_i32_522
  let c4096_i32_523 : BitVec 32 := 4096#32
  ![v852.toNat, 4096]
def k0_off19 (k0_t3 : Fin k0_t3_loop.trips) : Fin 1 → Nat :=
  let c1_i32_618 : BitVec 32 := 1#32
  let c1_i32_368 : BitVec 32 := 1#32
  let c1_i32_369 : BitVec 32 := 1#32
  let arg20 : BitVec 32 := Scf.iv c1_i32_368 c1_i32_369 k0_t3
  let c1_i32_496 : BitVec 32 := 1#32
  let v817 : BitVec 32 := Scalar.addi arg20 c1_i32_496
  let c2_i32_497 : BitVec 32 := 2#32
  let v818 : BitVec 32 := Scalar.remsi v817 c2_i32_497
  let v1094 : BitVec 32 := Scalar.subi c1_i32_618 v818
  ![v1094.toNat]
def k0_dev20 (d0 : Dev nD) : Nat :=
  let c0_i32_648 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_647 : BitVec 32 := 1#32
  let v1132 : BitVec 32 := Scalar.muli v7 c1_i32_647
  let v1133 : BitVec 32 := Scalar.addi c0_i32_648 v1132
  v1133.toNat
def k0_dev21 (d0 : Dev nD) : Nat :=
  let c0_i32_651 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_650 : BitVec 32 := 1#32
  let v1134 : BitVec 32 := Scalar.muli v4 c1_i32_650
  let v1135 : BitVec 32 := Scalar.addi c0_i32_651 v1134
  v1135.toNat
def k0_off20 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_372 : BitVec 32 := 6#32
  let v553 : BitVec 32 := Scalar.addi v2 c6_i32_372
  let c8_i32_373 : BitVec 32 := 8#32
  let v554 : BitVec 32 := Scalar.remsi v553 c8_i32_373
  let c512_i32_377 : BitVec 32 := 512#32
  let v559 : BitVec 32 := Scalar.muli v554 c512_i32_377
  let c4096_i32_379 : BitVec 32 := 4096#32
  ![v559.toNat, 4096]
def k0_dev22 (d0 : Dev nD) : Nat :=
  let c0_i32_488 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_487 : BitVec 32 := 1#32
  let v813 : BitVec 32 := Scalar.muli v7 c1_i32_487
  let v814 : BitVec 32 := Scalar.addi c0_i32_488 v813
  v814.toNat
def k0_dev23 (d0 : Dev nD) : Nat :=
  let c0_i32_491 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_490 : BitVec 32 := 1#32
  let v815 : BitVec 32 := Scalar.muli v4 c1_i32_490
  let v816 : BitVec 32 := Scalar.addi c0_i32_491 v815
  v816.toNat
abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x4096, .f32⟩
  | .hbm, ⟨3, _⟩ => ⟨S4096x8192, .f32⟩
  | .hbm, ⟨4, _⟩ => ⟨S4096x8192, .f32⟩
  | .hbm, ⟨5, _⟩ => ⟨S4096x8192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .i1⟩
  | .hbm, ⟨22, _⟩ => ⟨S_, .f32⟩
  | .hbm, ⟨23, _⟩ => ⟨S4096x8192, .f32⟩
  | .hbm, ⟨24, _⟩ => ⟨S4096x8192, .f32⟩
  | .hbm, ⟨25, _⟩ => ⟨S_, .f32⟩
  | .hbm, ⟨26, _⟩ => ⟨S4096x8192, .f32⟩
  | .hbm, ⟨27, _⟩ => ⟨S4096x8192, .f32⟩
  | .hbm, ⟨28, _⟩ => ⟨S_, .f32⟩
  | .hbm, ⟨29, _⟩ => ⟨S_, .f32⟩
  | .hbm, ⟨30, _⟩ => ⟨S4096x8192, .f32⟩
  | .hbm, ⟨31, _⟩ => ⟨S4096x8192, .f32⟩
  | .hbm, ⟨32, _⟩ => ⟨S4096x8192, .f32⟩
  | .hbm, ⟨33, _⟩ => ⟨S4096x8192, .f32⟩
  | .hbm, ⟨34, _⟩ => ⟨S4096x8192, .f32⟩
  | .hbm, ⟨35, _⟩ => ⟨S_, .f32⟩
  | .hbm, ⟨36, _⟩ => ⟨S4096x8192, .f32⟩
  | .hbm, ⟨37, _⟩ => ⟨S4096x8192, .f32⟩
  | .hbm, ⟨38, _⟩ => ⟨S4096x8192, .f32⟩
  | .hbm, ⟨39, _⟩ => ⟨S4096x8192, .f32⟩
  | .hbm, ⟨40, _⟩ => ⟨S4096x8192, .f32⟩
  | .hbm, ⟨41, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_call0_v0 : Ref sig .tc := ⟨.hbm, 29, rfl⟩
abbrev main_call0_v1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Proof.Vals.lean ====
/-
  What the buffers hold. The kernel runs on a ring of eight devices. Device `c` holds a column block of `x` and a row
  block of `w`; the product is the sum over the devices of their partial products. Two rings run side by side: the
  RIGHT one (`true`) carries columns 0..4095 of the result from `c` to `c + 1`, the LEFT one (`false`) carries columns
  4096..8191 from `c` to `c - 1`. Each direction makes fourteen transfers: transfers 0..6 carry a row chunk that
  gathers the devices' partial products (reduce-scatter), transfers 7..13 carry the finished chunks round (all-gather).
  `V dir n c` is what device `c` sends in transfer `n`; it lands on `dn dir c`.
-/
module

public import proofs.«01_k».proof.Proof.Gen.KernelIdeal.Frame
public import proofs.«01_k».proof.Proof.Gen.KernelIdeal.Skeleton
public import Idealize.ShloMosaic.Lib.Release

@[expose] public section

noncomputable section

namespace Cert.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The ring -/

/-- The device to the right, and the one to the left. -/
def nxt (c : Dev nD) : Dev nD := ⟨(c.val + 1) % 8, Nat.mod_lt _ (by decide)⟩
def prv (c : Dev nD) : Dev nD := ⟨(c.val + 7) % 8, Nat.mod_lt _ (by decide)⟩
theorem prv_nxt (c : Dev nD) : prv (nxt c) = c := by revert c; decide
theorem nxt_prv (c : Dev nD) : nxt (prv c) = c := by revert c; decide

/-- Where direction `dir` carries `c`'s data, and whence it brings data to `c`. -/
def dn (dir : Bool) (c : Dev nD) : Dev nD := if dir then nxt c else prv c
def up (dir : Bool) (c : Dev nD) : Dev nD := if dir then prv c else nxt c
theorem up_dn (dir : Bool) (c : Dev nD) : up dir (dn dir c) = c := by cases dir <;> revert c <;> decide
theorem dn_up (dir : Bool) (c : Dev nD) : dn dir (up dir c) = c := by cases dir <;> revert c <;> decide

/-- The ring's step in one direction as a permutation of the devices. -/
def ring (dir : Bool) : Dev nD ≃ Dev nD := ⟨dn dir, up dir, up_dn dir, dn_up dir⟩

/-! ## The buffers -/

abbrev xM : Memref sig .tc .vmem S4096x512 .bf16 := Memref.whole cc0_stg0_0
abbrev wM : Memref sig .tc .vmem S512x8192 .bf16 := Memref.whole cc0_stg1_0
abbrev oM : Memref sig .tc .hbm S4096x8192 .f32 := Memref.whole main_v1
abbrev aM : Memref sig .tc .vmem S8x8x128 .f32 := Memref.whole cc0_scratch6
/-- The send buffer, the two-slot receive buffer and the float32 accumulator of a direction. -/
abbrev sM (dir : Bool) : Memref sig .tc .vmem S512x4096 .bf16 :=
  match dir with | true => Memref.whole cc0_scratch0 | false => Memref.whole cc0_scratch1
abbrev rM (dir : Bool) : Memref sig .tc .vmem S2x512x4096 .bf16 :=
  match dir with | true => Memref.whole cc0_scratch2 | false => Memref.whole cc0_scratch3
abbrev cM (dir : Bool) : Memref sig .tc .vmem S512x4096 .f32 :=
  match dir with | true => Memref.whole cc0_scratch4 | false => Memref.whole cc0_scratch5

/-! ## Indices -/

/-- A chunk's index inside its column half. -/
def loIx (i : S512x4096.Idx) : S512x2048.Idx
  | 0 => i 0
  | 1 => ⟨(i 1).val % 2048, Nat.mod_lt _ (by decide)⟩
/-- Two column halves side by side. -/
def halves {e : EltTy} (u v : Vec F S512x2048 e) : Vec F S512x4096 e := fun i => if (i 1).val < 2048 then u (loIx i) else v (loIx i)

/-- A receive slot's index inside the chunk; the chunk in both slots; the chunk as one slot reads it. -/
def slotIx (i : S2x512x4096.Idx) : S512x4096.Idx
  | 0 => i 1
  | 1 => i 2
def dupB {e : EltTy} (v : Vec F S512x4096 e) : Vec F S2x512x4096 e := fun i => v (slotIx i)
def lift1Ix (i : S1x512x4096.Idx) : S512x4096.Idx
  | 0 => i 1
  | 1 => i 2
def lift1 {e : EltTy} (v : Vec F S512x4096 e) : Vec F S1x512x4096 e := fun i => v (lift1Ix i)

/-- A row of the maxima's buffer as every row's contents. -/
def rowIx (i : S8x8x128.Idx) : S1x8x128.Idx
  | 0 => ⟨0, Nat.one_pos⟩
  | 1 => i 1
  | 2 => i 2
def dupA (v : Vec F S1x8x128 .f32) : Vec F S8x8x128 .f32 := fun i => v (rowIx i)

/-! ## The rectangles the kernel loads and stores -/

/-- Row chunk `k` of `x`, column quarter `j` of `w`, column half `j` of a chunk. -/
abbrev xR (k : ℕ) : Rect S4096x512 := Rect.unit (s := S4096x512) ![512 * (k % 8), 0] S512x512.size
  (by have := Nat.mod_lt k (show 0 < 8 by decide); intro a; fin_cases a <;> simp [Shape.size, S4096x512, S512x512] <;> omega)
abbrev wR (j : Fin 4) : Rect S512x8192 := Rect.unit (s := S512x8192) ![0, 2048 * j.val] S512x2048.size
  (by revert j; decide)
abbrev hR (j : Fin 2) : Rect S512x4096 := Rect.unit (s := S512x4096) ![0, 2048 * j.val] S512x2048.size
  (by revert j; decide)

def rows (x : Vec F S4096x512 .bf16) (k : ℕ) : Vec F S512x512 .bf16 := (xM).view.readAt (Elt F) (xR k).toLoadRect x
def cols (w : Vec F S512x8192 .bf16) (j : Fin 4) : Vec F S512x2048 .bf16 := (wM).view.readAt (Elt F) (wR j).toLoadRect w
/-- Column half `j` of a bfloat16 chunk. -/
def half (v : Vec F S512x4096 .bf16) (j : Fin 2) : Vec F S512x2048 .bf16 := (sM true).view.readAt (Elt F) (hR j).toLoadRect v

/-! ## The contents -/

variable (m : (ℓ : Loc nD τ sig) → Buf (Elt F) ℓ)

/-- Device `c`'s blocks of the operands. -/
def xB (c : Dev nD) : Vec F S4096x512 .bf16 := iblk m c (0 : Fin 2) t0_0
def wB (c : Dev nD) : Vec F S512x8192 .bf16 := iblk m c (1 : Fin 2) t0_0

/-- Device `c`'s partial product of row chunk `k` and column quarter `j`; -/
def quarter (c : Dev nD) (k : ℕ) (j : Fin 4) : Vec F S512x2048 .f32 := k0_pay34 (rows (xB m c) k) (cols (wB m c) j)
/-- of row chunk `k` and direction `dir`'s columns. -/
def part (dir : Bool) (c : Dev nD) (k : ℕ) : Vec F S512x4096 .f32 :=
  match dir with | true => halves (quarter m c k 0) (quarter m c k 1) | false => halves (quarter m c k 2) (quarter m c k 3)

/-- The row chunk device `c` adds its partial product to in step `n` of the reduce-scatter. -/
def ck (dir : Bool) (c : Dev nD) (n : ℕ) : ℕ := if dir then (c.val + 15 - n) % 8 else (c.val + n + 1) % 8

/-- What device `c` sends in transfer `n`. -/
def V (dir : Bool) : ℕ → Dev nD → Vec F S512x4096 .bf16
  | 0, c => k0_pay40 (part m dir c c.val)
  | n + 1, c => if n < 7 then k0_pay49 (part m dir c (ck dir c n)) (lift1 (V dir n (up dir c))) else V dir n (up dir c)

theorem V_add (dir : Bool) {n : ℕ} (h : n < 7) (c : Dev nD) :
    V m dir (n + 1) c = k0_pay49 (part m dir c (ck dir c n)) (lift1 (V m dir n (up dir c))) := if_pos h
theorem V_pass (dir : Bool) {n : ℕ} (h : 7 ≤ n) (c : Dev nD) : V m dir (n + 1) c = V m dir n (up dir c) := if_neg (Nat.not_lt.mpr h)

/-- The running maximum device `c` holds after `h` steps of the maxima's ring. -/
def Mx : ℕ → Dev nD → Vec F S1x8x128 .f32
  | 0, c => k0_pay60 (k0_pay59 (V m true 7 c) (V m false 7 c))
  | h + 1, c => k0_pay61 (k0_pay10 (Mx h c) (Mx h (prv c)))

/-- The quantiser's scale as device `c` computes it. -/
def scale (c : Dev nD) : F .f32 := k0_pay62 (Mx m 7 c)

/-- One column half quantised and dequantised at scale `s`. -/
def dq (s : F .f32) (v : Vec F S512x2048 .bf16) : Vec F S512x2048 .f32 :=
  k0_pay16 s (k0_pay11 s v) (k0_pay12 s v) (k0_pay13 s v) (k0_pay14 s v) (k0_pay15 (F := F))
/-- A chunk quantised and dequantised. -/
def dqT (s : F .f32) (v : Vec F S512x4096 .bf16) : Vec F S512x4096 .f32 := halves (dq s (half v 0)) (dq s (half v 1))

/-- The tile direction `dir` stores `t`-th on device `c`, and its row chunk. -/
def tile (dir : Bool) (t : ℕ) (c : Dev nD) : Vec F S512x4096 .f32 := dqT (scale m c) (V m dir (7 + t) c)
def gk (dir : Bool) (c : Dev nD) (t : ℕ) : ℕ := if dir then (c.val + 17 - t) % 8 else (c.val + t + 7) % 8
/-- Which tile covers row chunk `g`. -/
def tileOf (dir : Bool) (c : Dev nD) (g : ℕ) : ℕ := if dir then (c.val + 9 - g) % 8 else (g + 9 - c.val) % 8

/-- An index of the result inside its tile. -/
def tileIx (i : S4096x8192.Idx) : S512x4096.Idx
  | 0 => ⟨(i 0).val % 512, Nat.mod_lt _ (by decide)⟩
  | 1 => ⟨(i 1).val % 4096, Nat.mod_lt _ (by decide)⟩
/-- The result device `c` leaves. -/
def OUT (c : Dev nD) : Vec F S4096x8192 .f32 := fun i =>
  if (i 1).val < 4096 then tile m true (tileOf true c ((i 0).val / 512)) c (tileIx i)
  else tile m false (tileOf false c ((i 0).val / 512)) c (tileIx i)

theorem tileOf_gk (dir : Bool) (c : Dev nD) (t : Fin 8) : tileOf dir c (gk dir c t.val) = t.val := by
  revert c t; cases dir <;> decide
theorem gk_lt (dir : Bool) (c : Dev nD) (t : ℕ) : gk dir c t < 8 := by
  unfold gk; split <;> exact Nat.mod_lt _ (by decide)

end Cert.RingProof

end
-- ==== Proof.Geo.lean ====
/-
  The rectangles and views the kernel addresses, and what a write through one leaves and a read finds.
-/
module

public import proofs.«01_k».proof.Proof.Vals
public import Idealize.ShloMosaic.Lib.Ring

@[expose] public section

noncomputable section

namespace Cert.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The views -/

theorem slot_inb (n : ℕ) : ∀ a, (![n % 2, 0, 0] : Fin 3 → ℕ) a + S1x512x4096.size a ≤ S2x512x4096.size a := by
  have := Nat.mod_lt n (show 0 < 2 by decide)
  intro a; fin_cases a <;> simp [S2x512x4096, S1x512x4096] <;> omega
theorem row_inb (n : ℕ) : ∀ a, (![n % 8, 0, 0] : Fin 3 → ℕ) a + S1x8x128.size a ≤ S8x8x128.size a := by
  have := Nat.mod_lt n (show 0 < 8 by decide)
  intro a; fin_cases a <;> simp [S8x8x128, S1x8x128] <;> omega
/-- The first column of a direction's half of the result. -/
abbrev col0 (dir : Bool) : ℕ := match dir with | true => 0 | false => 4096
theorem tile_inb (dir : Bool) (g : ℕ) : ∀ a, (![512 * (g % 8), col0 dir] : Fin 2 → ℕ) a + S512x4096.size a ≤ S4096x8192.size a := by
  have := Nat.mod_lt g (show 0 < 8 by decide)
  intro a; cases dir <;> fin_cases a <;> simp [S4096x8192, S512x4096] <;> omega

/-- Receive slot `n` (mod 2), as a rectangle and as a view; row `n` (mod 8) of the maxima's buffer; a tile of the result. -/
abbrev slotR (n : ℕ) : Rect S2x512x4096 := Rect.unit (s := S2x512x4096) ![n % 2, 0, 0] S1x512x4096.size (slot_inb n)
abbrev slotM (dir : Bool) (n : ℕ) : Memref sig .tc .vmem S512x4096 .bf16 :=
  ((rM dir).slice (slotR n) (fun _ => rfl)).squeeze S512x4096 squeezes_S1x512x4096_S512x4096
abbrev rowR (n : ℕ) : Rect S8x8x128 := Rect.unit (s := S8x8x128) ![n % 8, 0, 0] S1x8x128.size (row_inb n)
abbrev rowM (n : ℕ) : Memref sig .tc .vmem S8x128 .f32 :=
  ((aM).slice (rowR n) (fun _ => rfl)).squeeze S8x128 squeezes_S1x8x128_S8x128
abbrev tileR (dir : Bool) (g : ℕ) : Rect S4096x8192 := Rect.unit (s := S4096x8192) ![512 * (g % 8), col0 dir] S512x4096.size (tile_inb dir g)
abbrev tileM (dir : Bool) (g : ℕ) : Memref sig .tc .hbm S512x4096 .f32 := (oM).slice (tileR dir g) (fun _ => rfl)

/-! ## Element by element -/

theorem unit_step (a : ℕ) : 0 + 1 * a = a := by omega

theorem slotIx_emb (dir : Bool) (n : ℕ) (x : S512x4096.Idx) :
    ∃ y : S2x512x4096.Idx, HEq ((slotM dir n).view.emb x) y ∧ slotIx y = x := by
  cases dir <;>
  · refine ⟨_, HEq.rfl, ?_⟩
    show slotIx ((slotR n).emb (Shape.reshapeEquiv _ x)) = x
    erw [Shape.reshapeEquiv_cons_one]
    funext a; apply Fin.ext
    fin_cases a
    · exact unit_step _
    · exact unit_step _

/-- A chunk as the contents of a receive buffer. -/
def slotBuf (dir : Bool) (v : Vec F S512x4096 .bf16) : (rM dir).view.ty.Contents (Elt F) :=
  match dir with | true => dupB v | false => dupB v
/-- A chunk as the contents of a send buffer. -/
def sendBuf (dir : Bool) (v : Vec F S512x4096 .bf16) : (sM dir).view.ty.Contents (Elt F) :=
  match dir with | true => v | false => v
/-- A chunk as the contents of an accumulator. -/
def accBuf (dir : Bool) (v : Vec F S512x4096 .f32) : (cM dir).view.ty.Contents (Elt F) :=
  match dir with | true => v | false => v

theorem slot_read (dir : Bool) (n : ℕ) (v : Vec F S512x4096 .bf16) : (slotM dir n).view.read (Elt F) (slotBuf dir v) = v := by
  funext x
  obtain ⟨y, hy, e⟩ := slotIx_emb dir n x
  cases dir <;>
  · cases hy
    rw [View.read_apply]
    show v (slotIx _) = _
    rw [e]

theorem slot_write (dir : Bool) (n : ℕ) (f : (slotM dir n).view.ty.Contents (Elt F)) (v : Vec F S512x4096 .bf16) :
    ∀ i ∈ (slotM dir n).view.set, (slotM dir n).view.write (Elt F) f v Finset.univ i = slotBuf dir v i := by
  intro i hi
  obtain ⟨x, -, rfl⟩ := Finset.mem_map.mp hi
  rw [View.write_emb_of_mem f v (Finset.mem_univ x)]
  have h := congrFun (slot_read dir n v) x
  rw [View.read_apply] at h
  cases dir <;> exact h.symm

theorem slot_load (dir : Bool) (n : ℕ) (v : Vec F S512x4096 .bf16) :
    (rM dir).view.readAt (Elt F) (slotR n).toLoadRect (slotBuf dir v) = lift1 v := by
  cases dir <;>
  · funext i
    show v (slotIx _) = v (lift1Ix i)
    congr 1
    funext a; apply Fin.ext
    fin_cases a
    · exact unit_step _
    · exact unit_step _

theorem slot_half (dir : Bool) (n : ℕ) (v : Vec F S512x4096 .bf16) (j : Fin 2) :
    (slotM dir n).view.readAt (Elt F) (hR j).toLoadRect (slotBuf dir v) = half v j := by
  funext x
  have h := congrFun (slot_read (F := F) dir n v) ((hR j).emb x)
  rw [View.readAt_apply]
  exact h

theorem send_half (dir : Bool) (v : Vec F S512x4096 .bf16) (j : Fin 2) :
    (sM dir).view.readAt (Elt F) (hR j).toLoadRect (sendBuf dir v) = half v j := by
  cases dir <;> rfl
theorem send_read (dir : Bool) (v : Vec F S512x4096 .bf16) : (sM dir).view.read (Elt F) (sendBuf dir v) = v := by
  cases dir <;> exact View.read_whole _ _
theorem acc_read (dir : Bool) (v : Vec F S512x4096 .f32) : (cM dir).view.read (Elt F) (accBuf dir v) = v := by
  cases dir <;> exact View.read_whole _ _

/-- The full rectangle of a chunk. -/
abbrev fR : Rect S512x4096 := Rect.unit (s := S512x4096) ![0, 0] S512x4096.size (by intro a; fin_cases a <;> simp [S512x4096])
theorem zero2 : (![0, 0] : Fin 2 → ℕ) = fun _ => 0 := by funext a; fin_cases a <;> rfl

theorem send_load (dir : Bool) (v : Vec F S512x4096 .bf16) :
    (sM dir).view.readAt (Elt F) (fR).toLoadRect (sendBuf dir v) = v := by
  cases dir <;> exact Memref.readAt_unit_zero (Elt F) _ zero2 _ _
theorem acc_load (dir : Bool) (v : Vec F S512x4096 .f32) :
    (cM dir).view.readAt (Elt F) (fR).toLoadRect (accBuf dir v) = v := by
  cases dir <;> exact Memref.readAt_unit_zero (Elt F) _ zero2 _ _
theorem send_store (dir : Bool) (f : (sM dir).view.ty.Contents (Elt F)) (v : Vec F S512x4096 .bf16) :
    ((sM dir).access fR).write (Elt F) f v Finset.univ = sendBuf dir v := by
  cases dir <;> exact Memref.write_access_unit_zero_univ (Elt F) _ zero2 _ _ _

/-! ## Column halves -/

theorem lo_mem (i : S512x4096.Idx) (h : (i 1).val < 2048) : (hR 0).emb (loIx i) = i := by
  funext a; apply Fin.ext
  fin_cases a
  · exact unit_step _
  · show 2048 * 0 + 1 * ((i 1).val % 2048) = (i 1).val
    rw [Nat.mod_eq_of_lt h]; omega
theorem hi_mem (i : S512x4096.Idx) (h : ¬ (i 1).val < 2048) : (hR 1).emb (loIx i) = i := by
  have := (i 1).isLt
  have h2 : (i 1).val < 4096 := this
  funext a; apply Fin.ext
  fin_cases a
  · exact unit_step _
  · show 2048 * 1 + 1 * ((i 1).val % 2048) = (i 1).val
    omega
theorem hi_emb (x : S512x2048.Idx) : 2048 ≤ (((hR 1).emb x) 1).val := by
  show 2048 ≤ 2048 * 1 + 1 * (x 1).val
  omega

/-- Two stores, one to each column half, leave the halves side by side. -/
theorem halves_at (M : Memref sig .tc .vmem S512x4096 .f32) (f : M.view.ty.Contents (Elt F)) (u v : Vec F S512x2048 .f32) (i : S512x4096.Idx) :
    (M.access (hR 1)).write (Elt F) ((M.access (hR 0)).write (Elt F) f u Finset.univ) v Finset.univ (M.view.emb i)
      = _root_.cast (congrArg (Elt F) M.view.elt_eq.symm) (halves u v i) := by
  unfold halves
  by_cases h : (i 1).val < 2048
  · rw [if_pos h, View.write_of_not_mem]
    · have e := View.write_emb_of_mem (v := M.access (hR 0)) f u (Finset.mem_univ (loIx i))
      have e' : (M.access (hR 0)).emb (loIx i) = M.view.emb i := congrArg M.view.emb (lo_mem i h)
      rw [e'] at e
      exact e
    · intro hi
      obtain ⟨x, -, hx⟩ := Finset.mem_map.mp hi
      have hx' : (hR 1).emb x = i := M.view.emb.injective hx
      have := hi_emb x
      rw [hx'] at this
      exact absurd h (Nat.not_lt.mpr this)
  · rw [if_neg h]
    have e := View.write_emb_of_mem (v := M.access (hR 1))
      ((M.access (hR 0)).write (Elt F) f u Finset.univ) v (Finset.mem_univ (loIx i))
    have e' : (M.access (hR 1)).emb (loIx i) = M.view.emb i := congrArg M.view.emb (hi_mem i h)
    rw [e'] at e
    exact e

/-- Storing the two column halves of an accumulator leaves them side by side. -/
theorem acc_halves (dir : Bool) (f : (cM dir).view.ty.Contents (Elt F)) (u v : Vec F S512x2048 .f32) :
    ((cM dir).access (hR 1)).write (Elt F) (((cM dir).access (hR 0)).write (Elt F) f u Finset.univ) v Finset.univ = accBuf dir (halves u v) := by
  cases dir <;>
  · funext i
    exact halves_at _ f u v i

/-! ## Rows of the maxima's buffer -/

theorem rowIx_emb (n : ℕ) (x : S1x8x128.Idx) : rowIx ((rowR n).emb x) = x := by
  funext a; apply Fin.ext
  fin_cases a
  · have := (x 0).isLt; have h : (x 0).val < 1 := this
    show 0 = (x 0).val; omega
  · exact unit_step _
  · exact unit_step _

theorem row_load (n : ℕ) (v : Vec F S1x8x128 .f32) : (aM).view.readAt (Elt F) (rowR n).toLoadRect (dupA v) = v := by
  funext x
  show v (rowIx ((rowR n).emb x)) = v x
  rw [rowIx_emb]

theorem row_set (n : ℕ) : (rowM n).view.set = ((aM).access (rowR n)).set := View.set_reshape _ _
theorem slot_set (dir : Bool) (n : ℕ) : (slotM dir n).view.set = ((rM dir).access (slotR n)).set := View.set_reshape _ _

theorem row_store (n : ℕ) (f : (aM).view.ty.Contents (Elt F)) (v : Vec F S1x8x128 .f32) :
    ∀ i ∈ (rowM n).view.set, ((aM).access (rowR n)).write (Elt F) f v Finset.univ i = dupA v i := by
  intro i hi
  rw [row_set] at hi
  obtain ⟨x, -, rfl⟩ := Finset.mem_map.mp hi
  rw [View.write_emb_of_mem (v := (aM).access (rowR n)) f v (Finset.mem_univ x)]
  show v x = v (rowIx ((rowR n).emb x))
  rw [rowIx_emb]

/-- A copy of row `7` to row `n` carries the row's contents. -/
theorem row_write (n n' : ℕ) (f : (aM).view.ty.Contents (Elt F)) (v : Vec F S1x8x128 .f32) :
    ∀ i ∈ (rowM n).view.set, (rowM n).view.write (Elt F) f ((rowM n').view.read (Elt F) (dupA v)) Finset.univ i = dupA v i := by
  intro i hi
  obtain ⟨x, -, rfl⟩ := Finset.mem_map.mp hi
  rw [View.write_emb_of_mem (v := (rowM n).view) f _ (Finset.mem_univ x)]
  show v (rowIx ((rowR n').emb (Shape.reshapeEquiv _ x))) = v (rowIx ((rowR n).emb (Shape.reshapeEquiv _ x)))
  rw [rowIx_emb, rowIx_emb]

/-! ## Tiles of the result -/

variable (m : (ℓ : Loc nD τ sig) → Buf (Elt F) ℓ)

/-- Storing a direction's `t`-th tile puts the result's elements there. -/
theorem tile_write (dir : Bool) (c : Dev nD) (t : Fin 8) (f : (oM).view.ty.Contents (Elt F)) :
    ∀ i ∈ (tileM dir (gk dir c t.val)).view.set,
      (tileM dir (gk dir c t.val)).view.write (Elt F) f (tile m dir t.val c) Finset.univ i = OUT m c i := by
  intro i hi
  obtain ⟨x, -, rfl⟩ := Finset.mem_map.mp hi
  rw [View.write_emb_of_mem (v := (tileM dir (gk dir c t.val)).view) f _ (Finset.mem_univ x)]
  show tile m dir t.val c x = OUT m c ((tileR dir (gk dir c t.val)).emb x)
  have hx0 : (x 0).val < 512 := (x 0).isLt
  have hx1 : (x 1).val < 4096 := (x 1).isLt
  have hg : gk dir c t.val % 8 = gk dir c t.val := Nat.mod_eq_of_lt (gk_lt dir c t.val)
  have e0 : (((tileR dir (gk dir c t.val)).emb x) 0).val = 512 * gk dir c t.val + (x 0).val := by
    show 512 * (gk dir c t.val % 8) + 1 * (x 0).val = _
    rw [hg]; omega
  have e1 : (((tileR dir (gk dir c t.val)).emb x) 1).val = col0 dir + (x 1).val := by
    show col0 dir + 1 * (x 1).val = _
    omega
  have ex : tileIx ((tileR dir (gk dir c t.val)).emb x) = x := by
    funext a; apply Fin.ext
    fin_cases a
    · show (((tileR dir (gk dir c t.val)).emb x) 0).val % 512 = (x 0).val
      rw [e0]; omega
    · show (((tileR dir (gk dir c t.val)).emb x) 1).val % 4096 = (x 1).val
      rw [e1]; cases dir <;> simp only [col0] <;> omega
  unfold OUT
  rw [ex, e0, e1, show (512 * gk dir c t.val + (x 0).val) / 512 = gk dir c t.val by omega]
  cases dir
  · rw [if_neg (by simp only [col0]; omega), tileOf_gk]
  · rw [if_pos (by simp only [col0]; omega), tileOf_gk]

end Cert.RingProof

end
-- ==== Proof.Proto.lean ====
/-
  The protocol: the semaphore cells, the schedule of their rounds with what each unit hands over, the levels, what a
  device owes.

  Cells of device `c` (direction `b`, transfer `n`, slot `n % 2`, round `n / 2`):
    barrier      one unit from each neighbour; the right one hands over the rows of its maxima's buffer, each its two
                 free receive slots;
    send b n     credited by the read-out of `c`'s transfer `n`: gives back the half share of the source;
    recv b n     credited by the landing of the transfer `n` from `up b c`: the slot, holding `V b n (up b c)`;
    credit b     one round of fourteen units, unit `j` signalled by `dn b c` when it has consumed transfer `j`: the
                 facts that the slots for the transfers up to `j + 2` have been given up; the slots themselves are
                 taken from their invariants;
    store b t    credited by the local copy of tile `t` to the result: the accumulator, and the tile;
    amS h, amR h the two ends of step `h` of the ring of maxima.
-/
module

public import proofs.«01_k».proof.Proof.Geo
public import Idealize.ShloMosaic.Lib.Pipeline.Launch
public import Idealize.ShloMosaic.Lib.Tactic

@[expose] public section

noncomputable section

namespace Cert.RingProof

open Cert.KernelIdeal Cert.KernelIdeal.Gen
open Idealize.ShloMosaic.RefSig (tileCredit tileCredit_pos)

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- A receive slot: device, direction, slot number. -/
abbrev Key : Type := Dev nD × Bool × ℕ
/-- The pipeline's rounds, the ring's rounds, the slots' releases. -/
abbrev UU : Type := URounds (GSem nD τ sig) Unit × (URounds (GSem nD τ sig) ℕ × Release.USlots Key)

local notation "𝕄" => MT nD τ sig ℕ (Elt F) ℕ UU ℕ

def EP : Emb (URounds (GSem nD τ sig) Unit) (MT nD τ sig ℕ (Elt F) ℕ UU ℕ) :=
  (Emb.inl : Emb _ UU).trans (uEmb (nD := nD) (sig := sig) (Ix := ℕ) (Val := Elt F) (Name := ℕ) (U := UU) (Lvl := ℕ)).toEmb
def ER : Emb (URounds (GSem nD τ sig) ℕ) (MT nD τ sig ℕ (Elt F) ℕ UU ℕ) :=
  ((Emb.inl : Emb (URounds (GSem nD τ sig) ℕ) (URounds (GSem nD τ sig) ℕ × Release.USlots Key)).trans (Emb.inr : Emb _ UU)).trans
    (uEmb (nD := nD) (sig := sig) (Ix := ℕ) (Val := Elt F) (Name := ℕ) (U := UU) (Lvl := ℕ)).toEmb
def ES : Emb (Release.USlots Key) (MT nD τ sig ℕ (Elt F) ℕ UU ℕ) :=
  ((Emb.inr : Emb (Release.USlots Key) (URounds (GSem nD τ sig) ℕ × Release.USlots Key)).trans (Emb.inr : Emb _ UU)).trans
    (uEmb (nD := nD) (sig := sig) (Ix := ℕ) (Val := Elt F) (Name := ℕ) (U := UU) (Lvl := ℕ)).toEmb

instance EP_landsIn : (EP : Emb _ 𝕄).LandsIn (upEmb : UEmb _ 𝕄) := by unfold EP; infer_instance
instance ER_landsIn : (ER : Emb _ 𝕄).LandsIn (upEmb : UEmb _ 𝕄) := by unfold ER; infer_instance
instance ES_landsIn : (ES : Emb _ 𝕄).LandsIn (upEmb : UEmb _ 𝕄) := by unfold ES; infer_instance

/-! ## Semaphores and cells -/

theorem sem_lt {k n : ℕ} (h : k ≤ 12) : k + n % 2 < 28 := by have := Nat.mod_lt n (show 0 < 2 by decide); omega
theorem am_lt {k h : ℕ} (hk : k ≤ 21) : k + h % 7 < 28 := by have := Nat.mod_lt h (show 0 < 7 by decide); omega

def sendS (b : Bool) (n : ℕ) : DmaSem sig := ⟨(if b then 2 else 6) + n % 2, sem_lt (by cases b <;> decide)⟩
def recvS (b : Bool) (n : ℕ) : DmaSem sig := ⟨(if b then 4 else 8) + n % 2, sem_lt (by cases b <;> decide)⟩
def storS (b : Bool) (n : ℕ) : DmaSem sig := ⟨(if b then 10 else 12) + n % 2, sem_lt (by cases b <;> decide)⟩
def amSS (h : ℕ) : DmaSem sig := ⟨14 + h % 7, am_lt (by decide)⟩
def amRS (h : ℕ) : DmaSem sig := ⟨21 + h % 7, am_lt (by decide)⟩
def credS (b : Bool) : Sem sig := if b then 0 else 1
def barS : Sem sig := 2

abbrev sendCell (c : Dev nD) (b : Bool) (n : ℕ) : GSem nD τ sig := ((c : Thread nD τ), .dma (sendS b n))
abbrev recvCell (c : Dev nD) (b : Bool) (n : ℕ) : GSem nD τ sig := ((c : Thread nD τ), .dma (recvS b n))
abbrev storCell (c : Dev nD) (b : Bool) (n : ℕ) : GSem nD τ sig := ((c : Thread nD τ), .dma (storS b n))
abbrev amSCell (c : Dev nD) (h : ℕ) : GSem nD τ sig := ((c : Thread nD τ), .dma (amSS h))
abbrev amRCell (c : Dev nD) (h : ℕ) : GSem nD τ sig := ((c : Thread nD τ), .dma (amRS h))
abbrev credCell (c : Dev nD) (b : Bool) : GSem nD τ sig := ((c : Thread nD τ), .reg (credS b))
abbrev barCell (c : Dev nD) : GSem nD τ sig := ((c : Thread nD τ), .reg barS)

/-- What a semaphore is for. -/
inductive Cell
  | bar | cred (b : Bool) | send (b : Bool) (s : ℕ) | recv (b : Bool) (s : ℕ) | stor (b : Bool) (s : ℕ) | amS (h : ℕ) | amR (h : ℕ) | other
  deriving DecidableEq

def kindN (v : ℕ) : Cell :=
  if v < 2 then .other else if v < 4 then .send true (v - 2) else if v < 6 then .recv true (v - 4)
  else if v < 8 then .send false (v - 6) else if v < 10 then .recv false (v - 8)
  else if v < 12 then .stor true (v - 10) else if v < 14 then .stor false (v - 12)
  else if v < 21 then .amS (v - 14) else .amR (v - 21)
def kindOf : SemLoc sig → Cell
  | .reg s => if s.val = 0 then .cred true else if s.val = 1 then .cred false else .bar
  | .dma s => kindN s.val

theorem kind_send (b : Bool) (n : ℕ) : kindOf (.dma (sendS b n)) = .send b (n % 2) := by
  have h : n % 2 = 0 ∨ n % 2 = 1 := by omega
  cases b <;> rcases h with h | h <;> simp [kindOf, kindN, sendS, h]
theorem kind_recv (b : Bool) (n : ℕ) : kindOf (.dma (recvS b n)) = .recv b (n % 2) := by
  have h : n % 2 = 0 ∨ n % 2 = 1 := by omega
  cases b <;> rcases h with h | h <;> simp [kindOf, kindN, recvS, h]
theorem kind_stor (b : Bool) (n : ℕ) : kindOf (.dma (storS b n)) = .stor b (n % 2) := by
  have h : n % 2 = 0 ∨ n % 2 = 1 := by omega
  cases b <;> rcases h with h | h <;> simp [kindOf, kindN, storS, h]
theorem kind_amS (h : ℕ) : kindOf (.dma (amSS h)) = .amS (h % 7) := by
  have hh := Nat.mod_lt h (show 0 < 7 by decide)
  show kindN (14 + h % 7) = _
  unfold kindN
  iterate 7 rw [if_neg (by omega)]
  rw [if_pos (by omega), Nat.add_sub_cancel_left]
theorem kind_amR (h : ℕ) : kindOf (.dma (amRS h)) = .amR (h % 7) := by
  have hh := Nat.mod_lt h (show 0 < 7 by decide)
  show kindN (21 + h % 7) = _
  unfold kindN
  iterate 8 rw [if_neg (by omega)]
  rw [Nat.add_sub_cancel_left]
theorem kind_cred (b : Bool) : kindOf (.reg (credS b)) = .cred b := by cases b <;> rfl
theorem kind_bar : kindOf (.reg barS) = .bar := rfl

theorem sendS_mod (b : Bool) (n : ℕ) : sendS b (n % 2) = sendS b n := by simp [sendS]
theorem recvS_mod (b : Bool) (n : ℕ) : recvS b (n % 2) = recvS b n := by simp [recvS]
theorem storS_mod (b : Bool) (n : ℕ) : storS b (n % 2) = storS b n := by simp [storS]

/-! ## Amounts -/

def NB : ℕ := tileCredit S512x4096 .bf16
def NF : ℕ := tileCredit S512x4096 .f32
def NA : ℕ := tileCredit S8x128 .f32
theorem NB_pos : 0 < NB := tileCredit_pos _ _ (by decide)
theorem NF_pos : 0 < NF := tileCredit_pos _ _ (by decide)
theorem NA_pos : 0 < NA := tileCredit_pos _ _ (by decide)

theorem credit_bf {sp : Space} (v : View sig .tc sp S512x4096 .bf16) : v.dmaCredit = NB := rfl
theorem credit_f {sp : Space} (v : View sig .tc sp S512x4096 .f32) : v.dmaCredit = NF := rfl
theorem credit_a {sp : Space} (v : View sig .tc sp S8x128 .f32) : v.dmaCredit = NA := rfl

/-! ## What the buffers hold, as assertions -/

variable (m : (ℓ : Loc nD τ sig) → Buf (Elt F) ℓ)

/-- The send buffer, a receive slot, the accumulator, a tile of the result, a row of the maxima's buffer, with contents. -/
def sendPts (q : PosShare TreeShare) (c : Dev nD) (b : Bool) (v : Vec F S512x4096 .bf16) : sProp 𝕄 :=
  ((sM b).view.loc (c : Thread nD τ)) ↦[(sM b).view.set]{q} (sendBuf b v)
def slotPts (q : PosShare TreeShare) (c : Dev nD) (b : Bool) (n : ℕ) (v : Vec F S512x4096 .bf16) : sProp 𝕄 :=
  ((slotM b n).view.loc (c : Thread nD τ)) ↦[(slotM b n).view.set]{q} (slotBuf b v)
def accPts (c : Dev nD) (b : Bool) (v : Vec F S512x4096 .f32) : sProp 𝕄 :=
  ((cM b).view.loc (c : Thread nD τ)) ↦[(cM b).view.set]{fullShare} (accBuf b v)
def tilePts (c : Dev nD) (b : Bool) (t : ℕ) : sProp 𝕄 :=
  ((tileM b (gk b c t)).view.loc (c : Thread nD τ)) ↦[(tileM b (gk b c t)).view.set]{fullShare} (OUT m c)
def rowPts (c : Dev nD) (n : ℕ) (v : Vec F S1x8x128 .f32) : sProp 𝕄 :=
  ((rowM n).view.loc (c : Thread nD τ)) ↦[(rowM n).view.set]{fullShare} (dupA v)
/-- The same at some contents. -/
def slotAny (c : Dev nD) (b : Bool) (n : ℕ) : sProp 𝕄 := Release.slot ((slotM b n).view.loc (c : Thread nD τ)) (slotM b n).view.set
def tileAny (c : Dev nD) (b : Bool) (g : ℕ) : sProp 𝕄 :=
  iprop(∃ f, ((tileM b g).view.loc (c : Thread nD τ)) ↦[(tileM b g).view.set]{fullShare} f)
def rowAny (c : Dev nD) (n : ℕ) : sProp 𝕄 := iprop(∃ f, ((rowM n).view.loc (c : Thread nD τ)) ↦[(rowM n).view.set]{fullShare} f)

instance (q) (c : Dev nD) (b) (v) : BI.Storable (upEmb : UEmb _ 𝕄) (sendPts (F := F) q c b v) := by unfold sendPts; infer_instance
instance (q) (c : Dev nD) (b n) (v) : BI.Storable (upEmb : UEmb _ 𝕄) (slotPts (F := F) q c b n v) := by unfold slotPts; infer_instance
instance (c : Dev nD) (b) (v) : BI.Storable (upEmb : UEmb _ 𝕄) (accPts (F := F) c b v) := by unfold accPts; infer_instance
instance (c : Dev nD) (b t) : BI.Storable (upEmb : UEmb _ 𝕄) (tilePts (F := F) m c b t) := by unfold tilePts; infer_instance
instance (c : Dev nD) (n v) : BI.Storable (upEmb : UEmb _ 𝕄) (rowPts (F := F) c n v) := by unfold rowPts; infer_instance
instance (c : Dev nD) (b n) : BI.Storable (upEmb : UEmb _ 𝕄) (slotAny (F := F) c b n) := by unfold slotAny; infer_instance
instance (c : Dev nD) (n) : BI.Storable (upEmb : UEmb _ 𝕄) (rowAny (F := F) c n) := by unfold rowAny; infer_instance

/-- The source of `c`'s transfer `n`: the send buffer up to transfer 7, then the slot the previous transfer filled. -/
def srcPts (q : PosShare TreeShare) (c : Dev nD) (b : Bool) (n : ℕ) : sProp 𝕄 :=
  if n < 8 then sendPts q c b (V m b n c) else slotPts q c b (n + 1) (V m b n c)
instance (q) (c : Dev nD) (b n) : BI.Storable (upEmb : UEmb _ 𝕄) (srcPts (F := F) m q c b n) := by unfold srcPts; split <;> infer_instance

/-- The key of the slot that transfer `n` in direction `b` fills on device `c`. -/
abbrev key (c : Dev nD) (b : Bool) (n : ℕ) : Key := (c, b, n % 2)

/-- Transfer `n` in direction `b` may go to device `c`: the slot has been given up, and the receive cell is at its round. -/
def avail (c : Dev nD) (b : Bool) (n : ℕ) : sProp 𝕄 :=
  iprop(Release.released ES (key c b n) (n / 2 + 1) ∗ reached ER (recvCell c b n) (n / 2))
/-- And so may all before `N`. -/
def availTo (c : Dev nD) (b : Bool) (N : ℕ) : sProp 𝕄 := bigSep (Finset.range N) (avail c b)
/-- The rows of the maxima's buffer that others write. -/
def rowsAny (c : Dev nD) : sProp 𝕄 := bigSep (Finset.range 7) (rowAny c)

instance (c : Dev nD) (b n) : BI.Storable (upEmb : UEmb _ 𝕄) (avail (F := F) c b n) := by unfold avail; infer_instance
instance (c : Dev nD) (b n) : BI.Storable (upEmb : UEmb _ 𝕄) (availTo (F := F) c b n) := by unfold availTo; infer_instance
instance (c : Dev nD) : BI.Storable (upEmb : UEmb _ 𝕄) (rowsAny (F := F) c) := by unfold rowsAny; infer_instance
instance (c : Dev nD) (b n) : BI.Persistent (avail (F := F) c b n) := by unfold avail; infer_instance
instance (c : Dev nD) (b n) : BI.Persistent (availTo (F := F) c b n) := by unfold availTo; infer_instance

/-! ## The schedule -/

/-- What a unit on a cell of `c` hands over. -/
def payK (c : Dev nD) (k : Cell) (r d : ℕ) : sProp 𝕄 :=
  match k with
  | .bar => if d = 1 then iprop(availTo (nxt c) true 2 ∗ rowsAny (nxt c)) else availTo (prv c) false 2
  | .cred b => availTo (dn b c) b (min (d + 3) 14)
  | .send b s => srcPts m fullShare.left c b (2 * r + s)
  | .recv b s => slotPts fullShare c b (2 * r + s) (V m b (2 * r + s) (up b c))
  | .stor b s => iprop(tilePts m c b (2 * r + s) ∗ accPts c b (tile m b (2 * r + s) c))
  | .amS h => rowPts c 7 (Mx m h c)
  | .amR h => rowPts c h (Mx m h (prv c))
  | .other => iprop(emp)

def dutK (k : Cell) (r : ℕ) : Finset ℕ :=
  match k with
  | .bar => if r = 0 then {0, 1} else ∅
  | .cred _ => if r = 0 then Finset.range 14 else ∅
  | .send _ _ => if r < 7 then {0} else ∅
  | .recv _ _ => if r < 7 then {0} else ∅
  | .stor _ _ => if r < 4 then {0} else ∅
  | .amS _ => if r = 0 then {0} else ∅
  | .amR _ => if r = 0 then {0} else ∅
  | .other => ∅

def amtK (k : Cell) : ℕ :=
  match k with
  | .bar => 1 | .cred _ => 1 | .send _ _ => NB | .recv _ _ => NB | .stor _ _ => NF | .amS _ => NA | .amR _ => NA | .other => 1
theorem amtK_pos : ∀ k : Cell, 0 < amtK k
  | .bar => Nat.one_pos | .cred _ => Nat.one_pos | .send _ _ => NB_pos | .recv _ _ => NB_pos | .stor _ _ => NF_pos
  | .amS _ => NA_pos | .amR _ => NA_pos | .other => Nat.one_pos

def Rd : Rounds.Schedule (GSem nD τ sig) ℕ 𝕄 where
  duties g r := dutK (kindOf g.2) r
  unitless _ := False
  amount g _ _ := amtK (kindOf g.2)
  payload g r d := payK m g.1.1 (kindOf g.2) r d
  amount_pos g _ _ _ := amtK_pos _

instance payK_storable (c : Dev nD) (k : Cell) (r d : ℕ) : BI.Storable (upEmb : UEmb _ 𝕄) (payK (F := F) m c k r d) := by
  cases k <;> unfold payK <;> dsimp only <;> (repeat' split) <;> infer_instance
instance Rd_storable (g : GSem nD τ sig) (r d : ℕ) : BI.Storable (upEmb : UEmb _ 𝕄) ((Rd (F := F) m).payload g r d) := by
  show BI.Storable upEmb (payK m g.1.1 (kindOf g.2) r d); infer_instance

theorem duties_eq {g : GSem nD τ sig} {k : Cell} (h : kindOf g.2 = k) (r : ℕ) : (Rd (F := F) m).duties g r = dutK k r := congrArg (dutK · r) h
theorem amount_eq {g : GSem nD τ sig} {k : Cell} (h : kindOf g.2 = k) (r d : ℕ) : (Rd (F := F) m).amount g r d = amtK k := congrArg amtK h
theorem payload_eq {g : GSem nD τ sig} {k : Cell} (h : kindOf g.2 = k) (r d : ℕ) : (Rd (F := F) m).payload g r d = payK m g.1.1 k r d :=
  congrArg (payK m g.1.1 · r d) h
theorem expect_eq {g : GSem nD τ sig} {k : Cell} (h : kindOf g.2 = k) (r : ℕ) : (Rd (F := F) m).expect g r = (dutK k r).card * amtK k := by
  unfold Schedule.expect Schedule.amountOf
  rw [duties_eq m h, Finset.sum_congr rfl fun d _ => amount_eq m h r d, Finset.sum_const, smul_eq_mul]
/-- A round of one duty. -/
theorem expect_one {g : GSem nD τ sig} {k : Cell} (h : kindOf g.2 = k) {r : ℕ} (hd : dutK k r = {0}) : (Rd (F := F) m).expect g r = amtK k := by
  rw [expect_eq m h, hd, Finset.card_singleton, Nat.one_mul]
theorem rest_one {g : GSem nD τ sig} {k : Cell} (h : kindOf g.2 = k) {r : ℕ} (hd : dutK k r = {0}) :
    bigSep ((Rd (F := F) m).duties g r \ ∅) (fun d => (Rd (F := F) m).payload g r d) = payK m g.1.1 k r 0 := by
  rw [Finset.sdiff_empty, duties_eq m h, hd, bigSep_singleton, payload_eq m h]
theorem duties_later (g : GSem nD τ sig) (r : ℕ) (hr : 7 ≤ r) : (Rd (F := F) m).duties g r = ∅ := by
  show dutK (kindOf g.2) r = ∅
  cases kindOf g.2 <;> simp only [dutK] <;> first | rfl | exact if_neg (by omega)

/-! ## Levels -/

def L (g : GSem nD τ sig) : Finset ℕ := if g.1.2 = .tc then Finset.range 64 else ∅
def lv (g : GSem nD τ sig) (u : ℕ) : ℕ :=
  match kindOf g.2 with
  | .bar => 1 | .recv _ _ => 100 * (u + 1) | .cred _ => 100 * (u + 2) + 50 | .amR h => 720 + h | _ => 0
theorem L_of_ne (g : GSem nD τ sig) (h : g.1.2 ≠ .tc) : L g = ∅ := if_neg h
theorem L_tc (c : Dev nD) (sm : SemLoc sig) : L ((c : Thread nD τ), sm) = Finset.range 64 := if_pos rfl

theorem lv_recv (c : Dev nD) (b : Bool) (n u : ℕ) : lv (recvCell c b n) u = 100 * (u + 1) := by
  show (match kindOf (.dma (recvS b n)) with | .bar => 1 | .recv _ _ => 100 * (u + 1) | .cred _ => 100 * (u + 2) + 50 | .amR h => 720 + h | _ => 0) = _
  rw [kind_recv]
theorem lv_cred (c : Dev nD) (b : Bool) (u : ℕ) : lv (credCell c b) u = 100 * (u + 2) + 50 := by
  show (match kindOf (.reg (credS b)) with | .bar => 1 | .recv _ _ => 100 * (u + 1) | .cred _ => 100 * (u + 2) + 50 | .amR h => 720 + h | _ => 0) = _
  rw [kind_cred]
theorem lv_bar (c : Dev nD) (u : ℕ) : lv (barCell c) u = 1 := rfl
theorem lv_amR (c : Dev nD) (h u : ℕ) : lv (amRCell c h) u = 720 + h % 7 := by
  show (match kindOf (.dma (amRS h)) with | .bar => 1 | .recv _ _ => 100 * (u + 1) | .cred _ => 100 * (u + 2) + 50 | .amR h => 720 + h | _ => 0) = _
  rw [kind_amR]
theorem lv_send (c : Dev nD) (b : Bool) (n u : ℕ) : lv (sendCell c b n) u = 0 := by
  show (match kindOf (.dma (sendS b n)) with | .bar => 1 | .recv _ _ => 100 * (u + 1) | .cred _ => 100 * (u + 2) + 50 | .amR h => 720 + h | _ => 0) = _
  rw [kind_send]
theorem lv_stor (c : Dev nD) (b : Bool) (n u : ℕ) : lv (storCell c b n) u = 0 := by
  show (match kindOf (.dma (storS b n)) with | .bar => 1 | .recv _ _ => 100 * (u + 1) | .cred _ => 100 * (u + 2) + 50 | .amR h => 720 + h | _ => 0) = _
  rw [kind_stor]
theorem lv_amS (c : Dev nD) (h u : ℕ) : lv (amSCell c h) u = 0 := by
  show (match kindOf (.dma (amSS h)) with | .bar => 1 | .recv _ _ => 100 * (u + 1) | .cred _ => 100 * (u + 2) + 50 | .amR h => 720 + h | _ => 0) = _
  rw [kind_amS]

/-! ## What a device owes -/

/-- The landings from `n` on, the credits from `j` on, the maxima from `h` on. -/
def LD (c : Dev nD) (b : Bool) (n : ℕ) : CellTallies nD τ sig ℕ := ∑ i ∈ Finset.Ico n 14, tallyAt (recvCell (dn b c) b i) i NB
def CD (c : Dev nD) (b : Bool) (j : ℕ) : CellTallies nD τ sig ℕ := ∑ i ∈ Finset.Ico j 14, tallyAt (credCell (up b c) b) i 1
def AD (c : Dev nD) (h : ℕ) : CellTallies nD τ sig ℕ := ∑ i ∈ Finset.Ico h 7, tallyAt (amRCell (nxt c) i) i NA
def Ow (c : Dev nD) (n n' j j' h : ℕ) : CellTallies nD τ sig ℕ := LD c true n + LD c false n' + CD c true j + CD c false j' + AD c h
/-- What it owes at launch: all that, and a unit to each neighbour's barrier. -/
def O₀ (c : Dev nD) : CellTallies nD τ sig ℕ := Ow c 0 0 0 0 0 + tallyAt (barCell (nxt c)) 0 1 + tallyAt (barCell (prv c)) 0 1

theorem LD_step (c : Dev nD) (b : Bool) {n : ℕ} (h : n < 14) : LD c b n = LD c b (n + 1) + tallyAt (recvCell (dn b c) b n) n NB := by
  unfold LD; rw [Ring.sum_Ico_succ h, add_comm]
theorem CD_step (c : Dev nD) (b : Bool) {n : ℕ} (h : n < 14) : CD c b n = CD c b (n + 1) + tallyAt (credCell (up b c) b) n 1 := by
  unfold CD; rw [Ring.sum_Ico_succ h, add_comm]
theorem AD_step (c : Dev nD) {n : ℕ} (h : n < 7) : AD c n = AD c (n + 1) + tallyAt (amRCell (nxt c) n) n NA := by
  unfold AD; rw [Ring.sum_Ico_succ h, add_comm]

theorem Ow_landT (c : Dev nD) {n n' j j' h : ℕ} (hn : n < 14) :
    Ow c n n' j j' h = Ow c (n + 1) n' j j' h + tallyAt (recvCell (dn true c) true n) n NB := by
  unfold Ow; rw [LD_step c true hn]; ac_rfl
theorem Ow_landF (c : Dev nD) {n n' j j' h : ℕ} (hn : n' < 14) :
    Ow c n n' j j' h = Ow c n (n' + 1) j j' h + tallyAt (recvCell (dn false c) false n') n' NB := by
  unfold Ow; rw [LD_step c false hn]; ac_rfl
theorem Ow_credT (c : Dev nD) {n n' j j' h : ℕ} (hn : j < 14) :
    Ow c n n' j j' h = Ow c n n' (j + 1) j' h + tallyAt (credCell (up true c) true) j 1 := by
  unfold Ow; rw [CD_step c true hn]; ac_rfl
theorem Ow_credF (c : Dev nD) {n n' j j' h : ℕ} (hn : j' < 14) :
    Ow c n n' j j' h = Ow c n n' j (j' + 1) h + tallyAt (credCell (up false c) false) j' 1 := by
  unfold Ow; rw [CD_step c false hn]; ac_rfl
theorem Ow_am (c : Dev nD) {n n' j j' h : ℕ} (hn : h < 7) :
    Ow c n n' j j' h = Ow c n n' j j' (h + 1) + tallyAt (amRCell (nxt c) h) h NA := by
  unfold Ow; rw [AD_step c hn]; ac_rfl
theorem Ow_end (c : Dev nD) : Ow c 14 14 14 14 7 = 0 := by
  unfold Ow LD CD AD; simp

/-- A cell that a sum of tallies charges is one of the summed cells. -/
theorem sum_tally_pos {a b : ℕ} {cell : ℕ → GSem nD τ sig} {N : ℕ} {g : GSem nD τ sig} {u : ℕ}
    (h : 0 < (∑ i ∈ Finset.Ico a b, (tallyAt (cell i) i N : CellTallies nD τ sig ℕ)) g u) : ∃ i, a ≤ i ∧ i < b ∧ g = cell i ∧ u = i := by
  rw [Finset.sum_apply, Finsupp.finset_sum_apply] at h
  obtain ⟨i, hi, hpos⟩ := Finset.exists_ne_zero_of_sum_ne_zero (Nat.pos_iff_ne_zero.mp h)
  rw [tallyAt_apply] at hpos
  have hc := ite_ne_right_iff.mp hpos
  rw [Finset.mem_Ico] at hi
  exact ⟨i, hi.1, hi.2, hc.1.1, hc.1.2⟩

/-- Every owed unit sits above a bound that the first of each kind exceeds. -/
theorem Ow_lv {c : Dev nD} {n n' j j' h ℓ : ℕ} (hn : 14 ≤ n ∨ ℓ < 100 * (n + 1)) (hn' : 14 ≤ n' ∨ ℓ < 100 * (n' + 1))
    (hj : 14 ≤ j ∨ ℓ < 100 * (j + 2) + 50) (hj' : 14 ≤ j' ∨ ℓ < 100 * (j' + 2) + 50) (hh : 7 ≤ h ∨ ℓ < 720 + h)
    {g : GSem nD τ sig} {u : ℕ} (hg : 0 < Ow c n n' j j' h g u) : ℓ < lv g u ∧ u < 64 ∧ g.1.2 = .tc := by
  unfold Ow at hg
  simp only [Pi.add_apply, Finsupp.add_apply] at hg
  have hg : 0 < LD c true n g u ∨ 0 < LD c false n' g u ∨ 0 < CD c true j g u ∨ 0 < CD c false j' g u ∨ 0 < AD c h g u := by omega
  rcases hg with hg | hg | hg | hg | hg <;> obtain ⟨i, h1, h2, rfl, rfl⟩ := sum_tally_pos hg
  · rw [lv_recv]; exact ⟨by omega, by omega, rfl⟩
  · rw [lv_recv]; exact ⟨by omega, by omega, rfl⟩
  · rw [lv_cred]; exact ⟨by omega, by omega, rfl⟩
  · rw [lv_cred]; exact ⟨by omega, by omega, rfl⟩
  · rw [lv_amR]; exact ⟨by omega, by omega, rfl⟩

theorem mayOwe_Ow {c : Dev nD} (W : Waits sig ℕ) {n n' j j' h ℓ : ℕ} (hW : ∀ p ∈ W, lv ((c : Thread nD τ), p.1) p.2 ≤ ℓ ∧ p.2 < 64)
    (hn : 14 ≤ n ∨ ℓ < 100 * (n + 1)) (hn' : 14 ≤ n' ∨ ℓ < 100 * (n' + 1))
    (hj : 14 ≤ j ∨ ℓ < 100 * (j + 2) + 50) (hj' : 14 ≤ j' ∨ ℓ < 100 * (j' + 2) + 50) (hh : 7 ≤ h ∨ ℓ < 720 + h) :
    (levAts L lv : sProp 𝕄) ⊢ MayOwe (c : Thread nD τ) W (Ow c n n' j j' h) :=
  MayOwe.of_cut (L := L) (lev := lv) ℓ (fun p hp => by rw [L_tc]; exact Finset.mem_range.mpr (hW p hp).2)
    (fun g u hg => by
      have := Ow_lv hn hn' hj hj' hh hg
      unfold L; rw [if_pos this.2.2]; exact Finset.mem_range.mpr this.2.1)
    (fun p hp => (hW p hp).1) (fun g u hg => (Ow_lv hn hn' hj hj' hh hg).1)

end Cert.RingProof

end
-- ==== Proof.Steps.lean ====
/-
  One rule per kind of operation the kernel performs on the ring: signals, waits, transfers, local copies, with what
  each consumes and gives back.
-/
module

public import proofs.«01_k».proof.Proof.Proto
public import Idealize.SL.BI.BigOpNat

@[expose] public section

noncomputable section

namespace Cert.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The program's weakest precondition, what is owed -/

abbrev 𝒱₀ : Variants := Variants.none

/-- The weakest precondition of a program run by device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- `c` owes `O`, whatever it waited for. -/
def ow (c : Dev nD) (O : CellTallies nD τ sig ℕ) : sProp 𝕄 := iprop(∃ W, owes (c : Thread nD τ) O W)

/-! ## What everyone knows -/

/-- One of a family's resources. -/
theorem big_elim {I : Type} [DecidableEq I] {s : Finset I} {i : I} (h : i ∈ s) {Φ : I → sProp 𝕄} : bigSep s Φ ⊢ Φ i := bigSep_elim h

/-- The semaphores of the protocol. -/
def mySems : Finset (SemLoc sig) := Finset.univ.filter (kindOf · ≠ .other)
/-- The cells of the protocol, and the receive slots. -/
def ringCells : Finset (GSem nD τ sig) :=
  (Finset.univ ×ˢ mySems).map ⟨fun p : Dev nD × SemLoc sig => ((p.1 : Thread nD τ), p.2), fun a b h => by
    have := Prod.mk.inj h
    exact Prod.ext (congrArg (fun t : Thread nD τ => t.1) this.1) this.2⟩
def keys : Finset Key := Finset.univ ×ˢ Finset.univ ×ˢ Finset.range 2
/-- The place a key names. -/
def slotOf (k : Key) : sProp 𝕄 := slotAny k.1 k.2.1 k.2.2

variable (m : (ℓ : Loc nD τ sig) → Buf (Elt F) ℓ) (K : GSem nD τ sig → ℕ) (ιs : Key → ℕ)

/-- The invariants of the cells and of the slots, the start of every cell, the levels. -/
def Ctx : sProp 𝕄 :=
  iprop(bigSep ringCells (fun g => iprop(cellInv ER (Rd m) (K g) g ∗ reached ER g 0))
    ∗ bigSep keys (fun k => Release.slotInv ES (ιs k) k (slotOf k)) ∗ levAts L lv)
instance : BI.Persistent (Ctx (F := F) m K ιs) := by unfold Ctx; infer_instance

variable {m K ιs}

theorem mem_ringCells (c : Dev nD) {s : SemLoc sig} (hs : kindOf s ≠ .other) : ((c : Thread nD τ), s) ∈ ringCells :=
  Finset.mem_map.mpr ⟨(c, s), Finset.mem_product.mpr ⟨Finset.mem_univ _, Finset.mem_filter.mpr ⟨Finset.mem_univ _, hs⟩⟩, rfl⟩

theorem Ctx_cell (c : Dev nD) {s : SemLoc sig} (hs : kindOf s ≠ .other) :
    Ctx (F := F) m K ιs ⊢ iprop(cellInv ER (Rd m) (K ((c : Thread nD τ), s)) ((c : Thread nD τ), s) ∗ reached ER ((c : Thread nD τ), s) 0) := by
  unfold Ctx
  iintro ⟨H, H2, H3⟩
  iapply (big_elim (mem_ringCells c hs) (Φ := fun g => iprop(cellInv ER (Rd m) (K g) g ∗ reached ER g 0))); iexact H
theorem Ctx_lev : Ctx (F := F) m K ιs ⊢ levAts L lv := by
  unfold Ctx
  iintro ⟨H, H2, H3⟩; iexact H3

theorem slotM_congr (b : Bool) {n n' : ℕ} (h : n % 2 = n' % 2) : slotM b n = slotM b n' :=
  congrArg (fun M : Memref sig .tc .vmem S1x512x4096 .bf16 => M.squeeze S512x4096 squeezes_S1x512x4096_S512x4096)
    (Memref.slice_unit_congr _ (by rw [h]) _ _ _ _)
theorem slotM_mod (b : Bool) (n : ℕ) : slotM b (n % 2) = slotM b n := slotM_congr b (Nat.mod_mod n 2)
theorem slotAny_mod (c : Dev nD) (b : Bool) (n : ℕ) : slotAny (F := F) c b (n % 2) = slotAny c b n := by
  unfold slotAny; rw [slotM_mod]

theorem Ctx_slot (c : Dev nD) (b : Bool) (n : ℕ) :
    Ctx (F := F) m K ιs ⊢ Release.slotInv ES (ιs (key c b n)) (key c b n) (slotAny c b n) := by
  have hk : key c b n ∈ keys := by
    refine Finset.mem_product.mpr ⟨Finset.mem_univ _, Finset.mem_product.mpr ⟨Finset.mem_univ _, ?_⟩⟩
    exact Finset.mem_range.mpr (Nat.mod_lt _ (by decide))
  rw [← slotAny_mod]
  unfold Ctx
  iintro ⟨H, H2, H3⟩
  iapply (big_elim hk (Φ := fun k => Release.slotInv ES (ιs k) k (slotOf k))); iexact H2

/-! ## Waiting on a DMA cell -/

theorem st_wait {c : Dev nD} {q : DmaSem sig} {κ : Cell} {r u : ℕ} {O : CellTallies nD τ sig ℕ} (hk : kindOf (.dma q) = κ) (hκ : κ ≠ .other)
    (hd : dutK κ r = {0}) (hM : (levAts L lv : sProp 𝕄) ⊢ MayWait (c : Thread nD τ) (.dma q) u O)
    {sp sp' : Space} {s s' : Shape} {e e' : EltTy} {src : Memref sig .tc sp s e} {dst : Memref sig .tc sp' s' e'}
    {hsrc : src.view.WordExact} {hdst : dst.view.WordExact} (hN : dst.view.dmaCredit = amtK κ)
    {α : Type} {Q : α → sProp 𝕄} {k : PUnit → Prog (TpuEff nD τ sig (Elt F) Λ₀ .tc) α} :
    iprop(Ctx m K ιs ∗ cred (tallyAt ((c : Thread nD τ), SemLoc.dma q) u (amtK κ)) ∗ ow c O ∗ atPos ER ((c : Thread nD τ), SemLoc.dma q) r ∅ 0)
      ⊢ iprop((iprop(ow c O ∗ atPos ER ((c : Thread nD τ), SemLoc.dma q) (r + 1) ∅ 0 ∗ reached ER ((c : Thread nD τ), SemLoc.dma q) (r + 1)
              ∗ payK m c κ r 0) -∗ WP c (k ⟨⟩) Q)
          -∗ WP c (.op (.waitDma2 q src dst hsrc hdst) k) Q) := by
  subst hk
  unfold ow
  iintro ⟨#HX, Hc, ⟨%W, HO⟩, Hat⟩ Hk
  ihave HI := (Ctx_cell c hκ) $$ HX
  icases HI with ⟨HI, -⟩
  iapply (Rounds.wp_wait_rest_token 𝒱₀ ER (Rd m) (c : Thread nD τ) none (κ := K ((c : Thread nD τ), .dma q))
      (wpE_waitDma2_eq 𝒱₀ (c : Thread nD τ) none Set.univ) (Set.mem_univ _) u (O := O) (W := W) (R := r) (m := 0) (T := ∅)
      (by rw [Nat.zero_add, hN]; exact (expect_one m (g := ((c : Thread nD τ), .dma q)) rfl hd).symm)) $$ [HI Hc HO Hat]
  · isplitl [HI]; · iexact HI
    isplitl [Hc]; · rw [hN]; iexact Hc
    isplitl [HO]; · iexact HO
    isplitr
    · iapply hM; iapply (Ctx_lev (m := m) (K := K) (ιs := ιs)); iexact HX
    iexact Hat
  rw [rest_one m (g := ((c : Thread nD τ), .dma q)) rfl hd]
  iintro ⟨HO, Hat, Hr, Hp⟩
  iapply Hk
  isplitl [HO]; · iexists _; iexact HO
  isplitl [Hat]; · iexact Hat
  isplitl [Hr]; · iexact Hr
  iexact Hp

/-! ## Positions on a pair of cells -/

/-- The owner's place on two alternating cells, `n` rounds behind it in all. -/
def Pos (cell : ℕ → GSem nD τ sig) (n : ℕ) : sProp 𝕄 :=
  iprop(atPos ER (cell 0) ((n + 1) / 2) ∅ 0 ∗ atPos ER (cell 1) (n / 2) ∅ 0 ∗ reached ER (cell 0) ((n + 1) / 2) ∗ reached ER (cell 1) (n / 2))

/-- The cell whose turn it is. -/
theorem Pos_take {cell : ℕ → GSem nD τ sig} (hmod : ∀ n, cell (n % 2) = cell n) (n : ℕ) :
    (Pos cell n : sProp 𝕄) ⊢ iprop(atPos ER (cell n) (n / 2) ∅ 0
      ∗ (iprop(atPos ER (cell n) (n / 2 + 1) ∅ 0 ∗ reached ER (cell n) (n / 2 + 1)) -∗ Pos cell (n + 1))) := by
  unfold Pos
  rcases (show n % 2 = 0 ∨ n % 2 = 1 by omega) with h | h
  · rw [← hmod n, h, show (n + 1 + 1) / 2 = n / 2 + 1 by omega, show (n + 1) / 2 = n / 2 by omega]
    iintro ⟨H0, H1, #Hr0, #Hr1⟩
    isplitl [H0]; · iexact H0
    iintro ⟨H0, #Hr0⟩
    isplitl [H0]; · iexact H0
    isplitl [H1]; · iexact H1
    isplitr; · iexact Hr0
    iexact Hr1
  · rw [← hmod n, h, show (n + 1 + 1) / 2 = (n + 1) / 2 by omega, show (n + 1) / 2 = n / 2 + 1 by omega]
    iintro ⟨H0, H1, #Hr0, #Hr1⟩
    isplitl [H1]; · iexact H1
    iintro ⟨H1, #Hr1⟩
    isplitl [H0]; · iexact H0
    isplitl [H1]; · iexact H1
    isplitr; · iexact Hr0
    iexact Hr1

/-- The round that transfer `k` closes is reached, once `k` has had its turn and up to the next turn but one. -/
theorem Pos_reached {cell : ℕ → GSem nD τ sig} (hmod : ∀ n, cell (n % 2) = cell n) {n k r : ℕ}
    (h : k % 2 = 0 ∧ r = (n + 1) / 2 ∨ k % 2 = 1 ∧ r = n / 2) :
    (Pos cell n : sProp 𝕄) ⊢ iprop(reached ER (cell k) r ∗ Pos cell n) := by
  unfold Pos
  rcases h with ⟨h, rfl⟩ | ⟨h, rfl⟩
  · rw [← hmod k, h]
    iintro ⟨H0, H1, #Hr0, #Hr1⟩
    isplitr; · iexact Hr0
    isplitl [H0]; · iexact H0
    isplitl [H1]; · iexact H1
    isplitr; · iexact Hr0
    iexact Hr1
  · rw [← hmod k, h]
    iintro ⟨H0, H1, #Hr0, #Hr1⟩
    isplitr; · iexact Hr1
    isplitl [H0]; · iexact H0
    isplitl [H1]; · iexact H1
    isplitr; · iexact Hr0
    iexact Hr1

theorem sendCell_mod (c : Dev nD) (b : Bool) (n : ℕ) : sendCell c b (n % 2) = sendCell c b n := by unfold sendCell; rw [sendS_mod]
theorem recvCell_mod (c : Dev nD) (b : Bool) (n : ℕ) : recvCell c b (n % 2) = recvCell c b n := by unfold recvCell; rw [recvS_mod]
theorem storCell_mod (c : Dev nD) (b : Bool) (n : ℕ) : storCell c b (n % 2) = storCell c b n := by unfold storCell; rw [storS_mod]

/-! ## One direction's resources -/

/-- The tokens for `c`'s transfers from `n` on: to credit its send cells, to credit the receivers' cells, to write the slots. -/
def SendKit (c : Dev nD) (b : Bool) (n : ℕ) : sProp 𝕄 :=
  bigSep (Finset.Ico n 14) (fun i => iprop(dutyTok ER (sendCell c b i) (i / 2) 0 ∗ dutyTok ER (recvCell (dn b c) b i) (i / 2) 0
    ∗ Release.writeTok ES (key (dn b c) b i) (i / 2 + 1)))
/-- The credits that cover the waits for the landings from `n` on. -/
def RecvKit (c : Dev nD) (b : Bool) (n : ℕ) : sProp 𝕄 := bigSep (Finset.Ico n 14) (fun i => cred (tallyAt (recvCell c b i) i NB))
/-- The credit that covers the wait for the transfer in flight, if there is one. -/
def Pend (c : Dev nD) (b : Bool) (s w : ℕ) : sProp 𝕄 := if w < s then cred (tallyAt (sendCell c b w) 0 NB) else iprop(emp)
/-- `n` units of credit from the receiver awaited: the units taken, the facts they brought, the credits for the rest. -/
def CrW (c : Dev nD) (b : Bool) (n : ℕ) : sProp 𝕄 :=
  iprop(∃ T : Finset ℕ, ⌜T ⊆ Finset.range 14 ∧ n ≤ T.card⌝ ∗ atPos ER (credCell c b) 0 T n
    ∗ bigSep T (fun j => availTo (dn b c) b (min (j + 3) 14)) ∗ availTo (dn b c) b 2
    ∗ bigSep (Finset.Ico n 14) (fun j => cred (tallyAt (credCell c b) j 1)))
/-- `j` units of credit given to the sender: the tokens for the rest, how often each slot has been given up. -/
def CrG (c : Dev nD) (b : Bool) (j : ℕ) : sProp 𝕄 :=
  iprop(bigSep (Finset.Ico j 14) (fun i => dutyTok ER (credCell (up b c) b) 0 i) ∗ availTo c b (min (j + 2) 14)
    ∗ Release.readerAt ES (key c b 0) (1 + (min j 12 + 1) / 2) ∗ Release.readerAt ES (key c b 1) (1 + min j 12 / 2))

/-- Where a direction stands: transfers sent, read-outs awaited, landings taken, credits awaited, credits given. -/
structure DS where
  s : ℕ
  w : ℕ
  r : ℕ
  cw : ℕ
  cg : ℕ

def Dir (c : Dev nD) (b : Bool) (x : DS) : sProp 𝕄 :=
  iprop(SendKit c b x.s ∗ Pos (sendCell c b) x.w ∗ Pend c b x.s x.w ∗ RecvKit c b x.r ∗ Pos (recvCell c b) x.r ∗ CrW c b x.cw ∗ CrG c b x.cg)

theorem payK_send (c : Dev nD) (b : Bool) (n : ℕ) : payK (F := F) m c (.send b (n % 2)) (n / 2) 0 = srcPts m fullShare.left c b n :=
  congrArg (srcPts m fullShare.left c b) (Nat.div_add_mod n 2)
theorem payK_recv (c : Dev nD) (b : Bool) (n : ℕ) :
    payK (F := F) m c (.recv b (n % 2)) (n / 2) 0 = slotPts fullShare c b n (V m b n (up b c)) :=
  congrArg (fun n => slotPts fullShare c b n (V m b n (up b c))) (Nat.div_add_mod n 2)
theorem payK_stor (c : Dev nD) (b : Bool) (n : ℕ) :
    payK (F := F) m c (.stor b (n % 2)) (n / 2) 0 = iprop(tilePts m c b n ∗ accPts c b (tile m b n c)) :=
  congrArg (fun n => iprop(tilePts m c b n ∗ accPts c b (tile m b n c))) (Nat.div_add_mod n 2)

theorem dut_xfer {i : ℕ} (h : i < 14) (b : Bool) : dutK (.send b (i % 2)) (i / 2) = {0} := if_pos (by omega)

/-- A transfer may go once enough credits have been awaited. -/
theorem CrW_avail {c : Dev nD} {b : Bool} {n k : ℕ} (hn : n < 14) (hk : n < 2 ∨ n ≤ k + 1) :
    (CrW c b k : sProp 𝕄) ⊢ iprop(avail (dn b c) b n ∗ CrW c b k) := by
  unfold CrW
  iintro ⟨%T, %hT, Hat, #Ha, #H2, Hc⟩
  isplitr
  · by_cases h2 : n < 2
    · unfold availTo; iapply (big_elim (Finset.mem_range.mpr h2) (Φ := avail (dn b c) b)); iexact H2
    · obtain ⟨j, hj, hjn⟩ : ∃ j ∈ T, n ≤ j + 2 := by
        by_contra hcon
        push Not at hcon
        have hsub : T ⊆ Finset.range (n - 2) := fun j hj => Finset.mem_range.mpr (by have := hcon j hj; omega)
        have := (Finset.card_le_card hsub).trans_eq (Finset.card_range _)
        have := hT.2
        omega
      ihave Hj := (big_elim hj (Φ := fun j => availTo (dn b c) b (min (j + 3) 14))) $$ Ha
      unfold availTo
      iapply (big_elim (Finset.mem_range.mpr (show n < min (j + 3) 14 by omega)) (Φ := avail (dn b c) b)); iexact Hj
  · iexists T
    isplitr; · ipureintro; exact hT
    isplitl [Hat]; · iexact Hat
    isplitr; · iexact Ha
    isplitr; · iexact H2
    iexact Hc

/-! ## Both directions, and what is owed -/

variable (m K ιs) in
/-- The device's protocol state: the right direction at `x`, the left one at `y`, `h` steps of the ring of maxima sent. -/
def G (c : Dev nD) (x y : DS) (h : ℕ) : sProp 𝕄 :=
  iprop(Ctx m K ιs ∗ Dir c true x ∗ Dir c false y ∗ ow c (Ow c x.s y.s x.cg y.cg h))
variable (m K ιs) in
/-- The same with the direction `b` first. -/
abbrev GB (c : Dev nD) (b : Bool) (x y : DS) (h : ℕ) : sProp 𝕄 := match b with | true => G m K ιs c x y h | false => G m K ιs c y x h
/-- What is owed, the direction `b` first. -/
def OwB (c : Dev nD) (b : Bool) (x y : DS) (h : ℕ) : CellTallies nD τ sig ℕ :=
  match b with | true => Ow c x.s y.s x.cg y.cg h | false => Ow c y.s x.s y.cg x.cg h

theorem GB_open (c : Dev nD) (b : Bool) (x y : DS) (h : ℕ) :
    GB (F := F) m K ιs c b x y h ⊢ iprop(Ctx m K ιs ∗ Dir c b x ∗ Dir c (!b) y ∗ ow c (OwB c b x y h)) := by
  cases b
  · show G m K ιs c y x h ⊢ _
    unfold G
    iintro ⟨HX, H1, H2, H3⟩
    isplitl [HX]; · iexact HX
    isplitl [H2]; · iexact H2
    isplitl [H1]; · iexact H1
    iexact H3
  · exact Entails.refl _
theorem GB_close (c : Dev nD) (b : Bool) (x y : DS) (h : ℕ) :
    iprop(Ctx m K ιs ∗ Dir c b x ∗ Dir c (!b) y ∗ ow c (OwB c b x y h)) ⊢ GB (F := F) m K ιs c b x y h := by
  cases b
  · show _ ⊢ G m K ιs c y x h
    unfold G
    iintro ⟨HX, H1, H2, H3⟩
    isplitl [HX]; · iexact HX
    isplitl [H2]; · iexact H2
    isplitl [H1]; · iexact H1
    iexact H3
  · exact Entails.refl _

theorem OwB_land (c : Dev nD) (b : Bool) {s w r cw cg : ℕ} (y : DS) {h : ℕ} (hn : s < 14) :
    OwB c b ⟨s, w, r, cw, cg⟩ y h = OwB c b ⟨s + 1, w, r, cw, cg⟩ y h + tallyAt (recvCell (dn b c) b s) s NB := by
  cases b
  · exact Ow_landF c hn
  · exact Ow_landT c hn
theorem OwB_cred (c : Dev nD) (b : Bool) {s w r cw cg : ℕ} (y : DS) {h : ℕ} (hn : cg < 14) :
    OwB c b ⟨s, w, r, cw, cg⟩ y h = OwB c b ⟨s, w, r, cw, cg + 1⟩ y h + tallyAt (credCell (up b c) b) cg 1 := by
  cases b
  · exact Ow_credF c hn
  · exact Ow_credT c hn
theorem mayOwe_OwB {c : Dev nD} {b : Bool} {x y : DS} (W : Waits sig ℕ) {h ℓ : ℕ} (hW : ∀ p ∈ W, lv ((c : Thread nD τ), p.1) p.2 ≤ ℓ ∧ p.2 < 64)
    (hn : 14 ≤ x.s ∨ ℓ < 100 * (x.s + 1)) (hn' : 14 ≤ y.s ∨ ℓ < 100 * (y.s + 1))
    (hj : 14 ≤ x.cg ∨ ℓ < 100 * (x.cg + 2) + 50) (hj' : 14 ≤ y.cg ∨ ℓ < 100 * (y.cg + 2) + 50) (hh : 7 ≤ h ∨ ℓ < 720 + h) :
    (levAts L lv : sProp 𝕄) ⊢ MayOwe (c : Thread nD τ) W (OwB c b x y h) := by
  cases b
  · exact mayOwe_Ow W hW hn' hn hj' hj hh
  · exact mayOwe_Ow W hW hn hn' hj hj' hh

/-! ## Sending -/

theorem g_send (b : Bool) {c c' : Dev nD} {n r cw cg : ℕ} {y : DS} {h : ℕ} (hc' : c' = dn b c) (hn : n < 14) (hcw : n < 2 ∨ n ≤ cw + 1)
    {src : Memref sig .tc .vmem S512x4096 .bf16} {dst : Memref sig (Dev.tc c' : Thread nD τ).2.kind .vmem S512x4096 .bf16} (hdst : dst = slotM b n)
    {fs : Buf (Elt F) (src.view.loc (c : Thread nD τ))}
    (hsrc : srcPts m fullShare.left c b n = (src.view.loc (c : Thread nD τ) ↦[src.view.set]{fullShare.left} fs))
    (hread : src.view.read (Elt F) fs = V m b n c)
    {qs qr : DmaSem sig} (hqs : qs = sendS b n) (hqr : qr = recvS b n)
    {hsc : dst.view.ref.isScScratch = false} {hsw : src.view.WordExact} {hdw : dst.view.WordExact}
    {hsem : DmaTarget.Typed .vmem (.dma qr) (.remote (Dev.tc c' : Thread nD τ) dst (.dma qs) hsc)}
    {α : Type} {Q : α → sProp 𝕄} {k : PUnit → Prog (TpuEff nD τ sig (Elt F) Λ₀ .tc) α} :
    iprop(GB m K ιs c b ⟨n, n, r, cw, cg⟩ y h ∗ srcPts m fullShare.left c b n)
      ⊢ iprop((GB m K ιs c b ⟨n + 1, n, r, cw, cg⟩ y h -∗ WP c (k ⟨⟩) Q)
          -∗ WP c (.op (.enqueueDma src (.remote (Dev.tc c' : Thread nD τ) dst (.dma qs) hsc) (.dma qr) hsw hdw hsem) k) Q) := by
  subst hc' hdst hqs hqr
  rw [hsrc]
  iintro ⟨HG, Hs⟩ Hk
  ihave HG := (GB_open c b _ y h) $$ HG
  unfold Dir SendKit
  dsimp only
  rw [bigSep_Ico_succ_bot hn]
  icases HG with ⟨#HX, ⟨⟨⟨Hts, Htr, Htw⟩, Hkit⟩, Hps, -, Hrk, Hpr, Hcw, Hcg⟩, Hoth, HO⟩
  ihave Hcw := (CrW_avail hn hcw) $$ Hcw
  icases Hcw with ⟨Hav, Hcw⟩
  ihave Hps := (Pos_reached (sendCell_mod c b) (n := n) (k := n) (r := n / 2) (by omega)) $$ Hps
  icases Hps with ⟨Hrs, Hps⟩
  unfold ow avail
  icases HO with ⟨%W, HO⟩
  icases Hav with ⟨Hrel, Hrr⟩
  ihave HI1 := (Ctx_cell c (s := .dma (sendS b n)) (by rw [kind_send]; simp)) $$ HX
  icases HI1 with ⟨HI1, -⟩
  ihave HI2 := (Ctx_cell (dn b c) (s := .dma (recvS b n)) (by rw [kind_recv]; simp)) $$ HX
  icases HI2 with ⟨HI2, -⟩
  ihave HI3 := (Ctx_slot (dn b c) b n) $$ HX
  iapply fupd_wp
  imod (Release.slot_take (E := ES) (Set.mem_univ _) (n / 2 + 1)) $$ [HI3 Hrel Htw] with HS
  · isplitl [HI3]; · iexact HI3
    isplitl [Hrel] <;> iassumption
  imodintro
  unfold slotAny Release.slot
  icases HS with ⟨%fd, HS⟩
  iapply (Rounds.wp_send_pointsTo 𝒱₀ ER (Rd m) (c : Thread nD τ) none (κ₁ := K (sendCell c b n)) (κ₂ := K (recvCell (dn b c) b n))
    (r₁ := n / 2) (r₂ := n / 2) (d₁ := 0) (d₂ := 0) (fd := fd)
    (by rw [duties_eq m (kind_send b n), dut_xfer hn]; exact Finset.mem_singleton_self _)
    (by rw [duties_eq m (kind_recv b n)]; exact (dut_xfer hn b).symm ▸ Finset.mem_singleton_self _)
    n 0 NB rfl (by rw [amount_eq m (kind_send b n)]; rfl) (by rw [amount_eq m (kind_recv b n)]; rfl)
    (OwB c b ⟨n + 1, n, r, cw, cg⟩ y h) (OwB_land c b y hn) (W := W)
    (by rw [payload_eq m (kind_send b n), payK_send, hsrc])
    (by
      rw [payload_eq m (kind_recv b n), payK_recv, up_dn, hread]
      unfold slotPts
      rw [pointsTo_congr (slot_write b n fd (V m b n c))])) $$ [HI1 HI2 Hs HS HO Hts Htr Hrs Hrr]
  · isplitl [HI1]; · iexact HI1
    isplitl [HI2]; · iexact HI2
    isplitl [Hs]; · iexact Hs
    isplitl [HS]; · iexact HS
    isplitl [HO]; · iexact HO
    isplitl [Hts]; · iexact Hts
    isplitl [Hrs]; · iexact Hrs
    isplitl [Htr]; · iexact Htr
    iexact Hrr
  iintro ⟨Hc, HO⟩
  iapply Hk
  iapply (GB_close c b _ y h)
  unfold Dir SendKit Pend ow
  dsimp only
  rw [if_pos (Nat.lt_succ_self n)]
  isplitr; · iexact HX
  isplitl [Hkit Hps Hc Hrk Hpr Hcw Hcg]
  · isplitl [Hkit]; · iexact Hkit
    isplitl [Hps]; · iexact Hps
    isplitl [Hc]; · iexact Hc
    isplitl [Hrk]; · iexact Hrk
    isplitl [Hpr]; · iexact Hpr
    isplitl [Hcw]; · iexact Hcw
    iexact Hcg
  isplitl [Hoth]; · iexact Hoth
  iexists _; iexact HO

/-! ## Waiting for a transfer -/

/-- The read-out of the transfer in flight: its source comes back. -/
theorem g_waitSend (b : Bool) {c : Dev nD} {n r cw cg : ℕ} {y : DS} {h : ℕ} (hn : n < 14) {q : DmaSem sig} (hq : q = sendS b n)
    {sp sp' : Space} {s' : Shape} {e' : EltTy} {src : Memref sig .tc sp s' e'} {dst : Memref sig .tc sp' S512x4096 .bf16}
    {hsrc : src.view.WordExact} {hdst : dst.view.WordExact}
    {α : Type} {Q : α → sProp 𝕄} {k : PUnit → Prog (TpuEff nD τ sig (Elt F) Λ₀ .tc) α} :
    (GB m K ιs c b ⟨n + 1, n, r, cw, cg⟩ y h)
      ⊢ iprop((iprop(GB m K ιs c b ⟨n + 1, n + 1, r, cw, cg⟩ y h ∗ srcPts m fullShare.left c b n) -∗ WP c (k ⟨⟩) Q)
          -∗ WP c (.op (.waitDma2 q src dst hsrc hdst) k) Q) := by
  subst hq
  iintro HG Hk
  ihave HG := (GB_open c b _ y h) $$ HG
  unfold Dir Pend
  dsimp only
  rw [if_pos (Nat.lt_succ_self n)]
  icases HG with ⟨#HX, ⟨Hkit, Hps, Hc, Hrk, Hpr, Hcw, Hcg⟩, Hoth, HO⟩
  ihave Hps := (Pos_take (sendCell_mod c b) n) $$ Hps
  icases Hps with ⟨Hat, Hps⟩
  iapply (st_wait (m := m) (K := K) (ιs := ιs) (r := n / 2) (u := 0) (kind_send b n) (by simp) (dut_xfer hn b)
    (mayOwe_OwB (x := ⟨n + 1, n, r, cw, cg⟩) (y := y) (h := h) _ (ℓ := 0) (fun p hp => by rw [Finset.mem_singleton.mp hp]; exact ⟨(lv_send c b n 0).le, Nat.succ_pos _⟩)
      (.inr (by omega)) (.inr (by omega)) (.inr (by omega)) (.inr (by omega)) (.inr (by omega))) (hN := rfl)) $$ [HX Hc HO Hat]
  · isplitr; · iexact HX
    isplitl [Hc]; · iexact Hc
    isplitl [HO]; · iexact HO
    iexact Hat
  rw [payK_send]
  iintro ⟨HO, Hat, Hr, Hs⟩
  ihave Hps := wand_elim_left $$ [Hps Hat Hr]
  · isplitl [Hps]; · iexact Hps
    isplitl [Hat] <;> iassumption
  iapply Hk
  isplitr [Hs]
  · iapply (GB_close c b _ y h)
    unfold Dir Pend
    dsimp only
    rw [if_neg (Nat.lt_irrefl _)]
    isplitr; · iexact HX
    isplitl [Hkit Hps Hrk Hpr Hcw Hcg]
    · isplitl [Hkit]; · iexact Hkit
      isplitl [Hps]; · iexact Hps
      isplitr; · iempintro
      isplitl [Hrk]; · iexact Hrk
      isplitl [Hpr]; · iexact Hpr
      isplitl [Hcw]; · iexact Hcw
      iexact Hcg
    isplitl [Hoth]; · iexact Hoth
    iexact HO
  iexact Hs

/-- A landing: the slot, holding what the neighbour sent. -/
theorem g_waitRecv (b : Bool) {c : Dev nD} {n s w cw cg : ℕ} {y : DS} {h : ℕ} (hn : n < 14)
    (h1 : n < s) (h2 : n < y.s) (h3 : n ≤ cg + 1) (h4 : n ≤ y.cg + 1) (h5 : 7 ≤ h ∨ n < 7)
    {q : DmaSem sig} (hq : q = recvS b n)
    {sp sp' : Space} {s' : Shape} {e' : EltTy} {src : Memref sig .tc sp s' e'} {dst : Memref sig .tc sp' S512x4096 .bf16}
    {hsrc : src.view.WordExact} {hdst : dst.view.WordExact}
    {α : Type} {Q : α → sProp 𝕄} {k : PUnit → Prog (TpuEff nD τ sig (Elt F) Λ₀ .tc) α} :
    (GB m K ιs c b ⟨s, w, n, cw, cg⟩ y h)
      ⊢ iprop((iprop(GB m K ιs c b ⟨s, w, n + 1, cw, cg⟩ y h ∗ slotPts fullShare c b n (V m b n (up b c))) -∗ WP c (k ⟨⟩) Q)
          -∗ WP c (.op (.waitDma2 q src dst hsrc hdst) k) Q) := by
  subst hq
  iintro HG Hk
  ihave HG := (GB_open c b _ y h) $$ HG
  unfold Dir RecvKit
  dsimp only
  rw [bigSep_Ico_succ_bot hn]
  icases HG with ⟨#HX, ⟨Hkit, Hps, Hpd, ⟨Hc, Hrk⟩, Hpr, Hcw, Hcg⟩, Hoth, HO⟩
  ihave Hpr := (Pos_take (recvCell_mod c b) n) $$ Hpr
  icases Hpr with ⟨Hat, Hpr⟩
  iapply (st_wait (m := m) (K := K) (ιs := ιs) (r := n / 2) (u := n) (kind_recv b n) (by simp) (dut_xfer hn b)
    (mayOwe_OwB (x := ⟨s, w, n, cw, cg⟩) (y := y) (h := h) _ (ℓ := 100 * (n + 1)) (fun p hp => by rw [Finset.mem_singleton.mp hp]; exact ⟨(lv_recv c b n n).le, by omega⟩)
      (.inr (by dsimp only; omega)) (.inr (by omega)) (.inr (by dsimp only; omega)) (.inr (by omega)) (by omega)) (hN := rfl)) $$ [HX Hc HO Hat]
  · isplitr; · iexact HX
    isplitl [Hc]; · iexact Hc
    isplitl [HO]; · iexact HO
    iexact Hat
  rw [payK_recv]
  iintro ⟨HO, Hat, Hr, Hs⟩
  ihave Hpr := wand_elim_left $$ [Hpr Hat Hr]
  · isplitl [Hpr]; · iexact Hpr
    isplitl [Hat] <;> iassumption
  iapply Hk
  isplitr [Hs]
  · iapply (GB_close c b _ y h)
    unfold Dir RecvKit
    dsimp only
    isplitr; · iexact HX
    isplitl [Hkit Hps Hpd Hrk Hpr Hcw Hcg]
    · isplitl [Hkit]; · iexact Hkit
      isplitl [Hps]; · iexact Hps
      isplitl [Hpd]; · iexact Hpd
      isplitl [Hrk]; · iexact Hrk
      isplitl [Hpr]; · iexact Hpr
      isplitl [Hcw]; · iexact Hcw
      iexact Hcg
    isplitl [Hoth]; · iexact Hoth
    iexact HO
  iexact Hs

end Cert.RingProof

end
-- ==== Proof.Steps2.lean ====
/-
  The rules for credits, for the local copies to the result, for the ring of maxima and for the barrier.
-/
module

public import proofs.«01_k».proof.Proof.Steps

@[expose] public section

noncomputable section

namespace Cert.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {K : GSem nD τ sig → ℕ} {ιs : Key → ℕ}

/-! ## Credits -/

/-- A family over a set from the families over a part of it and over the rest. -/
theorem big_join {T S : Finset ℕ} (h : T ⊆ S) (Φ : ℕ → sProp 𝕄) : iprop(bigSep T Φ ∗ bigSep (S \ T) Φ) ⊢ bigSep S Φ := by
  have hu : bigSep (T ∪ S \ T) Φ = iprop(bigSep T Φ ∗ bigSep (S \ T) Φ) := bigSep_union Finset.disjoint_sdiff
  rw [Finset.union_sdiff_of_subset h] at hu
  exact Entails.of_eq hu.symm

/-- One unit of credit from the receiver. -/
theorem g_credWait (b : Bool) {c : Dev nD} {n s w r cg : ℕ} {y : DS} {h : ℕ} (hn : n < 12)
    (h1 : n + 2 ≤ s) (h2 : n + 2 ≤ y.s) (h3 : n < cg) (h4 : n < y.cg) (h5 : 7 ≤ h ∨ n < 5)
    {α : Type} {Q : α → sProp 𝕄} {k : PUnit → Prog (TpuEff nD τ sig (Elt F) Λ₀ .tc) α} :
    (GB m K ιs c b ⟨s, w, r, n, cg⟩ y h)
      ⊢ iprop((GB m K ιs c b ⟨s, w, r, n + 1, cg⟩ y h -∗ WP c (k ⟨⟩) Q)
          -∗ WP c (.op (.semWait (credS b) 1) k) Q) := by
  iintro HG Hk
  ihave HG := (GB_open c b _ y h) $$ HG
  unfold Dir CrW
  dsimp only
  rw [bigSep_Ico_succ_bot (show n < 14 by omega)]
  icases HG with ⟨#HX, ⟨Hkit, Hps, Hpd, Hrk, Hpr, ⟨%T, %hT, Hat, Ha, H2, Hc, Hcs⟩, Hcg⟩, Hoth, HO⟩
  unfold ow
  icases HO with ⟨%W, HO⟩
  ihave HI := (Ctx_cell c (s := .reg (credS b)) (by rw [kind_cred]; simp)) $$ HX
  icases HI with ⟨HI, -⟩
  ihave HM := (Ctx_lev (m := m) (K := K) (ιs := ιs)) $$ HX
  ihave HM := (mayOwe_OwB (c := c) (b := b) (x := ⟨s, w, r, n, cg⟩) (y := y) (h := h) {(.reg (credS b), n)} (ℓ := 100 * (n + 2) + 50)
    (fun p hp => by rw [Finset.mem_singleton.mp hp]; exact ⟨(lv_cred c b n).le, by omega⟩)
      (.inr (by dsimp only; omega)) (.inr (by omega)) (.inr (by dsimp only; omega)) (.inr (by omega)) (by omega)) $$ HM
  iapply (Rounds.wp_wait 𝒱₀ ER (Rd m) (c : Thread nD τ) none (κ := K (credCell c b))
      (wpE_semWait_eq 𝒱₀ (c : Thread nD τ) none Set.univ) (Set.mem_univ _) (cr := Finsupp.single n 1)
      (O := OwB c b ⟨s, w, r, n, cg⟩ y h) (W := W) {(.reg (credS b), n)} (R := 0) (m := n) (T := T)
      (Util.total_single _ _) (image_single_subset (.reg (credS b)) n 1)) $$ [HI Hc HO HM Hat]
  · isplitl [HI]; · iexact HI
    isplitl [Hc]; · iexact Hc
    isplitl [HO]; · iexact HO
    isplitl [HM]; · iexact HM
    iexact Hat
  iintro %S ⟨%hS, HO, Hat, Hp⟩
  have hd : (Rd m).duties (credCell c b) 0 = Finset.range 14 := by
    rw [duties_eq m (kind_cred b)]; rfl
  have he : (Rd m).expect (credCell c b) 0 = 14 := by
    rw [expect_eq m (kind_cred b)]; rfl
  rw [hd, he] at hS
  have hcard : n + 1 ≤ S.card := by
    have h1 := Finset.card_sdiff_add_card_eq_card hS.2.1
    rw [Finset.card_range] at h1
    have := hS.2.2
    omega
  iapply Hk
  iapply (GB_close c b _ y h)
  unfold Dir CrW ow
  dsimp only
  isplitr; · iexact HX
  isplitr [Hoth HO]
  · isplitl [Hkit]; · iexact Hkit
    isplitl [Hps]; · iexact Hps
    isplitl [Hpd]; · iexact Hpd
    isplitl [Hrk]; · iexact Hrk
    isplitl [Hpr]; · iexact Hpr
    isplitr [Hcg]
    · iexists S
      isplitr; · ipureintro; exact ⟨hS.2.1, hcard⟩
      isplitl [Hat]; · iexact Hat
      isplitl [Ha Hp]
      · have hp : bigSep (S \ T) (fun d => (Rd m).payload (credCell c b) 0 d)
            = bigSep (S \ T) (fun j => (availTo (dn b c) b (min (j + 3) 14) : sProp 𝕄)) := by
          congr 1; funext d; exact payload_eq m (g := credCell c b) (kind_cred b) 0 d
        ihave Hp := (Entails.of_eq hp) $$ Hp
        iapply (big_join hS.1 (fun j => availTo (dn b c) b (min (j + 3) 14)))
        isplitl [Ha]; · iexact Ha
        iexact Hp
      isplitl [H2]; · iexact H2
      iexact Hcs
    iexact Hcg
  isplitl [Hoth]; · iexact Hoth
  iexists _; iexact HO

/-- The last two units: the cell is done with. -/
theorem g_credEnd (b : Bool) {c : Dev nD} {s w r cg : ℕ} {y : DS} {h : ℕ} (h1 : 14 ≤ s) (h2 : 14 ≤ y.s) (h3 : 14 ≤ cg) (h4 : 14 ≤ y.cg) (h5 : 7 ≤ h)
    {α : Type} {Q : α → sProp 𝕄} {k : PUnit → Prog (TpuEff nD τ sig (Elt F) Λ₀ .tc) α} :
    iprop(Ctx m K ιs ∗ CrW c b 12 ∗ ow c (OwB c b ⟨s, w, r, 12, cg⟩ y h))
      ⊢ iprop((iprop(atPos ER (credCell c b) 1 ∅ 0 ∗ ow c (OwB c b ⟨s, w, r, 12, cg⟩ y h)) -∗ WP c (k ⟨⟩) Q)
          -∗ WP c (.op (.semWait (credS b) 2) k) Q) := by
  unfold CrW
  rw [bigSep_Ico_succ_bot (show 12 < 14 by omega), bigSep_Ico_succ_bot (show 12 + 1 < 14 by omega), Finset.Ico_self, bigSep_empty]
  iintro ⟨#HX, ⟨%T, %hT, Hat, Ha, H2, Hc1, Hc2, -⟩, HO⟩ Hk
  unfold ow
  icases HO with ⟨%W, HO⟩
  ihave HI := (Ctx_cell c (s := .reg (credS b)) (by rw [kind_cred]; simp)) $$ HX
  icases HI with ⟨HI, -⟩
  ihave HM := (Ctx_lev (m := m) (K := K) (ιs := ιs)) $$ HX
  ihave HM := (mayOwe_OwB (c := c) (b := b) (x := ⟨s, w, r, 12, cg⟩) (y := y) (h := h) {(.reg (credS b), 12), (.reg (credS b), 13)} (ℓ := 2000)
    (fun p hp => by
      rcases Finset.mem_insert.mp hp with rfl | hp
      · exact ⟨(lv_cred c b 12).le.trans (by omega), by omega⟩
      · rw [Finset.mem_singleton.mp hp]; exact ⟨(lv_cred c b 13).le.trans (by omega), by omega⟩)
      (.inl h1) (.inl h2) (.inl h3) (.inl h4) (.inl h5)) $$ HM
  iapply (Rounds.wp_wait_rest 𝒱₀ ER (Rd m) (c : Thread nD τ) none (κ := K (credCell c b))
      (wpE_semWait_eq 𝒱₀ (c : Thread nD τ) none Set.univ) (Set.mem_univ _) (cr := Finsupp.single 12 1 + Finsupp.single 13 1)
      (O := OwB c b ⟨s, w, r, 12, cg⟩ y h) (W := W) {(.reg (credS b), 12), (.reg (credS b), 13)} (R := 0) (m := 12) (T := T)
      (by rw [expect_eq m (kind_cred b)]; rfl) (by rw [Util.total_add, Util.total_single, Util.total_single])
      (by
        intro p hp
        obtain ⟨u, hu, rfl⟩ := Finset.mem_image.mp hp
        have hu := Finsupp.support_add hu
        rcases Finset.mem_union.mp hu with hu | hu
        · rw [Finset.mem_singleton.mp (Finsupp.support_single_subset hu)]; exact Finset.mem_insert_self _ _
        · rw [Finset.mem_singleton.mp (Finsupp.support_single_subset hu)]; exact Finset.mem_insert_of_mem (Finset.mem_singleton_self _)))
      $$ [HI Hc1 Hc2 HO HM Hat]
  · isplitl [HI]; · iexact HI
    isplitl [Hc1 Hc2]
    · rw [tallyOn_add]
      iapply (cred_add _ _).2
      isplitl [Hc1]; · iexact Hc1
      iexact Hc2
    isplitl [HO]; · iexact HO
    isplitl [HM]; · iexact HM
    iexact Hat
  iintro ⟨HO, Hat, -, -⟩
  iapply Hk
  isplitl [Hat]; · iexact Hat
  iexists _; iexact HO

theorem slot_nonempty (b : Bool) (n : ℕ) : (slotM b n).view.set.Nonempty :=
  ⟨(slotM b n).view.emb (fun a => ⟨0, by fin_cases a <;> decide⟩), Finset.mem_map_of_mem _ (Finset.mem_univ _)⟩

theorem slotAny_excl (c : Dev nD) (b : Bool) (n : ℕ) : iprop(slotAny c b n ∗ slotAny c b n) ⊢ (False : sProp 𝕄) := by
  unfold slotAny; exact Release.slot_slot_false (slot_nonempty b n)
theorem payK_cred (c : Dev nD) (b : Bool) (r j : ℕ) : payK (F := F) m c (.cred b) r j = availTo (dn b c) b (min (j + 3) 14) := rfl

/-- A unit of credit to the sender, giving up the slot its next transfer but one fills. -/
theorem g_credGive (b : Bool) {c c' : Dev nD} {j s w r cw : ℕ} {y : DS} {h : ℕ} (hc' : c' = up b c) (hj : j < 12) (hr : r = j + 1 ∨ r = j + 2)
    {α : Type} {Q : α → sProp 𝕄} {k : PUnit → Prog (TpuEff nD τ sig (Elt F) Λ₀ .tc) α} :
    iprop(GB m K ιs c b ⟨s, w, r, cw, j⟩ y h ∗ slotAny c b j)
      ⊢ iprop((GB m K ιs c b ⟨s, w, r, cw, j + 1⟩ y h -∗ WP c (k ⟨⟩) Q)
          -∗ WP c (.op (.semSignal (c' : Thread nD τ) (credS b) 1) k) Q) := by
  subst hc'
  iintro ⟨HG, Hsl⟩ Hk
  ihave HG := (GB_open c b _ y h) $$ HG
  unfold Dir CrG
  dsimp only
  rw [bigSep_Ico_succ_bot (show j < 14 by omega)]
  icases HG with ⟨#HX, ⟨Hkit, Hps, Hpd, Hrk, Hpr, Hcw, ⟨⟨Ht, Hts⟩, #Hav, Hr0, Hr1⟩⟩, Hoth, HO⟩
  unfold ow
  icases HO with ⟨%W, HO⟩
  ihave Hpr := (Pos_reached (recvCell_mod c b) (n := r) (k := j) (r := j / 2 + 1) (by omega)) $$ Hpr
  icases Hpr with ⟨Hrr, Hpr⟩
  ihave HI := (Ctx_cell (up b c) (s := .reg (credS b)) (by rw [kind_cred]; simp)) $$ HX
  icases HI with ⟨HI, HI0⟩
  ihave HI3 := (Ctx_slot c b j) $$ HX
  iapply fupd_wp
  imod (show iprop(Release.slotInv ES (ιs (key c b j)) (key c b j) (slotAny c b j) ∗ slotAny c b j
      ∗ Release.readerAt ES (key c b 0) (1 + (min j 12 + 1) / 2) ∗ Release.readerAt ES (key c b 1) (1 + min j 12 / 2))
      ⊢ iprop(|={Set.univ}=> (iprop(Release.released ES (key c b (j + 2)) ((j + 2) / 2 + 1)
        ∗ Release.readerAt ES (key c b 0) (1 + (min (j + 1) 12 + 1) / 2) ∗ Release.readerAt ES (key c b 1) (1 + min (j + 1) 12 / 2)) : sProp 𝕄)) from by
    have hk : key c b (j + 2) = key c b j := by unfold key; rw [Nat.add_mod_right]
    rw [hk, show min j 12 = j by omega, show min (j + 1) 12 = j + 1 by omega, show (j + 2) / 2 + 1 = 1 + j / 2 + 1 by omega]
    rcases (show j % 2 = 0 ∨ j % 2 = 1 by omega) with hj2 | hj2
    · have hk0 : key c b 0 = key c b j := by unfold key; rw [hj2]
      rw [hk0, show (j + 1) / 2 = j / 2 by omega, show 1 + (j + 1 + 1) / 2 = 1 + j / 2 + 1 by omega]
      iintro ⟨HI, HS, H0, H1⟩
      imod (Release.slot_release (E := ES) (Set.mem_univ _) (slotAny_excl c b j) (1 + j / 2)) $$ [HI HS H0] with ⟨H0, HR⟩
      · isplitl [HI]; · iexact HI
        isplitl [H0]; · iexact H0
        iexact HS
      imodintro
      isplitl [HR]; · iexact HR
      isplitl [H0]; · iexact H0
      iexact H1
    · have hk0 : key c b 1 = key c b j := by unfold key; rw [hj2]
      rw [hk0, show (j + 1 + 1) / 2 = (j + 1) / 2 by omega, show 1 + (j + 1) / 2 = 1 + j / 2 + 1 by omega]
      iintro ⟨HI, HS, H0, H1⟩
      imod (Release.slot_release (E := ES) (Set.mem_univ _) (slotAny_excl c b j) (1 + j / 2)) $$ [HI HS H1] with ⟨H1, HR⟩
      · isplitl [HI]; · iexact HI
        isplitl [H1]; · iexact H1
        iexact HS
      imodintro
      isplitl [HR]; · iexact HR
      isplitl [H0]; · iexact H0
      iexact H1) $$ [HI3 Hsl Hr0 Hr1] with ⟨#HR, Hr0, Hr1⟩
  · isplitl [HI3]; · iexact HI3
    isplitl [Hsl]; · iexact Hsl
    isplitl [Hr0]; · iexact Hr0
    iexact Hr1
  imodintro
  have hav : (availTo c b (min (j + 1 + 2) 14) : sProp 𝕄) = iprop(avail c b (j + 2) ∗ availTo c b (min (j + 2) 14)) := by
    unfold availTo
    rw [show min (j + 1 + 2) 14 = j + 2 + 1 by omega, show min (j + 2) 14 = j + 2 by omega, bigSep_range_succ]
  ihave #Hav' : (availTo c b (min (j + 1 + 2) 14) : sProp 𝕄) $$ [Hav HR Hrr]
  · rw [hav]
    isplitl [Hrr]
    · unfold avail
      have hcell : recvCell c b (j + 2) = recvCell c b j := by rw [← recvCell_mod c b (j + 2), Nat.add_mod_right, recvCell_mod]
      rw [hcell, show (j + 2) / 2 = j / 2 + 1 by omega]
      isplitr
      · rw [show j / 2 + 1 + 1 = (j + 2) / 2 + 1 by omega]; iexact HR
      iexact Hrr
    iexact Hav
  iapply (Rounds.wp_signal 𝒱₀ ER (Rd m) (c : Thread nD τ) none (dst := (up b c : Thread nD τ)) (κ := K (credCell (up b c) b)) (r := 0) (d := j)
    (by rw [duties_eq m (kind_cred b)]; exact Finset.mem_range.mpr (by omega)) (amount_eq m (kind_cred b) _ _) j
    (OwB c b ⟨s, w, r, cw, j + 1⟩ y h) (OwB_cred c b y (by omega)) (W := W)) $$ [HI HO Ht HI0]
  · isplitl [HI]; · iexact HI
    isplitl [HO]; · iexact HO
    isplitl [Ht]; · iexact Ht
    isplitr
    · rw [payload_eq m (kind_cred b)]
      have hp : payK (F := F) m (up b c) (.cred b) 0 j = availTo c b (min (j + 1 + 2) 14) := by rw [payK_cred, dn_up]
      dsimp only
      rw [hp]
      iexact Hav'
    iexact HI0
  iintro HO
  iapply Hk
  iapply (GB_close c b _ y h)
  unfold Dir CrG ow
  dsimp only
  isplitr; · iexact HX
  isplitr [Hoth HO]
  · isplitl [Hkit]; · iexact Hkit
    isplitl [Hps]; · iexact Hps
    isplitl [Hpd]; · iexact Hpd
    isplitl [Hrk]; · iexact Hrk
    isplitl [Hpr]; · iexact Hpr
    isplitl [Hcw]; · iexact Hcw
    isplitl [Hts]; · iexact Hts
    isplitr; · iexact Hav'
    isplitl [Hr0]; · iexact Hr0
    iexact Hr1
  isplitl [Hoth]; · iexact Hoth
  iexists _; iexact HO

/-- The last two units of credit bring nothing new. -/
theorem g_credLast (b : Bool) {c c' : Dev nD} {j s w r cw : ℕ} {y : DS} {h : ℕ} (hc' : c' = up b c) (hj : 12 ≤ j) (hj' : j < 14)
    {α : Type} {Q : α → sProp 𝕄} {k : PUnit → Prog (TpuEff nD τ sig (Elt F) Λ₀ .tc) α} :
    (GB m K ιs c b ⟨s, w, r, cw, j⟩ y h)
      ⊢ iprop((GB m K ιs c b ⟨s, w, r, cw, j + 1⟩ y h -∗ WP c (k ⟨⟩) Q)
          -∗ WP c (.op (.semSignal (c' : Thread nD τ) (credS b) 1) k) Q) := by
  subst hc'
  iintro HG Hk
  ihave HG := (GB_open c b _ y h) $$ HG
  unfold Dir CrG
  dsimp only
  rw [bigSep_Ico_succ_bot (show j < 14 by omega)]
  icases HG with ⟨#HX, ⟨Hkit, Hps, Hpd, Hrk, Hpr, Hcw, ⟨⟨Ht, Hts⟩, #Hav, Hr0, Hr1⟩⟩, Hoth, HO⟩
  unfold ow
  icases HO with ⟨%W, HO⟩
  ihave HI := (Ctx_cell (up b c) (s := .reg (credS b)) (by rw [kind_cred]; simp)) $$ HX
  icases HI with ⟨HI, HI0⟩
  iapply (Rounds.wp_signal 𝒱₀ ER (Rd m) (c : Thread nD τ) none (dst := (up b c : Thread nD τ)) (κ := K (credCell (up b c) b)) (r := 0) (d := j)
    (by rw [duties_eq m (kind_cred b)]; exact Finset.mem_range.mpr (by omega)) (amount_eq m (kind_cred b) _ _) j
    (OwB c b ⟨s, w, r, cw, j + 1⟩ y h) (OwB_cred c b y (by omega)) (W := W)) $$ [HI HO Ht HI0]
  · isplitl [HI]; · iexact HI
    isplitl [HO]; · iexact HO
    isplitl [Ht]; · iexact Ht
    isplitr
    · rw [payload_eq m (kind_cred b)]
      have hp : payK (F := F) m (up b c) (.cred b) 0 j = availTo c b (min (j + 2) 14) := by
        rw [payK_cred, dn_up, show min (j + 3) 14 = min (j + 2) 14 by omega]
      dsimp only
      rw [hp]
      iexact Hav
    iexact HI0
  iintro HO
  iapply Hk
  iapply (GB_close c b _ y h)
  unfold Dir CrG ow
  dsimp only
  rw [show min (j + 1 + 2) 14 = min (j + 2) 14 by omega, show min (j + 1) 12 = min j 12 by omega]
  isplitr; · iexact HX
  isplitr [Hoth HO]
  · isplitl [Hkit]; · iexact Hkit
    isplitl [Hps]; · iexact Hps
    isplitl [Hpd]; · iexact Hpd
    isplitl [Hrk]; · iexact Hrk
    isplitl [Hpr]; · iexact Hpr
    isplitl [Hcw]; · iexact Hcw
    isplitl [Hts]; · iexact Hts
    isplitr; · iexact Hav
    isplitl [Hr0]; · iexact Hr0
    iexact Hr1
  isplitl [Hoth]; · iexact Hoth
  iexists _; iexact HO

end Cert.RingProof

end
-- ==== Proof.Steps3.lean ====
/-
  The rules for the barrier, for the local copies to the result, for the ring of maxima, for loads and stores.
-/
module

public import proofs.«01_k».proof.Proof.Steps2

@[expose] public section

noncomputable section

namespace Cert.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {K : GSem nD τ sig → ℕ} {ιs : Key → ℕ}

/-- The shared facts are at hand. -/
theorem G_ctx (c : Dev nD) (x y : DS) (h : ℕ) : G (F := F) m K ιs c x y h ⊢ iprop(Ctx m K ιs ∗ G m K ιs c x y h) := by
  unfold G
  iintro ⟨#HX, H⟩
  isplitr; · iexact HX
  isplitr; · iexact HX
  iexact H

/-! ## The barrier -/

/-- The first unit, to the left neighbour: the right ring's two free slots, and the rows of the maxima's buffer. -/
theorem bar_sigL {c c' : Dev nD} (hc' : c' = prv c) {α : Type} {Q : α → sProp 𝕄} {k : PUnit → Prog (TpuEff nD τ sig (Elt F) Λ₀ .tc) α} :
    iprop(Ctx m K ιs ∗ ow c (O₀ c) ∗ dutyTok ER (barCell (prv c)) 0 1 ∗ availTo c true 2 ∗ rowsAny c)
      ⊢ iprop((ow c (Ow c 0 0 0 0 0 + tallyAt (barCell (nxt c)) 0 1) -∗ WP c (k ⟨⟩) Q)
          -∗ WP c (.op (.semSignal (c' : Thread nD τ) barS 1) k) Q) := by
  subst hc'
  unfold ow
  iintro ⟨#HX, ⟨%W, HO⟩, Ht, Ha, Hr⟩ Hk
  ihave HI := (Ctx_cell (prv c) (s := .reg barS) (by rw [kind_bar]; simp)) $$ HX
  icases HI with ⟨HI, HI0⟩
  iapply (Rounds.wp_signal 𝒱₀ ER (Rd m) (c : Thread nD τ) none (dst := (prv c : Thread nD τ)) (κ := K (barCell (prv c))) (r := 0) (d := 1)
    (by rw [duties_eq m kind_bar]; decide) (amount_eq m kind_bar _ _) 0
    (Ow c 0 0 0 0 0 + tallyAt (barCell (nxt c)) 0 1) rfl (W := W)) $$ [HI HO Ht HI0 Ha Hr]
  · isplitl [HI]; · iexact HI
    isplitl [HO]; · iexact HO
    isplitl [Ht]; · iexact Ht
    isplitl [Ha Hr]
    · rw [payload_eq m kind_bar, show payK (F := F) m (prv c) .bar 0 1 = iprop(availTo (nxt (prv c)) true 2 ∗ rowsAny (nxt (prv c))) from rfl, nxt_prv]
      isplitl [Ha]; · iexact Ha
      iexact Hr
    iexact HI0
  iintro HO
  iapply Hk
  iexists _; iexact HO

/-- The second, to the right neighbour: the left ring's two free slots. -/
theorem bar_sigR {c c' : Dev nD} (hc' : c' = nxt c) {α : Type} {Q : α → sProp 𝕄} {k : PUnit → Prog (TpuEff nD τ sig (Elt F) Λ₀ .tc) α} :
    iprop(Ctx m K ιs ∗ ow c (Ow c 0 0 0 0 0 + tallyAt (barCell (nxt c)) 0 1) ∗ dutyTok ER (barCell (nxt c)) 0 0 ∗ availTo c false 2)
      ⊢ iprop((ow c (Ow c 0 0 0 0 0) -∗ WP c (k ⟨⟩) Q)
          -∗ WP c (.op (.semSignal (c' : Thread nD τ) barS 1) k) Q) := by
  subst hc'
  unfold ow
  iintro ⟨#HX, ⟨%W, HO⟩, Ht, Ha⟩ Hk
  ihave HI := (Ctx_cell (nxt c) (s := .reg barS) (by rw [kind_bar]; simp)) $$ HX
  icases HI with ⟨HI, HI0⟩
  iapply (Rounds.wp_signal 𝒱₀ ER (Rd m) (c : Thread nD τ) none (dst := (nxt c : Thread nD τ)) (κ := K (barCell (nxt c))) (r := 0) (d := 0)
    (by rw [duties_eq m kind_bar]; decide) (amount_eq m kind_bar _ _) 0
    (Ow c 0 0 0 0 0) rfl (W := W)) $$ [HI HO Ht HI0 Ha]
  · isplitl [HI]; · iexact HI
    isplitl [HO]; · iexact HO
    isplitl [Ht]; · iexact Ht
    isplitl [Ha]
    · rw [payload_eq m kind_bar, show payK (F := F) m (nxt c) .bar 0 0 = availTo (prv (nxt c)) false 2 from rfl, prv_nxt]
      iexact Ha
    iexact HI0
  iintro HO
  iapply Hk
  iexists _; iexact HO

/-- The wait for both neighbours. -/
theorem bar_wait {c : Dev nD} {α : Type} {Q : α → sProp 𝕄} {k : PUnit → Prog (TpuEff nD τ sig (Elt F) Λ₀ .tc) α} :
    iprop(Ctx m K ιs ∗ ow c (Ow c 0 0 0 0 0) ∗ cred (tallyAt (barCell c) 0 2) ∗ atPos ER (barCell c) 0 ∅ 0)
      ⊢ iprop((iprop(ow c (Ow c 0 0 0 0 0) ∗ atPos ER (barCell c) 1 ∅ 0 ∗ availTo (dn true c) true 2 ∗ availTo (dn false c) false 2 ∗ rowsAny (nxt c))
            -∗ WP c (k ⟨⟩) Q)
          -∗ WP c (.op (.semWait barS 2) k) Q) := by
  unfold ow
  iintro ⟨#HX, ⟨%W, HO⟩, Hc, Hat⟩ Hk
  ihave HI := (Ctx_cell c (s := .reg barS) (by rw [kind_bar]; simp)) $$ HX
  icases HI with ⟨HI, HI0⟩
  ihave HM := (Ctx_lev (m := m) (K := K) (ιs := ιs)) $$ HX
  ihave HM := (mayOwe_Ow (c := c) (n := 0) (n' := 0) (j := 0) (j' := 0) (h := 0) {(.reg barS, 0)} (ℓ := 1)
    (fun p hp => by rw [Finset.mem_singleton.mp hp]; exact ⟨(lv_bar c 0).le, by omega⟩)
      (.inr (by omega)) (.inr (by omega)) (.inr (by omega)) (.inr (by omega)) (.inr (by omega))) $$ HM
  iapply (Rounds.wp_wait_rest_token 𝒱₀ ER (Rd m) (c : Thread nD τ) none (κ := K (barCell c))
      (wpE_semWait_eq 𝒱₀ (c : Thread nD τ) none Set.univ) (Set.mem_univ _) 0 (O := Ow c 0 0 0 0 0) (W := W) (R := 0) (m := 0) (T := ∅)
      (by rw [expect_eq m kind_bar]; rfl)) $$ [HI HO Hc HM Hat]
  · isplitl [HI]; · iexact HI
    isplitl [Hc]; · iexact Hc
    isplitl [HO]; · iexact HO
    isplitl [HM]; · iexact HM
    iexact Hat
  have hp : bigSep ((Rd m).duties (barCell c) 0 \ ∅) (fun d => (Rd m).payload (barCell c) 0 d)
      = (iprop(availTo (prv c) false 2 ∗ availTo (nxt c) true 2 ∗ rowsAny (nxt c)) : sProp 𝕄) := by
    rw [Finset.sdiff_empty, duties_eq m (g := barCell c) kind_bar, show dutK .bar 0 = insert 0 {1} from rfl,
      bigSep_insert (by decide), bigSep_singleton]
    rfl
  iintro ⟨HO, Hat, -, Hp⟩
  ihave Hp := (Entails.of_eq hp) $$ Hp
  icases Hp with ⟨Hf, Ht, Hr⟩
  iapply Hk
  isplitl [HO]; · iexists _; iexact HO
  isplitl [Hat]; · iexact Hat
  isplitl [Ht]; · iexact Ht
  isplitl [Hf]; · iexact Hf
  iexact Hr

/-! ## Local copies to the result -/

variable (m) in
/-- A direction's tiles: `s` stored, `w` of the stores awaited. -/
def Sto (c : Dev nD) (b : Bool) (s w : ℕ) : sProp 𝕄 :=
  iprop(bigSep (Finset.Ico s 8) (fun t => iprop(dutyTok ER (storCell c b t) (t / 2) 0 ∗ tileAny c b (gk b c t))) ∗ Pos (storCell c b) w
    ∗ (if w < s then cred (tallyAt (storCell c b w) 0 NF) else iprop(emp)) ∗ bigSep (Finset.range w) (tilePts m c b))

theorem dut_stor {i : ℕ} (h : i < 8) (b : Bool) : dutK (.stor b (i % 2)) (i / 2) = {0} := if_pos (by omega)

theorem g_store (b : Bool) {c : Dev nD} {t : ℕ} (ht : t < 8)
    {src : Memref sig .tc .vmem S512x4096 .f32} (hsrc : src = cM b) {dst : Memref sig .tc .hbm S512x4096 .f32} (hdst : dst = tileM b (gk b c t))
    {q : DmaSem sig} (hq : q = storS b t) {hsw : src.view.WordExact} {hdw : dst.view.WordExact}
    {hsem : DmaTarget.Typed .vmem (.dma q) (.here (nD := nD) (p := (.tc : Proc τ)) dst)}
    {α : Type} {Q : α → sProp 𝕄} {k : PUnit → Prog (TpuEff nD τ sig (Elt F) Λ₀ .tc) α} :
    iprop(Ctx m K ιs ∗ Sto m c b t t ∗ accPts c b (tile m b t c))
      ⊢ iprop((Sto m c b (t + 1) t -∗ WP c (k ⟨⟩) Q)
          -∗ WP c (.op (.enqueueDma src (.here dst) (.dma q) hsw hdw hsem) k) Q) := by
  subst hsrc hdst hq
  unfold Sto accPts
  rw [bigSep_Ico_succ_bot ht, if_pos (Nat.lt_succ_self t)]
  iintro ⟨#HX, ⟨⟨⟨Htok, Htile⟩, Hrest⟩, Hpos, -, Hdone⟩, Hacc⟩ Hk
  ihave HI := (Ctx_cell c (s := .dma (storS b t)) (by rw [kind_stor]; simp)) $$ HX
  icases HI with ⟨HI, -⟩
  ihave Hpos := (Pos_reached (storCell_mod c b) (n := t) (k := t) (r := t / 2) (by omega)) $$ Hpos
  icases Hpos with ⟨Hr, Hpos⟩
  unfold tileAny
  icases Htile with ⟨%fd, Htile⟩
  iapply (Rounds.wp_copy_pointsTo 𝒱₀ ER (Rd m) (c : Thread nD τ) none (κ := K (storCell c b t)) (r := t / 2) (d := 0) (fd := fd)
    (by rw [duties_eq m (kind_stor b t), dut_stor ht]; exact Finset.mem_singleton_self _)
    0 NF rfl (by rw [amount_eq m (kind_stor b t)]; rfl)
    (by
      rw [payload_eq m (kind_stor b t), payK_stor, acc_read]
      unfold tilePts accPts
      rw [pointsTo_congr (tile_write m b c ⟨t, ht⟩ fd)])) $$ [HI Hacc Htile Htok Hr]
  · isplitl [HI]; · iexact HI
    isplitl [Hacc]; · iexact Hacc
    isplitl [Htile]; · iexact Htile
    isplitl [Htok]; · iexact Htok
    iexact Hr
  iintro Hc
  iapply Hk
  isplitl [Hrest]; · iexact Hrest
  isplitl [Hpos]; · iexact Hpos
  isplitl [Hc]; · iexact Hc
  iexact Hdone

/-- The store in flight: the accumulator comes back, the tile is done. -/
theorem g_waitStore (b : Bool) {c : Dev nD} {t : ℕ} (ht : t < 8) {x y : DS} {h : ℕ} {q : DmaSem sig} (hq : q = storS b t)
    {sp sp' : Space} {s' : Shape} {e' : EltTy} {src : Memref sig .tc sp s' e'} {dst : Memref sig .tc sp' S512x4096 .f32}
    {hsrc : src.view.WordExact} {hdst : dst.view.WordExact}
    {α : Type} {Q : α → sProp 𝕄} {k : PUnit → Prog (TpuEff nD τ sig (Elt F) Λ₀ .tc) α} :
    iprop(G m K ιs c x y h ∗ Sto m c b (t + 1) t)
      ⊢ iprop((iprop(G m K ιs c x y h ∗ Sto m c b (t + 1) (t + 1) ∗ accPts c b (tile m b t c)) -∗ WP c (k ⟨⟩) Q)
          -∗ WP c (.op (.waitDma2 q src dst hsrc hdst) k) Q) := by
  subst hq
  unfold Sto G
  rw [if_pos (Nat.lt_succ_self t), if_neg (Nat.lt_irrefl _)]
  iintro ⟨⟨#HX, Hd1, Hd2, HO⟩, ⟨Hrest, Hpos, Hc, Hdone⟩⟩ Hk
  ihave Hpos := (Pos_take (storCell_mod c b) t) $$ Hpos
  icases Hpos with ⟨Hat, Hpos⟩
  iapply (st_wait (m := m) (K := K) (ιs := ιs) (r := t / 2) (u := 0) (kind_stor b t) (by simp) (dut_stor ht b)
    (mayOwe_Ow (n := x.s) (n' := y.s) (j := x.cg) (j' := y.cg) (h := h) _ (ℓ := 0)
      (fun p hp => by rw [Finset.mem_singleton.mp hp]; exact ⟨(lv_stor c b t 0).le, Nat.succ_pos _⟩)
      (.inr (by omega)) (.inr (by omega)) (.inr (by omega)) (.inr (by omega)) (.inr (by omega))) (hN := rfl)) $$ [HX Hc HO Hat]
  · isplitr; · iexact HX
    isplitl [Hc]; · iexact Hc
    isplitl [HO]; · iexact HO
    iexact Hat
  rw [payK_stor]
  iintro ⟨HO, Hat, Hr, Htile, Hacc⟩
  ihave Hpos := wand_elim_left $$ [Hpos Hat Hr]
  · isplitl [Hpos]; · iexact Hpos
    isplitl [Hat]; · iexact Hat
    iexact Hr
  iapply Hk
  isplitl [Hd1 Hd2 HO]
  · isplitr; · iexact HX
    isplitl [Hd1]; · iexact Hd1
    isplitl [Hd2]; · iexact Hd2
    iexact HO
  isplitr [Hacc]
  · isplitl [Hrest]; · iexact Hrest
    isplitl [Hpos]; · iexact Hpos
    isplitr; · iempintro
    rw [bigSep_range_succ]
    isplitl [Htile]; · iexact Htile
    iexact Hdone
  iexact Hacc

/-! ## The ring of maxima -/

/-- What steps `h` on need. -/
def AmK (c : Dev nD) (h : ℕ) : sProp 𝕄 :=
  bigSep (Finset.Ico h 7) (fun i => iprop(dutyTok ER (amSCell c i) 0 0 ∗ dutyTok ER (amRCell (nxt c) i) 0 0 ∗ rowAny (nxt c) i
    ∗ cred (tallyAt (amRCell c i) i NA) ∗ atPos ER (amSCell c i) 0 ∅ 0 ∗ atPos ER (amRCell c i) 0 ∅ 0))
/-- What the steps before `h` leave. -/
def AmD (c : Dev nD) (h : ℕ) : sProp 𝕄 :=
  bigSep (Finset.range h) (fun i => iprop(atPos ER (amSCell c i) 1 ∅ 0 ∗ atPos ER (amRCell c i) 1 ∅ 0 ∗ rowAny c i))

theorem g_amSend {c c' : Dev nD} {h : ℕ} {x y : DS} (hc' : c' = nxt c) (hh : h < 7)
    {src : Memref sig .tc .vmem S8x128 .f32} (hsrc : src = rowM 7)
    {dst : Memref sig (Dev.tc c' : Thread nD τ).2.kind .vmem S8x128 .f32} (hdst : dst = rowM h)
    {qs qr : DmaSem sig} (hqs : qs = amSS h) (hqr : qr = amRS h)
    {hsc : dst.view.ref.isScScratch = false} {hsw : src.view.WordExact} {hdw : dst.view.WordExact}
    {hsem : DmaTarget.Typed .vmem (.dma qr) (.remote (Dev.tc c' : Thread nD τ) dst (.dma qs) hsc)}
    {α : Type} {Q : α → sProp 𝕄} {k : PUnit → Prog (TpuEff nD τ sig (Elt F) Λ₀ .tc) α} :
    iprop(G m K ιs c x y h ∗ AmK c h ∗ rowPts c 7 (Mx m h c))
      ⊢ iprop((iprop(G m K ιs c x y (h + 1) ∗ AmK c (h + 1) ∗ cred (tallyAt (amSCell c h) 0 NA) ∗ cred (tallyAt (amRCell c h) h NA)
              ∗ atPos ER (amSCell c h) 0 ∅ 0 ∗ atPos ER (amRCell c h) 0 ∅ 0) -∗ WP c (k ⟨⟩) Q)
          -∗ WP c (.op (.enqueueDma src (.remote (Dev.tc c' : Thread nD τ) dst (.dma qs) hsc) (.dma qr) hsw hdw hsem) k) Q) := by
  subst hc' hsrc hdst hqs hqr
  unfold AmK G ow
  rw [bigSep_Ico_succ_bot hh]
  have hm7 : h % 7 = h := Nat.mod_eq_of_lt hh
  iintro ⟨⟨#HX, Hd1, Hd2, ⟨%W, HO⟩⟩, ⟨⟨Hts, Htr, Hrow', Hcr, Hps, Hpr⟩, Hkit⟩, Hrow⟩ Hk
  unfold rowAny
  icases Hrow' with ⟨%fd, Hrow'⟩
  ihave HI1 := (Ctx_cell c (s := .dma (amSS h)) (by rw [kind_amS]; simp)) $$ HX
  icases HI1 with ⟨HI1, HI1r⟩
  ihave HI2 := (Ctx_cell (nxt c) (s := .dma (amRS h)) (by rw [kind_amR]; simp)) $$ HX
  icases HI2 with ⟨HI2, HI2r⟩
  unfold rowPts
  iapply (Rounds.wp_send_pointsTo 𝒱₀ ER (Rd m) (c : Thread nD τ) none (κ₁ := K (amSCell c h)) (κ₂ := K (amRCell (nxt c) h))
    (r₁ := 0) (r₂ := 0) (d₁ := 0) (d₂ := 0) (fd := fd)
    (by rw [duties_eq m (kind_amS h)]; exact Finset.mem_singleton_self _)
    (by rw [duties_eq m (kind_amR h)]; exact Finset.mem_singleton_self _)
    h 0 NA rfl (by rw [amount_eq m (kind_amS h)]; rfl) (by rw [amount_eq m (kind_amR h)]; rfl)
    (Ow c x.s y.s x.cg y.cg (h + 1)) (Ow_am c hh) (W := W)
    (by rw [payload_eq m (kind_amS h), hm7]; exact Entails.refl _)
    (by
      rw [payload_eq m (kind_amR h), hm7, show payK (F := F) m (nxt c) (.amR h) 0 0 = rowPts (nxt c) h (Mx m h (prv (nxt c))) from rfl, prv_nxt]
      unfold rowPts
      rw [pointsTo_congr (row_write h 7 fd (Mx m h c))])) $$ [HI1 HI2 Hrow Hrow' HO Hts Htr HI1r HI2r]
  · isplitl [HI1]; · iexact HI1
    isplitl [HI2]; · iexact HI2
    isplitl [Hrow]; · iexact Hrow
    isplitl [Hrow']; · iexact Hrow'
    isplitl [HO]; · iexact HO
    isplitl [Hts]; · iexact Hts
    isplitl [HI1r]; · iexact HI1r
    isplitl [Htr]; · iexact Htr
    iexact HI2r
  iintro ⟨Hc, HO⟩
  iapply Hk
  isplitl [Hd1 Hd2 HO]
  · isplitr; · iexact HX
    isplitl [Hd1]; · iexact Hd1
    isplitl [Hd2]; · iexact Hd2
    iexists _; iexact HO
  isplitl [Hkit]; · iexact Hkit
  isplitl [Hc]; · iexact Hc
  isplitl [Hcr]; · iexact Hcr
  isplitl [Hps]; · iexact Hps
  iexact Hpr

theorem g_amWaitS {c : Dev nD} {h h' : ℕ} {x y : DS} (hh : h < 7) {q : DmaSem sig} (hq : q = amSS h)
    {sp sp' : Space} {s' : Shape} {e' : EltTy} {src : Memref sig .tc sp s' e'} {dst : Memref sig .tc sp' S8x128 .f32}
    {hsrc : src.view.WordExact} {hdst : dst.view.WordExact}
    {α : Type} {Q : α → sProp 𝕄} {k : PUnit → Prog (TpuEff nD τ sig (Elt F) Λ₀ .tc) α} :
    iprop(G m K ιs c x y h' ∗ cred (tallyAt (amSCell c h) 0 NA) ∗ atPos ER (amSCell c h) 0 ∅ 0)
      ⊢ iprop((iprop(G m K ιs c x y h' ∗ atPos ER (amSCell c h) 1 ∅ 0 ∗ rowPts c 7 (Mx m h c)) -∗ WP c (k ⟨⟩) Q)
          -∗ WP c (.op (.waitDma2 q src dst hsrc hdst) k) Q) := by
  subst hq
  unfold G
  iintro ⟨⟨#HX, Hd1, Hd2, HO⟩, Hc, Hat⟩ Hk
  iapply (st_wait (m := m) (K := K) (ιs := ιs) (r := 0) (u := 0) (kind_amS h) (by simp) rfl
    (mayOwe_Ow (n := x.s) (n' := y.s) (j := x.cg) (j' := y.cg) (h := h') _ (ℓ := 0)
      (fun p hp => by rw [Finset.mem_singleton.mp hp]; exact ⟨(lv_amS c h 0).le, Nat.succ_pos _⟩)
      (.inr (by omega)) (.inr (by omega)) (.inr (by omega)) (.inr (by omega)) (.inr (by omega))) (hN := rfl)) $$ [HX Hc HO Hat]
  · isplitr; · iexact HX
    isplitl [Hc]; · iexact Hc
    isplitl [HO]; · iexact HO
    iexact Hat
  rw [Nat.mod_eq_of_lt hh, show payK (F := F) m c (.amS h) 0 0 = rowPts c 7 (Mx m h c) from rfl]
  iintro ⟨HO, Hat, -, Hrow⟩
  iapply Hk
  isplitl [Hd1 Hd2 HO]
  · isplitr; · iexact HX
    isplitl [Hd1]; · iexact Hd1
    isplitl [Hd2]; · iexact Hd2
    iexact HO
  isplitl [Hat]; · iexact Hat
  iexact Hrow

theorem g_amWaitR {c : Dev nD} {h : ℕ} {x y : DS} (hh : h < 7) (h1 : 7 ≤ x.s) (h2 : 7 ≤ y.s) (h3 : 6 ≤ x.cg) (h4 : 6 ≤ y.cg)
    {q : DmaSem sig} (hq : q = amRS h)
    {sp sp' : Space} {s' : Shape} {e' : EltTy} {src : Memref sig .tc sp s' e'} {dst : Memref sig .tc sp' S8x128 .f32}
    {hsrc : src.view.WordExact} {hdst : dst.view.WordExact}
    {α : Type} {Q : α → sProp 𝕄} {k : PUnit → Prog (TpuEff nD τ sig (Elt F) Λ₀ .tc) α} :
    iprop(G m K ιs c x y (h + 1) ∗ cred (tallyAt (amRCell c h) h NA) ∗ atPos ER (amRCell c h) 0 ∅ 0)
      ⊢ iprop((iprop(G m K ιs c x y (h + 1) ∗ atPos ER (amRCell c h) 1 ∅ 0 ∗ rowPts c h (Mx m h (prv c))) -∗ WP c (k ⟨⟩) Q)
          -∗ WP c (.op (.waitDma2 q src dst hsrc hdst) k) Q) := by
  subst hq
  unfold G
  have hm7 : h % 7 = h := Nat.mod_eq_of_lt hh
  iintro ⟨⟨#HX, Hd1, Hd2, HO⟩, Hc, Hat⟩ Hk
  iapply (st_wait (m := m) (K := K) (ιs := ιs) (r := 0) (u := h) (kind_amR h) (by simp) rfl
    (mayOwe_Ow (n := x.s) (n' := y.s) (j := x.cg) (j' := y.cg) (h := h + 1) _ (ℓ := 720 + h)
      (fun p hp => by rw [Finset.mem_singleton.mp hp]; exact ⟨((lv_amR c h h).trans (by rw [hm7])).le, by omega⟩)
      (.inr (by omega)) (.inr (by omega)) (.inr (by omega)) (.inr (by omega)) (.inr (by omega))) (hN := rfl)) $$ [HX Hc HO Hat]
  · isplitr; · iexact HX
    isplitl [Hc]; · iexact Hc
    isplitl [HO]; · iexact HO
    iexact Hat
  rw [hm7, show payK (F := F) m c (.amR h) 0 0 = rowPts c h (Mx m h (prv c)) from rfl]
  iintro ⟨HO, Hat, -, Hrow⟩
  iapply Hk
  isplitl [Hd1 Hd2 HO]
  · isplitr; · iexact HX
    isplitl [Hd1]; · iexact Hd1
    isplitl [Hd2]; · iexact Hd2
    iexact HO
  isplitl [Hat]; · iexact Hat
  iexact Hrow

/-! ## Loads and stores -/

variable (m) in
/-- The operands' blocks. -/
def xPts (c : Dev nD) : sProp 𝕄 := (xM).view.loc (c : Thread nD τ) ↦{fullShare} (xB m c)
variable (m) in
def wPts (c : Dev nD) : sProp 𝕄 := (wM).view.loc (c : Thread nD τ) ↦{fullShare} (wB m c)
/-- Buffers at some contents. -/
def sendAny (c : Dev nD) (b : Bool) : sProp 𝕄 := iprop(∃ f, (sM b).view.loc (c : Thread nD τ) ↦{fullShare} f)
def accAny (c : Dev nD) (b : Bool) : sProp 𝕄 := iprop(∃ f, (cM b).view.loc (c : Thread nD τ) ↦{fullShare} f)
/-- An accumulator whose left half was just stored. -/
def accLo (c : Dev nD) (b : Bool) (u : Vec F S512x2048 .f32) : sProp 𝕄 :=
  iprop(∃ f, (cM b).view.loc (c : Thread nD τ) ↦{fullShare} (((cM b).access (hR 0)).write (Elt F) f u Finset.univ))

theorem s_univ (b : Bool) : (sM b).view.set = Finset.univ := by cases b <;> exact View.set_whole _
theorem c_univ (b : Bool) : (cM b).view.set = Finset.univ := by cases b <;> exact View.set_whole _

theorem sendAny_of (c : Dev nD) (b : Bool) (v : Vec F S512x4096 .bf16) : sendPts fullShare c b v ⊢ (sendAny c b : sProp 𝕄) := by
  unfold sendPts sendAny
  rw [s_univ]
  iintro H; iexists _; iexact H
theorem accAny_of (c : Dev nD) (b : Bool) (v : Vec F S512x4096 .f32) : accPts c b v ⊢ (accAny c b : sProp 𝕄) := by
  unfold accPts accAny
  rw [c_univ]
  iintro H; iexists _; iexact H

theorem setOn_access {sp : Space} {s : Shape} {e : EltTy} (M : Memref sig .tc sp s e) (r : Rect s) : M.view.setOn r.set ⊆ (M.access r).set := by
  rw [show (M.access r).set = _ from View.set_slice _ r]; exact Finset.Subset.refl _

theorem ld_x {α : Type} {Q : α → sProp 𝕄} {c : Dev nD} (n : ℕ) {M : Memref sig .tc .vmem S4096x512 .bf16} (hM : M = xM) {off : Fin 2 → ℕ} {hin}
    (hoff : off = ![512 * (n % 8), 0]) {hl} {k : Vec F S512x512 .bf16 → Prog (TpuEff nD τ sig (Elt F) Λ₀ .tc) α} :
    (xPts m c : sProp 𝕄) ⊢ iprop((xPts m c -∗ WP c (k (rows (xB m c) n)) Q)
      -∗ WP c (.op (.load M (Rect.unit (s := S4096x512) off S512x512.size hin).toLoadRect hl) k) Q) := by
  subst hM hoff
  exact wp_load 𝒱₀ (c : Thread nD τ) none Set.univ (m := xM) (Finset.subset_univ _)
theorem ld_w {α : Type} {Q : α → sProp 𝕄} {c : Dev nD} (j : Fin 4) {M : Memref sig .tc .vmem S512x8192 .bf16} (hM : M = wM) {off : Fin 2 → ℕ} {hin}
    (hoff : off = ![0, 2048 * j.val]) {hl} {k : Vec F S512x2048 .bf16 → Prog (TpuEff nD τ sig (Elt F) Λ₀ .tc) α} :
    (wPts m c : sProp 𝕄) ⊢ iprop((wPts m c -∗ WP c (k (cols (wB m c) j)) Q)
      -∗ WP c (.op (.load M (Rect.unit (s := S512x8192) off S512x2048.size hin).toLoadRect hl) k) Q) := by
  subst hM hoff
  exact wp_load 𝒱₀ (c : Thread nD τ) none Set.univ (m := wM) (Finset.subset_univ _)

/-- Loads whose value nobody uses. -/
theorem ld_accAny {α : Type} {Q : α → sProp 𝕄} {c : Dev nD} (b : Bool) {M : Memref sig .tc .vmem S512x4096 .f32} (hM : M = cM b) {r : LoadRect S512x4096} {hl}
    {k : (r.shape.Idx → Elt F .f32) → Prog (TpuEff nD τ sig (Elt F) Λ₀ .tc) α} :
    (accAny c b : sProp 𝕄) ⊢ iprop((∀ v, accAny c b -∗ WP c (k v) Q) -∗ WP c (.op (.load M r hl) k) Q) := by
  subst hM
  unfold accAny
  iintro ⟨%f, H⟩ Hk
  iapply (wp_load 𝒱₀ (c : Thread nD τ) none Set.univ (m := cM b) (Finset.subset_univ _)) $$ H
  iintro H
  iapply Hk; iexists _; iexact H
theorem ld_accLo {α : Type} {Q : α → sProp 𝕄} {c : Dev nD} (b : Bool) {u : Vec F S512x2048 .f32} {M : Memref sig .tc .vmem S512x4096 .f32} (hM : M = cM b) {r : LoadRect S512x4096} {hl}
    {k : (r.shape.Idx → Elt F .f32) → Prog (TpuEff nD τ sig (Elt F) Λ₀ .tc) α} :
    (accLo c b u : sProp 𝕄) ⊢ iprop((∀ v, accLo c b u -∗ WP c (k v) Q) -∗ WP c (.op (.load M r hl) k) Q) := by
  subst hM
  unfold accLo
  iintro ⟨%f, H⟩ Hk
  iapply (wp_load 𝒱₀ (c : Thread nD τ) none Set.univ (m := cM b) (Finset.subset_univ _)) $$ H
  iintro H
  iapply Hk; iexists _; iexact H
theorem ld_sendAny {α : Type} {Q : α → sProp 𝕄} {c : Dev nD} (b : Bool) {M : Memref sig .tc .vmem S512x4096 .bf16} (hM : M = sM b) {r : LoadRect S512x4096} {hl}
    {k : (r.shape.Idx → Elt F .bf16) → Prog (TpuEff nD τ sig (Elt F) Λ₀ .tc) α} :
    (sendAny c b : sProp 𝕄) ⊢ iprop((∀ v, sendAny c b -∗ WP c (k v) Q) -∗ WP c (.op (.load M r hl) k) Q) := by
  subst hM
  unfold sendAny
  iintro ⟨%f, H⟩ Hk
  iapply (wp_load 𝒱₀ (c : Thread nD τ) none Set.univ (m := sM b) (Finset.subset_univ _)) $$ H
  iintro H
  iapply Hk; iexists _; iexact H

theorem ld_acc {α : Type} {Q : α → sProp 𝕄} {c : Dev nD} (b : Bool) {v : Vec F S512x4096 .f32} {M : Memref sig .tc .vmem S512x4096 .f32} (hM : M = cM b) {off : Fin 2 → ℕ} {hin}
    (hoff : off = ![0, 0]) {hl} {k : Vec F S512x4096 .f32 → Prog (TpuEff nD τ sig (Elt F) Λ₀ .tc) α} :
    (accPts c b v : sProp 𝕄) ⊢ iprop((accPts c b v -∗ WP c (k v) Q)
      -∗ WP c (.op (.load M (Rect.unit (s := S512x4096) off S512x4096.size hin).toLoadRect hl) k) Q) := by
  subst hM hoff
  unfold accPts
  rw [c_univ]
  iintro H Hk
  iapply (wp_load 𝒱₀ (c : Thread nD τ) none Set.univ (m := cM b) (r := fR.toLoadRect)
    (q := fullShare) (f := accBuf b v) (Finset.subset_univ _)) $$ H
  rw [acc_load]
  iexact Hk
theorem ld_send {α : Type} {Q : α → sProp 𝕄} {c : Dev nD} (b : Bool) {q : PosShare TreeShare} {v : Vec F S512x4096 .bf16} {M : Memref sig .tc .vmem S512x4096 .bf16} (hM : M = sM b)
    {off : Fin 2 → ℕ} {hin} (hoff : off = ![0, 0]) {hl} {k : Vec F S512x4096 .bf16 → Prog (TpuEff nD τ sig (Elt F) Λ₀ .tc) α} :
    (sendPts q c b v : sProp 𝕄) ⊢ iprop((sendPts q c b v -∗ WP c (k v) Q)
      -∗ WP c (.op (.load M (Rect.unit (s := S512x4096) off S512x4096.size hin).toLoadRect hl) k) Q) := by
  subst hM hoff
  unfold sendPts
  rw [s_univ]
  iintro H Hk
  iapply (wp_load 𝒱₀ (c : Thread nD τ) none Set.univ (m := sM b) (r := fR.toLoadRect)
    (q := q) (f := sendBuf b v) (Finset.subset_univ _)) $$ H
  rw [send_load]
  iexact Hk
theorem ld_sendHalf {α : Type} {Q : α → sProp 𝕄} {c : Dev nD} (b : Bool) (j : Fin 2) {q : PosShare TreeShare} {v : Vec F S512x4096 .bf16}
    {M : Memref sig .tc .vmem S512x4096 .bf16} (hM : M = sM b) {off : Fin 2 → ℕ} {hin} (hoff : off = ![0, 2048 * j.val]) {hl}
    {k : Vec F S512x2048 .bf16 → Prog (TpuEff nD τ sig (Elt F) Λ₀ .tc) α} :
    (sendPts q c b v : sProp 𝕄) ⊢ iprop((sendPts q c b v -∗ WP c (k (half v j)) Q)
      -∗ WP c (.op (.load M (Rect.unit (s := S512x4096) off S512x2048.size hin).toLoadRect hl) k) Q) := by
  subst hM hoff
  unfold sendPts
  rw [s_univ]
  iintro H Hk
  iapply (wp_load 𝒱₀ (c : Thread nD τ) none Set.univ (m := sM b) (r := (hR j).toLoadRect)
    (q := q) (f := sendBuf b v) (Finset.subset_univ _)) $$ H
  rw [send_half]
  iexact Hk
theorem ld_slot {α : Type} {Q : α → sProp 𝕄} {c : Dev nD} (b : Bool) (n : ℕ) {q : PosShare TreeShare} {v : Vec F S512x4096 .bf16}
    {M : Memref sig .tc .vmem S2x512x4096 .bf16} (hM : M = rM b) {off : Fin 3 → ℕ} {hin} (hoff : off = ![n % 2, 0, 0]) {hl}
    {k : Vec F S1x512x4096 .bf16 → Prog (TpuEff nD τ sig (Elt F) Λ₀ .tc) α} :
    (slotPts q c b n v : sProp 𝕄) ⊢ iprop((slotPts q c b n v -∗ WP c (k (lift1 v)) Q)
      -∗ WP c (.op (.load M (Rect.unit (s := S2x512x4096) off S1x512x4096.size hin).toLoadRect hl) k) Q) := by
  subst hM hoff
  unfold slotPts
  iintro H Hk
  iapply (wp_load 𝒱₀ (c : Thread nD τ) none Set.univ (m := rM b) (r := (slotR n).toLoadRect)
    (S := (slotM b n).view.set) (q := q) (f := slotBuf b v) (by rw [slot_set]; exact setOn_access _ _)) $$ H
  rw [slot_load]
  iexact Hk
theorem ld_slotHalf {α : Type} {Q : α → sProp 𝕄} {c : Dev nD} (b : Bool) (n : ℕ) (j : Fin 2) {q : PosShare TreeShare} {v : Vec F S512x4096 .bf16}
    {M : Memref sig .tc .vmem S512x4096 .bf16} (hM : M = slotM b n) {off : Fin 2 → ℕ} {hin} (hoff : off = ![0, 2048 * j.val]) {hl}
    {k : Vec F S512x2048 .bf16 → Prog (TpuEff nD τ sig (Elt F) Λ₀ .tc) α} :
    (slotPts q c b n v : sProp 𝕄) ⊢ iprop((slotPts q c b n v -∗ WP c (k (half v j)) Q)
      -∗ WP c (.op (.load M (Rect.unit (s := S512x4096) off S512x2048.size hin).toLoadRect hl) k) Q) := by
  subst hM hoff
  unfold slotPts
  iintro H Hk
  iapply (wp_load 𝒱₀ (c : Thread nD τ) none Set.univ (m := slotM b n) (r := (hR j).toLoadRect)
    (S := (slotM b n).view.set) (q := q) (f := slotBuf b v) (View.setOn_subset_set _ _)) $$ H
  rw [slot_half]
  iexact Hk
theorem ld_row {α : Type} {Q : α → sProp 𝕄} {c : Dev nD} (n : ℕ) {v : Vec F S1x8x128 .f32} {M : Memref sig .tc .vmem S8x8x128 .f32} (hM : M = aM)
    {off : Fin 3 → ℕ} {hin} (hoff : off = ![n % 8, 0, 0]) {hl} {k : Vec F S1x8x128 .f32 → Prog (TpuEff nD τ sig (Elt F) Λ₀ .tc) α} :
    (rowPts c n v : sProp 𝕄) ⊢ iprop((rowPts c n v -∗ WP c (k v) Q)
      -∗ WP c (.op (.load M (Rect.unit (s := S8x8x128) off S1x8x128.size hin).toLoadRect hl) k) Q) := by
  subst hM hoff
  unfold rowPts
  iintro H Hk
  iapply (wp_load 𝒱₀ (c : Thread nD τ) none Set.univ (m := aM) (r := (rowR n).toLoadRect)
    (S := (rowM n).view.set) (q := fullShare) (f := dupA v) (by rw [row_set]; exact setOn_access _ _)) $$ H
  rw [row_load]
  iexact Hk
theorem ld_rowAny {α : Type} {Q : α → sProp 𝕄} {c : Dev nD} (n : ℕ) {M : Memref sig .tc .vmem S8x8x128 .f32} (hM : M = aM)
    {off : Fin 3 → ℕ} {hin} (hoff : off = ![n % 8, 0, 0]) {hl} {k : Vec F S1x8x128 .f32 → Prog (TpuEff nD τ sig (Elt F) Λ₀ .tc) α} :
    (rowAny c n : sProp 𝕄) ⊢ iprop((∀ v, rowAny c n -∗ WP c (k v) Q)
      -∗ WP c (.op (.load M (Rect.unit (s := S8x8x128) off S1x8x128.size hin).toLoadRect hl) k) Q) := by
  subst hM hoff
  unfold rowAny
  iintro ⟨%f, H⟩ Hk
  iapply (wp_load 𝒱₀ (c : Thread nD τ) none Set.univ (m := aM) (r := (rowR n).toLoadRect)
    (S := (rowM n).view.set) (by rw [row_set]; exact setOn_access _ _)) $$ H
  iintro H
  iapply Hk; iexists _; iexact H

theorem st_lo {α : Type} {Q : α → sProp 𝕄} {c : Dev nD} (b : Bool) {u : Vec F S512x2048 .f32} {M : Memref sig .tc .vmem S512x4096 .f32} (hM : M = cM b) {off : Fin 2 → ℕ} {hin}
    (hoff : off = ![0, 0]) {hx hm} {k : PUnit → Prog (TpuEff nD τ sig (Elt F) Λ₀ .tc) α} :
    (accAny c b : sProp 𝕄) ⊢ iprop((accLo c b u -∗ WP c (k ⟨⟩) Q)
      -∗ WP c (.op (.store M (Rect.unit (s := S512x4096) off S512x2048.size hin) u Finset.univ hx hm) k) Q) := by
  subst hM hoff
  unfold accAny accLo
  iintro ⟨%f, H⟩ Hk
  iapply (wp_store 𝒱₀ (c : Thread nD τ) none Set.univ (m := cM b) (r := hR 0) (Mk := Finset.univ) (Finset.subset_univ _)) $$ H
  iintro H
  iapply Hk; iexists _; iexact H
theorem st_hi {α : Type} {Q : α → sProp 𝕄} {c : Dev nD} (b : Bool) {u v : Vec F S512x2048 .f32} {M : Memref sig .tc .vmem S512x4096 .f32} (hM : M = cM b) {off : Fin 2 → ℕ} {hin}
    (hoff : off = ![0, 2048]) {hx hm} {k : PUnit → Prog (TpuEff nD τ sig (Elt F) Λ₀ .tc) α} :
    (accLo c b u : sProp 𝕄) ⊢ iprop((accPts c b (halves u v) -∗ WP c (k ⟨⟩) Q)
      -∗ WP c (.op (.store M (Rect.unit (s := S512x4096) off S512x2048.size hin) v Finset.univ hx hm) k) Q) := by
  subst hM hoff
  unfold accLo accPts
  rw [c_univ]
  iintro ⟨%f, H⟩ Hk
  iapply (wp_store 𝒱₀ (c : Thread nD τ) none Set.univ (m := cM b) (r := hR 1) (Mk := Finset.univ) (Finset.subset_univ _)) $$ H
  rw [acc_halves]
  iexact Hk
theorem st_sendBuf {α : Type} {Q : α → sProp 𝕄} {c : Dev nD} (b : Bool) {v : Vec F S512x4096 .bf16} {M : Memref sig .tc .vmem S512x4096 .bf16} (hM : M = sM b) {off : Fin 2 → ℕ} {hin}
    (hoff : off = ![0, 0]) {hx hm} {k : PUnit → Prog (TpuEff nD τ sig (Elt F) Λ₀ .tc) α} :
    (sendAny c b : sProp 𝕄) ⊢ iprop((sendPts fullShare c b v -∗ WP c (k ⟨⟩) Q)
      -∗ WP c (.op (.store M (Rect.unit (s := S512x4096) off S512x4096.size hin) v Finset.univ hx hm) k) Q) := by
  subst hM hoff
  unfold sendAny sendPts
  rw [s_univ]
  iintro ⟨%f, H⟩ Hk
  iapply (wp_store 𝒱₀ (c : Thread nD τ) none Set.univ (m := sM b) (r := fR) (Mk := Finset.univ) (Finset.subset_univ _)) $$ H
  rw [send_store]
  iexact Hk
theorem st_row {α : Type} {Q : α → sProp 𝕄} {c : Dev nD} (n : ℕ) {v : Vec F S1x8x128 .f32} {M : Memref sig .tc .vmem S8x8x128 .f32} (hM : M = aM)
    {off : Fin 3 → ℕ} {hin} (hoff : off = ![n % 8, 0, 0]) {hx hm} {k : PUnit → Prog (TpuEff nD τ sig (Elt F) Λ₀ .tc) α} :
    (rowAny c n : sProp 𝕄) ⊢ iprop((rowPts c n v -∗ WP c (k ⟨⟩) Q)
      -∗ WP c (.op (.store M (Rect.unit (s := S8x8x128) off S1x8x128.size hin) v Finset.univ hx hm) k) Q) := by
  subst hM hoff
  unfold rowAny rowPts
  iintro ⟨%f, H⟩ Hk
  iapply (wp_store 𝒱₀ (c : Thread nD τ) none Set.univ (m := aM) (r := rowR n) (Mk := Finset.univ)
    (S := (rowM n).view.set) (by rw [row_set]; exact Finset.Subset.refl _)) $$ H
  iintro H
  iapply Hk
  ihave H := (Entails.of_eq (pointsTo_congr (row_store n f v))) $$ H
  iexact H
theorem rowAny_of (c : Dev nD) (n : ℕ) (v : Vec F S1x8x128 .f32) : rowPts c n v ⊢ (rowAny c n : sProp 𝕄) := by
  unfold rowPts rowAny
  iintro H; iexists _; iexact H
theorem slotAny_of (c : Dev nD) (b : Bool) (n : ℕ) (v : Vec F S512x4096 .bf16) : slotPts fullShare c b n v ⊢ (slotAny c b n : sProp 𝕄) := by
  unfold slotPts slotAny Release.slot
  iintro H; iexists _; iexact H

/-- Two half shares. -/
theorem sendPts_share (c : Dev nD) (b : Bool) (v : Vec F S512x4096 .bf16) :
    (sendPts fullShare c b v : sProp 𝕄) ⊣⊢ iprop(sendPts fullShare.left c b v ∗ sendPts fullShare.right c b v) := by
  unfold sendPts
  exact pointsTo_share (PosShare.mem_left_op_right fullShare)
theorem slotPts_share (c : Dev nD) (b : Bool) (n : ℕ) (v : Vec F S512x4096 .bf16) :
    (slotPts fullShare c b n v : sProp 𝕄) ⊣⊢ iprop(slotPts fullShare.left c b n v ∗ slotPts fullShare.right c b n v) := by
  unfold slotPts
  exact pointsTo_share (PosShare.mem_left_op_right fullShare)

end Cert.RingProof

end
-- ==== Proof.Body1.lean ====
/-
  The kernel's start and the first step of the ring of partial sums.
-/
module

public import proofs.«01_k».proof.Proof.Steps3

@[expose] public section

noncomputable section

namespace Cert.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {K : GSem nD τ sig → ℕ} {ιs : Key → ℕ}

theorem ret_WP {c : Dev nD} {α : Type} {Q : α → sProp 𝕄} {a : α} : Q a ⊢ WP c (.ret a) Q := fupd_intro

/-! ## Transfers in the two phases -/

theorem src_send {c : Dev nD} {b : Bool} {n : ℕ} (hn : n < 8) (q : PosShare TreeShare) :
    (srcPts m q c b n : sProp 𝕄) = sendPts q c b (V m b n c) := if_pos hn
theorem src_slot {c : Dev nD} {b : Bool} {n : ℕ} (hn : 8 ≤ n) (q : PosShare TreeShare) :
    (srcPts m q c b n : sProp 𝕄) = slotPts q c b (n + 1) (V m b n c) := if_neg (Nat.not_lt.mpr hn)

/-- A transfer out of the send buffer. -/
theorem g_sendS (b : Bool) {c c' : Dev nD} {n r cw cg : ℕ} {y : DS} {h : ℕ} (hc' : c' = dn b c) (hn : n < 8) (hcw : n < 2 ∨ n ≤ cw + 1)
    {src : Memref sig .tc .vmem S512x4096 .bf16} (hsrc : src = sM b)
    {dst : Memref sig (Dev.tc c' : Thread nD τ).2.kind .vmem S512x4096 .bf16} (hdst : dst = slotM b n)
    {qs qr : DmaSem sig} (hqs : qs = sendS b n) (hqr : qr = recvS b n)
    {hsc : dst.view.ref.isScScratch = false} {hsw : src.view.WordExact} {hdw : dst.view.WordExact}
    {hsem : DmaTarget.Typed .vmem (.dma qr) (.remote (Dev.tc c' : Thread nD τ) dst (.dma qs) hsc)}
    {α : Type} {Q : α → sProp 𝕄} {k : PUnit → Prog (TpuEff nD τ sig (Elt F) Λ₀ .tc) α} :
    iprop(GB m K ιs c b ⟨n, n, r, cw, cg⟩ y h ∗ sendPts fullShare.left c b (V m b n c))
      ⊢ iprop((GB m K ιs c b ⟨n + 1, n, r, cw, cg⟩ y h -∗ WP c (k ⟨⟩) Q)
          -∗ WP c (.op (.enqueueDma src (.remote (Dev.tc c' : Thread nD τ) dst (.dma qs) hsc) (.dma qr) hsw hdw hsem) k) Q) := by
  subst hsrc
  rw [← src_send hn]
  exact g_send b hc' (by omega) hcw hdst (src := sM b) (fs := sendBuf b (V m b n c)) (src_send hn _) (send_read b _) hqs hqr
theorem slot_src {c : Dev nD} {b : Bool} {n : ℕ} (hn : 8 ≤ n) {src : Memref sig .tc .vmem S512x4096 .bf16} (hsrc : src = slotM b (n + 1)) :
    ∃ fs : Buf (Elt F) (src.view.loc (c : Thread nD τ)),
      srcPts m fullShare.left c b n = (src.view.loc (c : Thread nD τ) ↦[src.view.set]{fullShare.left} fs) ∧ src.view.read (Elt F) fs = V m b n c := by
  subst hsrc
  refine ⟨slotBuf b (V m b n c), ?_, slot_read b (n + 1) (V m b n c)⟩
  rw [src_slot hn]; unfold slotPts; rfl
/-- A transfer passing on the slot that landed before. -/
theorem g_sendR (b : Bool) {c c' : Dev nD} {n r cw cg : ℕ} {y : DS} {h : ℕ} (hc' : c' = dn b c) (hn : 8 ≤ n) (hn' : n < 14) (hcw : n < 2 ∨ n ≤ cw + 1)
    {src : Memref sig .tc .vmem S512x4096 .bf16} (hsrc : src = slotM b (n + 1))
    {dst : Memref sig (Dev.tc c' : Thread nD τ).2.kind .vmem S512x4096 .bf16} (hdst : dst = slotM b n)
    {qs qr : DmaSem sig} (hqs : qs = sendS b n) (hqr : qr = recvS b n)
    {hsc : dst.view.ref.isScScratch = false} {hsw : src.view.WordExact} {hdw : dst.view.WordExact}
    {hsem : DmaTarget.Typed .vmem (.dma qr) (.remote (Dev.tc c' : Thread nD τ) dst (.dma qs) hsc)}
    {α : Type} {Q : α → sProp 𝕄} {k : PUnit → Prog (TpuEff nD τ sig (Elt F) Λ₀ .tc) α} :
    iprop(GB m K ιs c b ⟨n, n, r, cw, cg⟩ y h ∗ slotPts fullShare.left c b (n + 1) (V m b n c))
      ⊢ iprop((GB m K ιs c b ⟨n + 1, n, r, cw, cg⟩ y h -∗ WP c (k ⟨⟩) Q)
          -∗ WP c (.op (.enqueueDma src (.remote (Dev.tc c' : Thread nD τ) dst (.dma qs) hsc) (.dma qr) hsw hdw hsem) k) Q) := by
  obtain ⟨fs, h1, h2⟩ := slot_src (m := m) (c := c) hn hsrc
  rw [← src_slot hn]
  exact g_send b hc' hn' hcw hdst h1 h2 hqs hqr

/-- A device's starting share of a direction's protocol. -/
def DirT (c : Dev nD) (b : Bool) : sProp 𝕄 :=
  iprop(SendKit c b 0 ∗ Pos (sendCell c b) 0 ∗ RecvKit c b 0 ∗ Pos (recvCell c b) 0 ∗ atPos ER (credCell c b) 0 ∅ 0
    ∗ bigSep (Finset.Ico 0 14) (fun j => cred (tallyAt (credCell c b) j 1)) ∗ bigSep (Finset.Ico 0 14) (fun i => dutyTok ER (credCell (up b c) b) 0 i))
/-- A reader's two slots. -/
def RdS (c : Dev nD) (b : Bool) (n : ℕ) : sProp 𝕄 := iprop(Release.readerAt ES (key c b 0) n ∗ Release.readerAt ES (key c b 1) n)

/-- The two slots of a direction are given up for their first landings. -/
theorem dir_release (c : Dev nD) (b : Bool) :
    iprop(Ctx m K ιs ∗ RdS c b 0 ∗ slotAny c b 0 ∗ slotAny c b 1) ⊢ |={Set.univ}=> iprop(RdS c b 1 ∗ availTo c b 2) := by
  unfold RdS
  iintro ⟨#HX, ⟨H0, H1⟩, Hs0, Hs1⟩
  ihave HI0 := (Ctx_slot c b 0) $$ HX
  ihave HI1 := (Ctx_slot c b 1) $$ HX
  ihave HR0 := (Ctx_cell c (s := .dma (recvS b 0)) (by rw [kind_recv]; simp)) $$ HX
  icases HR0 with ⟨-, HR0⟩
  ihave HR1 := (Ctx_cell c (s := .dma (recvS b 1)) (by rw [kind_recv]; simp)) $$ HX
  icases HR1 with ⟨-, HR1⟩
  imod (Release.slot_release (E := ES) (Set.mem_univ _) (slotAny_excl c b 0) 0) $$ [HI0 H0 Hs0] with ⟨H0, #Hr0⟩
  · isplitl [HI0]; · iexact HI0
    isplitl [H0]; · iexact H0
    iexact Hs0
  imod (Release.slot_release (E := ES) (Set.mem_univ _) (slotAny_excl c b 1) 0) $$ [HI1 H1 Hs1] with ⟨H1, #Hr1⟩
  · isplitl [HI1]; · iexact HI1
    isplitl [H1]; · iexact H1
    iexact Hs1
  imodintro
  isplitl [H0 H1]
  · isplitl [H0]; · iexact H0
    iexact H1
  unfold availTo avail
  rw [bigSep_range_succ, bigSep_range_succ, Finset.range_zero, bigSep_empty]
  isplitl [HR1]
  · isplitr; · iexact Hr1
    iexact HR1
  isplitl [HR0]
  · isplitr; · iexact Hr0
    iexact HR0
  iempintro

/-- With the neighbour's slots known free, a direction is ready. -/
theorem dir_ready (c : Dev nD) (b : Bool) :
    iprop(DirT c b ∗ RdS c b 1 ∗ availTo c b 2 ∗ availTo (dn b c) b 2) ⊢ (Dir c b ⟨0, 0, 0, 0, 0⟩ : sProp 𝕄) := by
  unfold DirT RdS Dir CrW CrG Pend
  iintro ⟨⟨H1, H2, H3, H4, H5, H6, H7⟩, ⟨H8, H9⟩, H10, H11⟩
  isplitl [H1]; · iexact H1
  isplitl [H2]; · iexact H2
  isplitr; · iempintro
  isplitl [H3]; · iexact H3
  isplitl [H4]; · iexact H4
  isplitl [H5 H6 H11]
  · iexists ∅
    isplitr; · ipureintro; exact ⟨Finset.empty_subset _, Nat.zero_le _⟩
    isplitl [H5]; · iexact H5
    isplitr; · rw [bigSep_empty]; iempintro
    isplitl [H11]; · iexact H11
    iexact H6
  isplitl [H7]; · iexact H7
  isplitl [H10]; · iexact H10
  isplitl [H8]; · iexact H8
  iexact H9

/-- The barrier's share. -/
def BarT (c : Dev nD) : sProp 𝕄 :=
  iprop(dutyTok ER (barCell (prv c)) 0 1 ∗ dutyTok ER (barCell (nxt c)) 0 0 ∗ cred (tallyAt (barCell c) 0 2) ∗ atPos ER (barCell c) 0 ∅ 0)

theorem off1_at (c : Dev nD) : k0_off1 c = ![512 * (c.val % 8), 0] := by
  rw [k0_off1_eq, Nat.mod_eq_of_lt (show c.val < 8 from c.isLt)]

variable (m K ιs) in
/-- The start's precondition. -/
def Start (c : Dev nD) : sProp 𝕄 :=
  iprop(Ctx m K ιs ∗ ow c (O₀ c) ∗ BarT c ∗ rowsAny c ∗ DirT c true ∗ DirT c false ∗ RdS c true 1 ∗ RdS c false 1 ∗ availTo c true 2 ∗ availTo c false 2)

theorem part13 (c : Dev nD) {Q : _ → sProp 𝕄} :
    iprop(Start m K ιs c ∗ xPts m c ∗ wPts m c ∗ accAny c true)
      ⊢ iprop((∀ v2 v4 v7, iprop(G m K ιs c ⟨0, 0, 0, 0, 0⟩ ⟨0, 0, 0, 0, 0⟩ 0 ∗ atPos ER (barCell c) 1 ∅ 0 ∗ rowsAny (nxt c) ∗ xPts m c ∗ wPts m c
              ∗ accLo c true (quarter m c c.val 0)) -∗ Q ⟨c, v2, v4, v7, k0_pay35 (rows (xB m c) c.val) (cols (wB m c) 1)⟩)
          -∗ WP c (k0_part13 xM (Memref.isWhole_whole _) wM (Memref.isWhole_whole _) oM (Memref.isWhole_whole _) (sM true) (Memref.isWhole_whole _) (sM false) (Memref.isWhole_whole _) (rM true) (Memref.isWhole_whole _) (rM false) (Memref.isWhole_whole _) (cM true) (Memref.isWhole_whole _) (cM false) (Memref.isWhole_whole _) aM (Memref.isWhole_whole _) cc0_scratch7 cc0_scratch8 cc0_scratch9 cc0_scratch10 cc0_scratch11 cc0_scratch12 cc0_scratch13 cc0_scratch14 cc0_scratch15 cc0_scratch16) Q) := by
  rw [k0_part13_eq_skeleton]
  unfold k0_part13_skel
  simp only [semSignalWord, semWaitWord, Prog.lift, Prog.bind_op, Prog.bind_ret, Prog.pure_eq_ret, Prog.bind_assoc, wp_deviceId]
  unfold Start BarT
  iintro ⟨⟨#HX, HO, ⟨HtL, HtR, HbC, HbP⟩, HR, HD1, HD2, HS1, HS2, #Ha1, #Ha2⟩, X, W, A1⟩ Hk
  iapply (bar_sigL (m := m) (K := K) (ιs := ιs) (c := c) (Fin.ext (k0_dev1_eq c))) $$ [HX HO HtL Ha1 HR]
  · isplitl [HX]; · iexact HX
    isplitl [HO]; · iexact HO
    isplitl [HtL]; · iexact HtL
    isplitl [Ha1]; · iexact Ha1
    iexact HR
  iintro HO
  iapply (bar_sigR (m := m) (K := K) (ιs := ιs) (c := c) (Fin.ext (k0_dev2_eq c))) $$ [HX HO HtR Ha2]
  · isplitl [HX]; · iexact HX
    isplitl [HO]; · iexact HO
    isplitl [HtR]; · iexact HtR
    iexact Ha2
  iintro HO
  iapply (bar_wait (m := m) (K := K) (ιs := ιs) (c := c)) $$ [HX HO HbC HbP]
  · isplitl [HX]; · iexact HX
    isplitl [HO]; · iexact HO
    isplitl [HbC]; · iexact HbC
    iexact HbP
  iintro ⟨HO, HbP, Hn1, Hn2, HR⟩
  iapply (ld_x (m := m) (c.val) rfl (off1_at c)) $$ X
  iintro X
  iapply (ld_w (m := m) 0 rfl rfl) $$ W
  iintro W
  iapply (ld_accAny true rfl) $$ A1
  iintro %_ A1
  iapply (st_lo true rfl rfl) $$ A1
  iintro A1
  iapply (ld_w (m := m) 1 rfl rfl) $$ W
  iintro W
  iapply (ld_accLo true rfl) $$ A1
  iintro %_ A1
  iapply ret_WP
  iapply Hk
  isplitl [HO HD1 HD2 HS1 HS2 Hn1 Hn2]
  · unfold G
    isplitr; · iexact HX
    isplitl [HD1 HS1 Hn1]
    · iapply (dir_ready c true)
      isplitl [HD1]; · iexact HD1
      isplitl [HS1]; · iexact HS1
      isplitr; · iexact Ha1
      iexact Hn1
    isplitl [HD2 HS2 Hn2]
    · iapply (dir_ready c false)
      isplitl [HD2]; · iexact HD2
      isplitl [HS2]; · iexact HS2
      isplitr; · iexact Ha2
      iexact Hn2
    iexact HO
  isplitl [HbP]; · iexact HbP
  isplitl [HR]; · iexact HR
  isplitl [X]; · iexact X
  isplitl [W]; · iexact W
  iexact A1

theorem off2_0 (c : Dev nD) : k0_off2 c 15#32 = ![512 * (ck true c 0 % 8), 0] :=
  (k0_off2_eq c 1).trans (congrArg (fun k => ![512 * k, 0]) (Nat.mod_mod _ 8).symm)
theorem off2_1 (c : Dev nD) : k0_off2 c 14#32 = ![512 * (ck true c 1 % 8), 0] :=
  (k0_off2_eq c 0).trans (congrArg (fun k => ![512 * k, 0]) (Nat.mod_mod _ 8).symm)
theorem off3_0 (c : Dev nD) : k0_off3 c 0#32 = ![512 * (ck false c 0 % 8), 0] :=
  (k0_off3_eq c 0).trans (congrArg (fun k => ![512 * k, 0]) (Nat.mod_mod _ 8).symm)
theorem off3_1 (c : Dev nD) : k0_off3 c 1#32 = ![512 * (ck false c 1 % 8), 0] :=
  (k0_off3_eq c 1).trans (congrArg (fun k => ![512 * k, 0]) (Nat.mod_mod _ 8).symm)

theorem part14 (c : Dev nD) (v2 v4 : BitVec 32) {Q : _ → sProp 𝕄} :
    iprop(xPts m c ∗ wPts m c ∗ accLo c true (quarter m c c.val 0) ∗ accAny c false ∗ sendAny c true ∗ sendAny c false)
      ⊢ iprop((iprop(xPts m c ∗ wPts m c ∗ accAny c true ∗ accAny c false ∗ sendPts fullShare c true (V m true 0 c) ∗ sendPts fullShare c false (V m false 0 c)) -∗ Q ⟨⟩)
          -∗ WP c (k0_part14 xM (Memref.isWhole_whole _) wM (Memref.isWhole_whole _) oM (Memref.isWhole_whole _) (sM true) (Memref.isWhole_whole _) (sM false) (Memref.isWhole_whole _) (rM true) (Memref.isWhole_whole _) (rM false) (Memref.isWhole_whole _) (cM true) (Memref.isWhole_whole _) (cM false) (Memref.isWhole_whole _) aM (Memref.isWhole_whole _) cc0_scratch7 cc0_scratch8 cc0_scratch9 cc0_scratch10 cc0_scratch11 cc0_scratch12 cc0_scratch13 cc0_scratch14 cc0_scratch15 cc0_scratch16 c v2 v4 (k0_pay35 (rows (xB m c) c.val) (cols (wB m c) 1))) Q) := by
  rw [k0_part14_eq_skeleton]
  unfold k0_part14_skel
  simp only [semSignalWord, semWaitWord, Prog.lift, Prog.bind_op, Prog.bind_ret, Prog.pure_eq_ret, Prog.bind_assoc, wp_deviceId]
  iintro ⟨X, W, A1, A2, S1, S2⟩ Hk
  iapply (st_hi true rfl rfl) $$ A1
  iintro A1
  iapply (ld_x (m := m) (c.val) rfl (off1_at c)) $$ X
  iintro X
  iapply (ld_w (m := m) 2 rfl rfl) $$ W
  iintro W
  iapply (ld_accAny false rfl) $$ A2
  iintro %_ A2
  iapply (st_lo false rfl rfl) $$ A2
  iintro A2
  iapply (ld_w (m := m) 3 rfl rfl) $$ W
  iintro W
  iapply (ld_accLo false rfl) $$ A2
  iintro %_ A2
  iapply (st_hi false rfl rfl) $$ A2
  iintro A2
  iapply (ld_acc true rfl rfl) $$ A1
  iintro A1
  iapply (ld_sendAny true rfl) $$ S1
  iintro %_ S1
  iapply (st_sendBuf true rfl rfl) $$ S1
  iintro S1
  iapply (ld_acc false rfl rfl) $$ A2
  iintro A2
  iapply (ld_sendAny false rfl) $$ S2
  iintro %_ S2
  iapply (st_sendBuf false rfl rfl) $$ S2
  iintro S2
  ihave A1 := (accAny_of c true _) $$ A1
  ihave A2 := (accAny_of c false _) $$ A2
  iapply ret_WP
  iapply Hk
  isplitl [X]; · iexact X
  isplitl [W]; · iexact W
  isplitl [A1]; · iexact A1
  isplitl [A2]; · iexact A2
  isplitl [S1]; · iexact S1
  iexact S2

theorem part15 (c : Dev nD) (v2 v7 : BitVec 32) {Q : _ → sProp 𝕄} :
    iprop(G m K ιs c ⟨0, 0, 0, 0, 0⟩ ⟨0, 0, 0, 0, 0⟩ 0 ∗ xPts m c ∗ wPts m c ∗ sendPts fullShare c true (V m true 0 c) ∗ sendPts fullShare c false (V m false 0 c) ∗ accAny c true)
      ⊢ iprop((∀ v75, iprop(G m K ιs c ⟨1, 0, 0, 0, 0⟩ ⟨1, 0, 0, 0, 0⟩ 0 ∗ xPts m c ∗ wPts m c ∗ sendPts fullShare.right c true (V m true 0 c) ∗ sendPts fullShare.right c false (V m false 0 c) ∗ accLo c true (quarter m c (ck true c 0) 0)) -∗ Q ⟨v75, k0_pay44 (rows (xB m c) (ck true c 0)) (cols (wB m c) 1)⟩)
          -∗ WP c (k0_part15 xM (Memref.isWhole_whole _) wM (Memref.isWhole_whole _) oM (Memref.isWhole_whole _) (sM true) (Memref.isWhole_whole _) (sM false) (Memref.isWhole_whole _) (rM true) (Memref.isWhole_whole _) (rM false) (Memref.isWhole_whole _) (cM true) (Memref.isWhole_whole _) (cM false) (Memref.isWhole_whole _) aM (Memref.isWhole_whole _) cc0_scratch7 cc0_scratch8 cc0_scratch9 cc0_scratch10 cc0_scratch11 cc0_scratch12 cc0_scratch13 cc0_scratch14 cc0_scratch15 cc0_scratch16 c v2 v7) Q) := by
  rw [k0_part15_eq_skeleton]
  unfold k0_part15_skel
  simp only [semSignalWord, semWaitWord, Prog.lift, Prog.bind_op, Prog.bind_ret, Prog.pure_eq_ret, Prog.bind_assoc, wp_deviceId]
  iintro ⟨G, X, W, S1, S2, A1⟩ Hk
  ihave S1 := (sendPts_share c true _).1 $$ S1
  icases S1 with ⟨S1l, S1⟩
  iapply (g_sendS true (n := 0) (c := c) (Fin.ext (k0_dev3_eq c)) (by decide) (.inl (by decide)) rfl rfl rfl rfl) $$ [G S1l]
  · isplitl [G]; · iexact G
    iexact S1l
  iintro G
  ihave S2 := (sendPts_share c false _).1 $$ S2
  icases S2 with ⟨S2l, S2⟩
  iapply (g_sendS false (n := 0) (c := c) (Fin.ext (k0_dev4_eq c)) (by decide) (.inl (by decide)) rfl rfl rfl rfl) $$ [G S2l]
  · isplitl [G]; · iexact G
    iexact S2l
  iintro G
  iapply (ld_x (m := m) (ck true c 0) rfl (off2_0 c)) $$ X
  iintro X
  iapply (ld_w (m := m) 0 rfl rfl) $$ W
  iintro W
  iapply (ld_accAny true rfl) $$ A1
  iintro %_ A1
  iapply (st_lo true rfl rfl) $$ A1
  iintro A1
  iapply (ld_w (m := m) 1 rfl rfl) $$ W
  iintro W
  iapply ret_WP
  iapply Hk
  isplitl [G]; · iexact G
  isplitl [X]; · iexact X
  isplitl [W]; · iexact W
  isplitl [S1]; · iexact S1
  isplitl [S2]; · iexact S2
  iexact A1

theorem part16 (c : Dev nD) (v4 v75 : BitVec 32) {Q : _ → sProp 𝕄} :
    iprop(G m K ιs c ⟨1, 0, 0, 0, 0⟩ ⟨1, 0, 0, 0, 0⟩ 0 ∗ xPts m c ∗ wPts m c ∗ sendPts fullShare.right c true (V m true 0 c) ∗ accLo c true (quarter m c (ck true c 0) 0) ∗ accAny c false)
      ⊢ iprop((iprop(G m K ιs c ⟨1, 1, 1, 0, 0⟩ ⟨1, 0, 0, 0, 0⟩ 0 ∗ xPts m c ∗ wPts m c ∗ sendAny c true ∗ slotPts fullShare c true 0 (V m true 0 (up true c)) ∗ accPts c true (part m true c (ck true c 0)) ∗ accPts c false (part m false c (ck false c 0))) -∗ Q ⟨⟩)
          -∗ WP c (k0_part16 xM (Memref.isWhole_whole _) wM (Memref.isWhole_whole _) oM (Memref.isWhole_whole _) (sM true) (Memref.isWhole_whole _) (sM false) (Memref.isWhole_whole _) (rM true) (Memref.isWhole_whole _) (rM false) (Memref.isWhole_whole _) (cM true) (Memref.isWhole_whole _) (cM false) (Memref.isWhole_whole _) aM (Memref.isWhole_whole _) cc0_scratch7 cc0_scratch8 cc0_scratch9 cc0_scratch10 cc0_scratch11 cc0_scratch12 cc0_scratch13 cc0_scratch14 cc0_scratch15 cc0_scratch16 c v4 v75 (k0_pay44 (rows (xB m c) (ck true c 0)) (cols (wB m c) 1))) Q) := by
  rw [k0_part16_eq_skeleton]
  unfold k0_part16_skel
  simp only [semSignalWord, semWaitWord, Prog.lift, Prog.bind_op, Prog.bind_ret, Prog.pure_eq_ret, Prog.bind_assoc, wp_deviceId]
  iintro ⟨G, X, W, S1, A1, A2⟩ Hk
  iapply (ld_accLo true rfl) $$ A1
  iintro %_ A1
  iapply (st_hi true rfl rfl) $$ A1
  iintro A1
  iapply (ld_x (m := m) (ck false c 0) rfl (off3_0 c)) $$ X
  iintro X
  iapply (ld_w (m := m) 2 rfl rfl) $$ W
  iintro W
  iapply (ld_accAny false rfl) $$ A2
  iintro %_ A2
  iapply (st_lo false rfl rfl) $$ A2
  iintro A2
  iapply (ld_w (m := m) 3 rfl rfl) $$ W
  iintro W
  iapply (ld_accLo false rfl) $$ A2
  iintro %_ A2
  iapply (st_hi false rfl rfl) $$ A2
  iintro A2
  iapply (g_waitSend true (n := 0) (c := c) (by decide) rfl) $$ G
  iintro ⟨G, S1l⟩
  ihave S1l := (Entails.of_eq (src_send (by decide) _)) $$ S1l
  ihave S1 := (sendPts_share c true _).2 $$ [S1l S1]
  · isplitl [S1l]; · iexact S1l
    iexact S1
  ihave S1 := (sendAny_of c true _) $$ S1
  iapply (g_waitRecv true (n := 0) (c := c) (by decide) (by decide) (by decide) (by decide) (by decide) (by decide) rfl) $$ G
  iintro ⟨G, L1⟩
  iapply ret_WP
  iapply Hk
  isplitl [G]; · iexact G
  isplitl [X]; · iexact X
  isplitl [W]; · iexact W
  isplitl [S1]; · iexact S1
  isplitl [L1]; · iexact L1
  isplitl [A1]; · iexact A1
  iexact A2

theorem part17 (c : Dev nD) (v7 : BitVec 32) {Q : _ → sProp 𝕄} :
    iprop(G m K ιs c ⟨1, 1, 1, 0, 0⟩ ⟨1, 0, 0, 0, 0⟩ 0 ∗ sendAny c true ∗ sendPts fullShare.right c false (V m false 0 c) ∗ slotPts fullShare c true 0 (V m true 0 (up true c)) ∗ accPts c true (part m true c (ck true c 0)) ∗ accPts c false (part m false c (ck false c 0)))
      ⊢ iprop((∀ w, iprop(G m K ιs c ⟨1, 1, 1, 0, 0⟩ ⟨1, 1, 1, 0, 0⟩ 0 ∗ sendPts fullShare c true (V m true 1 c) ∗ sendPts fullShare c false (V m false 1 c) ∗ slotAny c true 0 ∗ slotAny c false 0 ∗ accAny c true ∗ accAny c false) -∗ Q w)
          -∗ WP c (k0_part17 xM (Memref.isWhole_whole _) wM (Memref.isWhole_whole _) oM (Memref.isWhole_whole _) (sM true) (Memref.isWhole_whole _) (sM false) (Memref.isWhole_whole _) (rM true) (Memref.isWhole_whole _) (rM false) (Memref.isWhole_whole _) (cM true) (Memref.isWhole_whole _) (cM false) (Memref.isWhole_whole _) aM (Memref.isWhole_whole _) cc0_scratch7 cc0_scratch8 cc0_scratch9 cc0_scratch10 cc0_scratch11 cc0_scratch12 cc0_scratch13 cc0_scratch14 cc0_scratch15 cc0_scratch16 v7) Q) := by
  rw [k0_part17_eq_skeleton]
  unfold k0_part17_skel
  simp only [semSignalWord, semWaitWord, Prog.lift, Prog.bind_op, Prog.bind_ret, Prog.pure_eq_ret, Prog.bind_assoc, wp_deviceId]
  iintro ⟨G, S1, S2, L1, A1, A2⟩ Hk
  iapply (g_waitSend false (n := 0) (c := c) (by decide) rfl) $$ G
  iintro ⟨G, S2l⟩
  ihave S2l := (Entails.of_eq (src_send (by decide) _)) $$ S2l
  ihave S2 := (sendPts_share c false _).2 $$ [S2l S2]
  · isplitl [S2l]; · iexact S2l
    iexact S2
  ihave S2 := (sendAny_of c false _) $$ S2
  iapply (g_waitRecv false (n := 0) (c := c) (by decide) (by decide) (by decide) (by decide) (by decide) (by decide) rfl) $$ G
  iintro ⟨G, L2⟩
  iapply (ld_acc true rfl rfl) $$ A1
  iintro A1
  iapply (ld_slot true (0) rfl rfl) $$ L1
  iintro L1
  iapply (ld_sendAny true rfl) $$ S1
  iintro %_ S1
  iapply (st_sendBuf true rfl rfl) $$ S1
  iintro S1
  iapply (ld_acc false rfl rfl) $$ A2
  iintro A2
  iapply (ld_slot false (0) rfl rfl) $$ L2
  iintro L2
  iapply (ld_sendAny false rfl) $$ S2
  iintro %_ S2
  iapply (st_sendBuf false rfl rfl) $$ S2
  iintro S2
  ihave L1 := (slotAny_of c true (0) _) $$ L1
  ihave L2 := (slotAny_of c false (0) _) $$ L2
  ihave A1 := (accAny_of c true _) $$ A1
  ihave A2 := (accAny_of c false _) $$ A2
  iapply ret_WP
  iapply Hk
  isplitl [G]; · iexact G
  isplitl [S1]; · iexact S1
  isplitl [S2]; · iexact S2
  isplitl [L1]; · iexact L1
  isplitl [L2]; · iexact L2
  isplitl [A1]; · iexact A1
  iexact A2

end Cert.RingProof

end
-- ==== Proof.Body2.lean ====
/-
  The remaining steps of the ring of partial sums.
-/
module

public import proofs.«01_k».proof.Proof.Body1

@[expose] public section

noncomputable section

namespace Cert.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {K : GSem nD τ sig → ℕ} {ιs : Key → ℕ}

theorem bind_WP {c : Dev nD} {α β : Type} {p : Prog (TpuEff nD τ sig (Elt F) Λ₀ .tc) β} {k : β → Prog (TpuEff nD τ sig (Elt F) Λ₀ .tc) α} {Q : α → sProp 𝕄} :
    WP c p (fun a => WP c (k a) Q) ⊢ WP c (p >>= k) Q := Entails.of_eq (wp_bind _ _ _ _ _ _).symm

variable (m K ιs) in
/-- Before step `k + 2` of the ring: both running sums in the send buffers. -/
def RS (c : Dev nD) (k : ℕ) : sProp 𝕄 :=
  iprop(G m K ιs c ⟨k + 2, k + 2, k + 2, k, k + 2⟩ ⟨k + 2, k + 2, k + 2, k, k + 2⟩ 0 ∗ xPts m c ∗ wPts m c
    ∗ sendPts fullShare c true (V m true (k + 2) c) ∗ sendPts fullShare c false (V m false (k + 2) c) ∗ accAny c true ∗ accAny c false)

theorem slotM_off {b : Bool} {n : ℕ} {off : Fin 3 → ℕ} {hin} (hoff : off = ![n % 2, 0, 0]) :
    ((rM b).slice (Rect.unit (s := S2x512x4096) off S1x512x4096.size hin) (fun _ => rfl)).squeeze S512x4096 squeezes_S1x512x4096_S512x4096 = slotM b n := by
  subst hoff; rfl

theorem t1_sem (k : Fin k0_t1_loop.trips) :
    ((cc0_scratch7.slice (Rect.unit (s := S2) (k0_off4 k) S1.size (k0_off4_inb k))).squeeze S_ squeezes_S1_S_).sem = sendS true (k.val + 2)
    ∧ ((cc0_scratch8.slice (Rect.unit (s := S2) (k0_off4 k) S1.size (k0_off4_inb k))).squeeze S_ squeezes_S1_S_).sem = recvS true (k.val + 2)
    ∧ ((cc0_scratch9.slice (Rect.unit (s := S2) (k0_off4 k) S1.size (k0_off4_inb k))).squeeze S_ squeezes_S1_S_).sem = sendS false (k.val + 2)
    ∧ ((cc0_scratch10.slice (Rect.unit (s := S2) (k0_off4 k) S1.size (k0_off4_inb k))).squeeze S_ squeezes_S1_S_).sem = recvS false (k.val + 2) := by
  revert k; decide +kernel
theorem t1_ckr (c : Dev nD) (k : Fin k0_t1_loop.trips) : k0_off6 c k = ![512 * (ck true c (k.val + 2) % 8), 0] := by
  rw [k0_off6_eq]
  exact congrArg (fun j => ![512 * j, 0]) (show (c.val + 13 - k.val) % 8 = (c.val + 15 - (k.val + 2)) % 8 % 8 by omega)
theorem t1_ckl (c : Dev nD) (k : Fin k0_t1_loop.trips) : k0_off7 c k = ![512 * (ck false c (k.val + 2) % 8), 0] := by
  rw [k0_off7_eq]
  exact congrArg (fun j => ![512 * j, 0]) (show (c.val + k.val + 3) % 8 = (c.val + (k.val + 2) + 1) % 8 % 8 by omega)
theorem t1_lt (k : Fin k0_t1_loop.trips) : k.val < 5 := lt_of_lt_of_le k.isLt (by decide)

set_option maxHeartbeats 800000 in
theorem part18 (c : Dev nD) (v2 v4 v7 w : BitVec 32) {Q : _ → sProp 𝕄} :
    iprop(G m K ιs c ⟨1, 1, 1, 0, 0⟩ ⟨1, 1, 1, 0, 0⟩ 0 ∗ xPts m c ∗ sendPts fullShare c true (V m true 1 c) ∗ sendPts fullShare c false (V m false 1 c) ∗ slotAny c true 0 ∗ slotAny c false 0)
      ⊢ iprop((∀ v170, iprop(G m K ιs c ⟨2, 1, 1, 0, 1⟩ ⟨2, 1, 1, 0, 1⟩ 0 ∗ xPts m c ∗ sendPts fullShare.right c true (V m true 1 c) ∗ sendPts fullShare.right c false (V m false 1 c)) -∗ Q ⟨v170, k0_pay51 (rows (xB m c) (ck true c 1))⟩)
          -∗ WP c (k0_part18 xM (Memref.isWhole_whole _) wM (Memref.isWhole_whole _) oM (Memref.isWhole_whole _) (sM true) (Memref.isWhole_whole _) (sM false) (Memref.isWhole_whole _) (rM true) (Memref.isWhole_whole _) (rM false) (Memref.isWhole_whole _) (cM true) (Memref.isWhole_whole _) (cM false) (Memref.isWhole_whole _) aM (Memref.isWhole_whole _) cc0_scratch7 cc0_scratch8 cc0_scratch9 cc0_scratch10 cc0_scratch11 cc0_scratch12 cc0_scratch13 cc0_scratch14 cc0_scratch15 cc0_scratch16 c v2 v4 v7 w) Q) := by
  rw [k0_part18_eq_skeleton]
  unfold k0_part18_skel
  simp only [semSignalWord, semWaitWord, Prog.lift, Prog.bind_op, Prog.bind_ret, Prog.pure_eq_ret, Prog.bind_assoc, wp_deviceId]
  iintro ⟨G, X, S1, S2, L1, L2⟩ Hk
  iapply (g_credGive true (m := m) (K := K) (ιs := ιs) (c := c) (s := 1) (w := 1) (r := 1) (cw := 0) (y := ⟨1, 1, 1, 0, 0⟩) (h := 0) (j := 0) (Fin.ext (k0_dev5_eq c)) (by first | omega | (dsimp only; omega)) (.inl (by first | omega | (dsimp only; omega)))) $$ [G L1]
  · isplitl [G]; · iexact G
    iexact L1
  iintro G
  iapply (g_credGive false (m := m) (K := K) (ιs := ιs) (c := c) (s := 1) (w := 1) (r := 1) (cw := 0) (y := ⟨1, 1, 1, 0, 1⟩) (h := 0) (j := 0) (Fin.ext (k0_dev6_eq c)) (by first | omega | (dsimp only; omega)) (.inl (by first | omega | (dsimp only; omega)))) $$ [G L2]
  · isplitl [G]; · iexact G
    iexact L2
  iintro G
  ihave S1 := (sendPts_share c true _).1 $$ S1
  icases S1 with ⟨S1l, S1⟩
  iapply (g_sendS true (m := m) (K := K) (ιs := ιs) (c := c) (r := 1) (cw := 0) (cg := 1) (y := ⟨1, 1, 1, 0, 1⟩) (h := 0) (n := 1) (Fin.ext (k0_dev7_eq c)) (by first | omega | (dsimp only; omega)) (.inl (by decide)) rfl rfl rfl rfl) $$ [G S1l]
  · isplitl [G]; · iexact G
    iexact S1l
  iintro G
  ihave S2 := (sendPts_share c false _).1 $$ S2
  icases S2 with ⟨S2l, S2⟩
  iapply (g_sendS false (m := m) (K := K) (ιs := ιs) (c := c) (r := 1) (cw := 0) (cg := 1) (y := ⟨2, 1, 1, 0, 1⟩) (h := 0) (n := 1) (Fin.ext (k0_dev8_eq c)) (by first | omega | (dsimp only; omega)) (.inl (by decide)) rfl rfl rfl rfl) $$ [G S2l]
  · isplitl [G]; · iexact G
    iexact S2l
  iintro G
  iapply (ld_x (m := m) (ck true c 1) rfl (off2_1 c)) $$ X
  iintro X
  iapply ret_WP
  iapply Hk
  isplitl [G]; · iexact G
  isplitl [X]; · iexact X
  isplitl [S1]; · iexact S1
  iexact S2

theorem part19 (c : Dev nD) (v170 : BitVec 32) {Q : _ → sProp 𝕄} :
    iprop(xPts m c ∗ wPts m c ∗ accAny c true ∗ accAny c false)
      ⊢ iprop((iprop(xPts m c ∗ wPts m c ∗ accPts c true (part m true c (ck true c 1)) ∗ accPts c false (part m false c (ck false c 1))) -∗ Q ⟨⟩)
          -∗ WP c (k0_part19 xM (Memref.isWhole_whole _) wM (Memref.isWhole_whole _) oM (Memref.isWhole_whole _) (sM true) (Memref.isWhole_whole _) (sM false) (Memref.isWhole_whole _) (rM true) (Memref.isWhole_whole _) (rM false) (Memref.isWhole_whole _) (cM true) (Memref.isWhole_whole _) (cM false) (Memref.isWhole_whole _) aM (Memref.isWhole_whole _) cc0_scratch7 cc0_scratch8 cc0_scratch9 cc0_scratch10 cc0_scratch11 cc0_scratch12 cc0_scratch13 cc0_scratch14 cc0_scratch15 cc0_scratch16 c v170 (k0_pay51 (rows (xB m c) (ck true c 1)))) Q) := by
  rw [k0_part19_eq_skeleton]
  unfold k0_part19_skel
  simp only [semSignalWord, semWaitWord, Prog.lift, Prog.bind_op, Prog.bind_ret, Prog.pure_eq_ret, Prog.bind_assoc, wp_deviceId]
  iintro ⟨X, W, A1, A2⟩ Hk
  iapply (ld_w (m := m) 0 rfl rfl) $$ W
  iintro W
  iapply (ld_accAny true rfl) $$ A1
  iintro %_ A1
  iapply (st_lo true rfl rfl) $$ A1
  iintro A1
  iapply (ld_w (m := m) 1 rfl rfl) $$ W
  iintro W
  iapply (ld_accLo true rfl) $$ A1
  iintro %_ A1
  iapply (st_hi true rfl rfl) $$ A1
  iintro A1
  iapply (ld_x (m := m) (ck false c 1) rfl (off3_1 c)) $$ X
  iintro X
  iapply (ld_w (m := m) 2 rfl rfl) $$ W
  iintro W
  iapply (ld_accAny false rfl) $$ A2
  iintro %_ A2
  iapply (st_lo false rfl rfl) $$ A2
  iintro A2
  iapply (ld_w (m := m) 3 rfl rfl) $$ W
  iintro W
  iapply (ld_accLo false rfl) $$ A2
  iintro %_ A2
  iapply (st_hi false rfl rfl) $$ A2
  iintro A2
  iapply ret_WP
  iapply Hk
  isplitl [X]; · iexact X
  isplitl [W]; · iexact W
  isplitl [A1]; · iexact A1
  iexact A2

theorem part20 (c : Dev nD) (v4 v7 : BitVec 32) {Q : _ → sProp 𝕄} :
    iprop(G m K ιs c ⟨2, 1, 1, 0, 1⟩ ⟨2, 1, 1, 0, 1⟩ 0 ∗ sendPts fullShare.right c true (V m true 1 c) ∗ sendPts fullShare.right c false (V m false 1 c) ∗ accPts c true (part m true c (ck true c 1)))
      ⊢ iprop((iprop(G m K ιs c ⟨2, 2, 2, 0, 1⟩ ⟨2, 2, 2, 0, 1⟩ 0 ∗ sendPts fullShare c true (V m true 2 c) ∗ sendAny c false ∗ slotAny c true 1 ∗ slotPts fullShare c false 1 (V m false 1 (up false c)) ∗ accAny c true) -∗ Q ⟨⟩)
          -∗ WP c (k0_part20 xM (Memref.isWhole_whole _) wM (Memref.isWhole_whole _) oM (Memref.isWhole_whole _) (sM true) (Memref.isWhole_whole _) (sM false) (Memref.isWhole_whole _) (rM true) (Memref.isWhole_whole _) (rM false) (Memref.isWhole_whole _) (cM true) (Memref.isWhole_whole _) (cM false) (Memref.isWhole_whole _) aM (Memref.isWhole_whole _) cc0_scratch7 cc0_scratch8 cc0_scratch9 cc0_scratch10 cc0_scratch11 cc0_scratch12 cc0_scratch13 cc0_scratch14 cc0_scratch15 cc0_scratch16 v4 v7) Q) := by
  rw [k0_part20_eq_skeleton]
  unfold k0_part20_skel
  simp only [semSignalWord, semWaitWord, Prog.lift, Prog.bind_op, Prog.bind_ret, Prog.pure_eq_ret, Prog.bind_assoc, wp_deviceId]
  iintro ⟨G, S1, S2, A1⟩ Hk
  iapply (g_waitSend true (m := m) (K := K) (ιs := ιs) (c := c) (r := 1) (cw := 0) (cg := 1) (y := ⟨2, 1, 1, 0, 1⟩) (h := 0) (n := 1) (by first | omega | (dsimp only; omega)) rfl) $$ G
  iintro ⟨G, S1l⟩
  ihave S1l := (Entails.of_eq (src_send (by first | omega | (dsimp only; omega)) _)) $$ S1l
  ihave S1 := (sendPts_share c true _).2 $$ [S1l S1]
  · isplitl [S1l]; · iexact S1l
    iexact S1
  ihave S1 := (sendAny_of c true _) $$ S1
  iapply (g_waitRecv true (m := m) (K := K) (ιs := ιs) (c := c) (s := 2) (w := 2) (cw := 0) (cg := 1) (y := ⟨2, 1, 1, 0, 1⟩) (h := 0) (n := 1) (by first | omega | (dsimp only; omega)) (by first | omega | (dsimp only; omega)) (by first | omega | (dsimp only; omega)) (by first | omega | (dsimp only; omega)) (by first | omega | (dsimp only; omega)) (by first | omega | (dsimp only; omega)) rfl) $$ G
  iintro ⟨G, L1⟩
  iapply (g_waitSend false (m := m) (K := K) (ιs := ιs) (c := c) (r := 1) (cw := 0) (cg := 1) (y := ⟨2, 2, 2, 0, 1⟩) (h := 0) (n := 1) (by first | omega | (dsimp only; omega)) rfl) $$ G
  iintro ⟨G, S2l⟩
  ihave S2l := (Entails.of_eq (src_send (by first | omega | (dsimp only; omega)) _)) $$ S2l
  ihave S2 := (sendPts_share c false _).2 $$ [S2l S2]
  · isplitl [S2l]; · iexact S2l
    iexact S2
  ihave S2 := (sendAny_of c false _) $$ S2
  iapply (g_waitRecv false (m := m) (K := K) (ιs := ιs) (c := c) (s := 2) (w := 2) (cw := 0) (cg := 1) (y := ⟨2, 2, 2, 0, 1⟩) (h := 0) (n := 1) (by first | omega | (dsimp only; omega)) (by first | omega | (dsimp only; omega)) (by first | omega | (dsimp only; omega)) (by first | omega | (dsimp only; omega)) (by first | omega | (dsimp only; omega)) (by first | omega | (dsimp only; omega)) rfl) $$ G
  iintro ⟨G, L2⟩
  iapply (ld_acc true rfl rfl) $$ A1
  iintro A1
  iapply (ld_slot true (1) rfl rfl) $$ L1
  iintro L1
  iapply (ld_sendAny true rfl) $$ S1
  iintro %_ S1
  iapply (st_sendBuf true rfl rfl) $$ S1
  iintro S1
  ihave L1 := (slotAny_of c true (1) _) $$ L1
  ihave A1 := (accAny_of c true _) $$ A1
  iapply ret_WP
  iapply Hk
  isplitl [G]; · iexact G
  isplitl [S1]; · iexact S1
  isplitl [S2]; · iexact S2
  isplitl [L1]; · iexact L1
  isplitl [L2]; · iexact L2
  iexact A1

theorem part1 (c : Dev nD) (v2 v4 v7 w w' : BitVec 32) (k : Fin k0_t1_loop.trips) {Q : _ → sProp 𝕄} :
    iprop(G m K ιs c ⟨k.val + 2, k.val + 2, k.val + 2, k.val, k.val + 2⟩ ⟨k.val + 2, k.val + 2, k.val + 2, k.val, k.val + 2⟩ 0 ∗ xPts m c ∗ wPts m c ∗ sendPts fullShare c true (V m true (k.val + 2) c) ∗ sendPts fullShare c false (V m false (k.val + 2) c) ∗ accAny c true)
      ⊢ iprop((∀ v817 v839 v847, iprop(G m K ιs c ⟨k.val + 3, k.val + 2, k.val + 2, k.val + 1, k.val + 2⟩ ⟨k.val + 3, k.val + 2, k.val + 2, k.val + 1, k.val + 2⟩ 0 ∗ xPts m c ∗ wPts m c ∗ sendPts fullShare.right c true (V m true (k.val + 2) c) ∗ sendPts fullShare.right c false (V m false (k.val + 2) c) ∗ accAny c true) -∗ Q ⟨v817, v839, k0_pay1 (rows (xB m c) (ck true c (k.val + 2))), k0_pay2 (rows (xB m c) (ck true c (k.val + 2))) (cols (wB m c) 0), v847⟩)
          -∗ WP c (k0_part1 xM (Memref.isWhole_whole _) wM (Memref.isWhole_whole _) oM (Memref.isWhole_whole _) (sM true) (Memref.isWhole_whole _) (sM false) (Memref.isWhole_whole _) (rM true) (Memref.isWhole_whole _) (rM false) (Memref.isWhole_whole _) (cM true) (Memref.isWhole_whole _) (cM false) (Memref.isWhole_whole _) aM (Memref.isWhole_whole _) cc0_scratch7 cc0_scratch8 cc0_scratch9 cc0_scratch10 cc0_scratch11 cc0_scratch12 cc0_scratch13 cc0_scratch14 cc0_scratch15 cc0_scratch16 c v2 v4 v7 w w' k) Q) := by
  have hk := t1_lt k
  obtain ⟨hs1, hr1, hs2, hr2⟩ := t1_sem k
  rw [k0_part1_eq_skeleton]
  unfold k0_part1_skel
  simp only [semSignalWord, semWaitWord, Prog.lift, Prog.bind_op, Prog.bind_ret, Prog.pure_eq_ret, Prog.bind_assoc, wp_deviceId]
  iintro ⟨G, X, W, S1, S2, A1⟩ Hk
  iapply (g_credWait true (m := m) (K := K) (ιs := ιs) (c := c) (s := k.val + 2) (r := k.val + 2) (cg := k.val + 2) (y := ⟨k.val + 2, k.val + 2, k.val + 2, k.val, k.val + 2⟩) (h := 0) (n := k.val) (by first | omega | (dsimp only; omega)) (by first | omega | (dsimp only; omega)) (by first | omega | (dsimp only; omega)) (by first | omega | (dsimp only; omega)) (by first | omega | (dsimp only; omega)) (by first | omega | (dsimp only; omega))) $$ G
  iintro G
  iapply (g_credWait false (m := m) (K := K) (ιs := ιs) (c := c) (s := k.val + 2) (r := k.val + 2) (cg := k.val + 2) (y := ⟨k.val + 2, k.val + 2, k.val + 2, k.val + 1, k.val + 2⟩) (h := 0) (n := k.val) (by first | omega | (dsimp only; omega)) (by first | omega | (dsimp only; omega)) (by first | omega | (dsimp only; omega)) (by first | omega | (dsimp only; omega)) (by first | omega | (dsimp only; omega)) (by first | omega | (dsimp only; omega))) $$ G
  iintro G
  ihave S1 := (sendPts_share c true _).1 $$ S1
  icases S1 with ⟨S1l, S1⟩
  iapply (g_sendS true (m := m) (K := K) (ιs := ιs) (c := c) (r := k.val + 2) (cw := k.val + 1) (cg := k.val + 2) (y := ⟨k.val + 2, k.val + 2, k.val + 2, k.val + 1, k.val + 2⟩) (h := 0) (n := k.val + 2) (Fin.ext (k0_dev11_eq c)) (by first | omega | (dsimp only; omega)) (.inr (by first | omega | (dsimp only; omega))) rfl (slotM_off (k0_off5_eq k)) hs1 hr1) $$ [G S1l]
  · isplitl [G]; · iexact G
    iexact S1l
  iintro G
  ihave S2 := (sendPts_share c false _).1 $$ S2
  icases S2 with ⟨S2l, S2⟩
  iapply (g_sendS false (m := m) (K := K) (ιs := ιs) (c := c) (r := k.val + 2) (cw := k.val + 1) (cg := k.val + 2) (y := ⟨k.val + 3, k.val + 2, k.val + 2, k.val + 1, k.val + 2⟩) (h := 0) (n := k.val + 2) (Fin.ext (k0_dev12_eq c)) (by first | omega | (dsimp only; omega)) (.inr (by first | omega | (dsimp only; omega))) rfl (slotM_off (k0_off5_eq k)) hs2 hr2) $$ [G S2l]
  · isplitl [G]; · iexact G
    iexact S2l
  iintro G
  iapply (ld_x (m := m) (ck true c (k.val + 2)) rfl (t1_ckr c k)) $$ X
  iintro X
  iapply (ld_w (m := m) 0 rfl rfl) $$ W
  iintro W
  iapply (ld_accAny true rfl) $$ A1
  iintro %_ A1
  iapply ret_WP
  iapply Hk
  isplitl [G]; · iexact G
  isplitl [X]; · iexact X
  isplitl [W]; · iexact W
  isplitl [S1]; · iexact S1
  isplitl [S2]; · iexact S2
  iexact A1

theorem part2 (c : Dev nD) (v4 v839 : BitVec 32) (v847 : Vec F S512x2048 .f32) (k : Fin k0_t1_loop.trips) {Q : _ → sProp 𝕄} :
    iprop(G m K ιs c ⟨k.val + 3, k.val + 2, k.val + 2, k.val + 1, k.val + 2⟩ ⟨k.val + 3, k.val + 2, k.val + 2, k.val + 1, k.val + 2⟩ 0 ∗ xPts m c ∗ wPts m c ∗ sendPts fullShare.right c true (V m true (k.val + 2) c) ∗ accAny c true ∗ accAny c false)
      ⊢ iprop((iprop(G m K ιs c ⟨k.val + 3, k.val + 3, k.val + 2, k.val + 1, k.val + 2⟩ ⟨k.val + 3, k.val + 2, k.val + 2, k.val + 1, k.val + 2⟩ 0 ∗ xPts m c ∗ wPts m c ∗ sendAny c true ∗ accPts c true (part m true c (ck true c (k.val + 2))) ∗ accPts c false (part m false c (ck false c (k.val + 2)))) -∗ Q ⟨⟩)
          -∗ WP c (k0_part2 xM (Memref.isWhole_whole _) wM (Memref.isWhole_whole _) oM (Memref.isWhole_whole _) (sM true) (Memref.isWhole_whole _) (sM false) (Memref.isWhole_whole _) (rM true) (Memref.isWhole_whole _) (rM false) (Memref.isWhole_whole _) (cM true) (Memref.isWhole_whole _) (cM false) (Memref.isWhole_whole _) aM (Memref.isWhole_whole _) cc0_scratch7 cc0_scratch8 cc0_scratch9 cc0_scratch10 cc0_scratch11 cc0_scratch12 cc0_scratch13 cc0_scratch14 cc0_scratch15 cc0_scratch16 c v4 k v839 (k0_pay1 (rows (xB m c) (ck true c (k.val + 2)))) (k0_pay2 (rows (xB m c) (ck true c (k.val + 2))) (cols (wB m c) 0)) v847) Q) := by
  have hk := t1_lt k
  obtain ⟨hs1, hr1, hs2, hr2⟩ := t1_sem k
  rw [k0_part2_eq_skeleton]
  unfold k0_part2_skel
  simp only [semSignalWord, semWaitWord, Prog.lift, Prog.bind_op, Prog.bind_ret, Prog.pure_eq_ret, Prog.bind_assoc, wp_deviceId]
  iintro ⟨G, X, W, S1, A1, A2⟩ Hk
  iapply (st_lo true rfl rfl) $$ A1
  iintro A1
  iapply (ld_w (m := m) 1 rfl rfl) $$ W
  iintro W
  iapply (ld_accLo true rfl) $$ A1
  iintro %_ A1
  iapply (st_hi true rfl rfl) $$ A1
  iintro A1
  iapply (ld_x (m := m) (ck false c (k.val + 2)) rfl (t1_ckl c k)) $$ X
  iintro X
  iapply (ld_w (m := m) 2 rfl rfl) $$ W
  iintro W
  iapply (ld_accAny false rfl) $$ A2
  iintro %_ A2
  iapply (st_lo false rfl rfl) $$ A2
  iintro A2
  iapply (ld_w (m := m) 3 rfl rfl) $$ W
  iintro W
  iapply (ld_accLo false rfl) $$ A2
  iintro %_ A2
  iapply (st_hi false rfl rfl) $$ A2
  iintro A2
  iapply (g_waitSend true (m := m) (K := K) (ιs := ιs) (c := c) (r := k.val + 2) (cw := k.val + 1) (cg := k.val + 2) (y := ⟨k.val + 3, k.val + 2, k.val + 2, k.val + 1, k.val + 2⟩) (h := 0) (n := k.val + 2) (by first | omega | (dsimp only; omega)) hs1) $$ G
  iintro ⟨G, S1l⟩
  ihave S1l := (Entails.of_eq (src_send (by first | omega | (dsimp only; omega)) _)) $$ S1l
  ihave S1 := (sendPts_share c true _).2 $$ [S1l S1]
  · isplitl [S1l]; · iexact S1l
    iexact S1
  ihave S1 := (sendAny_of c true _) $$ S1
  iapply ret_WP
  iapply Hk
  isplitl [G]; · iexact G
  isplitl [X]; · iexact X
  isplitl [W]; · iexact W
  isplitl [S1]; · iexact S1
  isplitl [A1]; · iexact A1
  iexact A2

theorem part3 (c : Dev nD) (v7 v817 : BitVec 32) (k : Fin k0_t1_loop.trips) {Q : _ → sProp 𝕄} :
    iprop(G m K ιs c ⟨k.val + 3, k.val + 3, k.val + 2, k.val + 1, k.val + 2⟩ ⟨k.val + 3, k.val + 2, k.val + 2, k.val + 1, k.val + 2⟩ 0 ∗ sendAny c true ∗ sendPts fullShare.right c false (V m false (k.val + 2) c) ∗ accPts c true (part m true c (ck true c (k.val + 2))) ∗ accPts c false (part m false c (ck false c (k.val + 2))))
      ⊢ iprop((∀ v912, iprop(G m K ιs c ⟨k.val + 3, k.val + 3, k.val + 3, k.val + 1, k.val + 2⟩ ⟨k.val + 3, k.val + 3, k.val + 3, k.val + 1, k.val + 2⟩ 0 ∗ sendPts fullShare c true (V m true (k.val + 3) c) ∗ sendPts fullShare c false (V m false (k.val + 3) c) ∗ slotAny c true (k.val + 2) ∗ slotAny c false (k.val + 2) ∗ accAny c true ∗ accAny c false) -∗ Q v912)
          -∗ WP c (k0_part3 xM (Memref.isWhole_whole _) wM (Memref.isWhole_whole _) oM (Memref.isWhole_whole _) (sM true) (Memref.isWhole_whole _) (sM false) (Memref.isWhole_whole _) (rM true) (Memref.isWhole_whole _) (rM false) (Memref.isWhole_whole _) (cM true) (Memref.isWhole_whole _) (cM false) (Memref.isWhole_whole _) aM (Memref.isWhole_whole _) cc0_scratch7 cc0_scratch8 cc0_scratch9 cc0_scratch10 cc0_scratch11 cc0_scratch12 cc0_scratch13 cc0_scratch14 cc0_scratch15 cc0_scratch16 v7 k v817) Q) := by
  have hk := t1_lt k
  obtain ⟨hs1, hr1, hs2, hr2⟩ := t1_sem k
  rw [k0_part3_eq_skeleton]
  unfold k0_part3_skel
  simp only [semSignalWord, semWaitWord, Prog.lift, Prog.bind_op, Prog.bind_ret, Prog.pure_eq_ret, Prog.bind_assoc, wp_deviceId]
  have e1 := V_add m true (show k.val + 2 < 7 by omega) c
  have e2 := V_add m false (show k.val + 2 < 7 by omega) c
  rw [show k.val + 2 + 1 = k.val + 3 from rfl] at e1 e2
  rw [e1, e2]
  iintro ⟨G, S1, S2, A1, A2⟩ Hk
  iapply (g_waitRecv true (m := m) (K := K) (ιs := ιs) (c := c) (s := k.val + 3) (w := k.val + 3) (cw := k.val + 1) (cg := k.val + 2) (y := ⟨k.val + 3, k.val + 2, k.val + 2, k.val + 1, k.val + 2⟩) (h := 0) (n := k.val + 2) (by first | omega | (dsimp only; omega)) (by first | omega | (dsimp only; omega)) (by first | omega | (dsimp only; omega)) (by first | omega | (dsimp only; omega)) (by first | omega | (dsimp only; omega)) (by first | omega | (dsimp only; omega)) hr1) $$ G
  iintro ⟨G, L1⟩
  iapply (g_waitSend false (m := m) (K := K) (ιs := ιs) (c := c) (r := k.val + 2) (cw := k.val + 1) (cg := k.val + 2) (y := ⟨k.val + 3, k.val + 3, k.val + 3, k.val + 1, k.val + 2⟩) (h := 0) (n := k.val + 2) (by first | omega | (dsimp only; omega)) hs2) $$ G
  iintro ⟨G, S2l⟩
  ihave S2l := (Entails.of_eq (src_send (by first | omega | (dsimp only; omega)) _)) $$ S2l
  ihave S2 := (sendPts_share c false _).2 $$ [S2l S2]
  · isplitl [S2l]; · iexact S2l
    iexact S2
  ihave S2 := (sendAny_of c false _) $$ S2
  iapply (g_waitRecv false (m := m) (K := K) (ιs := ιs) (c := c) (s := k.val + 3) (w := k.val + 3) (cw := k.val + 1) (cg := k.val + 2) (y := ⟨k.val + 3, k.val + 3, k.val + 3, k.val + 1, k.val + 2⟩) (h := 0) (n := k.val + 2) (by first | omega | (dsimp only; omega)) (by first | omega | (dsimp only; omega)) (by first | omega | (dsimp only; omega)) (by first | omega | (dsimp only; omega)) (by first | omega | (dsimp only; omega)) (by first | omega | (dsimp only; omega)) hr2) $$ G
  iintro ⟨G, L2⟩
  iapply (ld_acc true rfl rfl) $$ A1
  iintro A1
  iapply (ld_slot true (k.val + 2) rfl (k0_off8_eq k)) $$ L1
  iintro L1
  iapply (ld_sendAny true rfl) $$ S1
  iintro %_ S1
  iapply (st_sendBuf true rfl rfl) $$ S1
  iintro S1
  iapply (ld_acc false rfl rfl) $$ A2
  iintro A2
  iapply (ld_slot false (k.val + 2) rfl (k0_off8_eq k)) $$ L2
  iintro L2
  iapply (ld_sendAny false rfl) $$ S2
  iintro %_ S2
  iapply (st_sendBuf false rfl rfl) $$ S2
  iintro S2
  ihave L1 := (slotAny_of c true (k.val + 2) _) $$ L1
  ihave L2 := (slotAny_of c false (k.val + 2) _) $$ L2
  ihave A1 := (accAny_of c true _) $$ A1
  ihave A2 := (accAny_of c false _) $$ A2
  iapply ret_WP
  iapply Hk
  isplitl [G]; · iexact G
  isplitl [S1]; · iexact S1
  isplitl [S2]; · iexact S2
  isplitl [L1]; · iexact L1
  isplitl [L2]; · iexact L2
  isplitl [A1]; · iexact A1
  iexact A2

theorem t1_trip (c : Dev nD) (v2 v4 v7 : BitVec 32) (k : Fin k0_t1_loop.trips) (u : Unit) :
    RS m K ιs c k.val ⊢ WP c (k0_t1_body xM (Memref.isWhole_whole _) wM (Memref.isWhole_whole _) oM (Memref.isWhole_whole _) (sM true) (Memref.isWhole_whole _) (sM false) (Memref.isWhole_whole _) (rM true) (Memref.isWhole_whole _) (rM false) (Memref.isWhole_whole _) (cM true) (Memref.isWhole_whole _) (cM false) (Memref.isWhole_whole _) aM (Memref.isWhole_whole _) cc0_scratch7 cc0_scratch8 cc0_scratch9 cc0_scratch10 cc0_scratch11 cc0_scratch12 cc0_scratch13 cc0_scratch14 cc0_scratch15 cc0_scratch16 c v2 v4 v7 k u) (fun _ => RS m K ιs c (k.val + 1)) := by
  have hk := t1_lt k
  unfold k0_t1_body RS
  simp only [semSignalWord, semWaitWord, Prog.lift, Prog.bind_op, Prog.bind_ret, Prog.pure_eq_ret, Prog.bind_assoc]
  iintro ⟨G, X, W, S1, S2, A1, A2⟩
  iapply bind_WP
  iapply (part1 (m := m) (K := K) (ιs := ιs) c v2 v4 v7 _ _ k) $$ [G X W S1 S2 A1]
  · isplitl [G]; · iexact G
    isplitl [X]; · iexact X
    isplitl [W]; · iexact W
    isplitl [S1]; · iexact S1
    isplitl [S2]; · iexact S2
    iexact A1
  iintro %v817 %v839 %v847 ⟨G, X, W, S1, S2, A1⟩
  iapply bind_WP
  iapply (part2 (m := m) (K := K) (ιs := ιs) c v4 v839 v847 k) $$ [G X W S1 A1 A2]
  · isplitl [G]; · iexact G
    isplitl [X]; · iexact X
    isplitl [W]; · iexact W
    isplitl [S1]; · iexact S1
    isplitl [A1]; · iexact A1
    iexact A2
  iintro  ⟨G, X, W, S1, A1, A2⟩
  iapply bind_WP
  iapply (part3 (m := m) (K := K) (ιs := ιs) c v7 v817 k) $$ [G S1 S2 A1 A2]
  · isplitl [G]; · iexact G
    isplitl [S1]; · iexact S1
    isplitl [S2]; · iexact S2
    isplitl [A1]; · iexact A1
    iexact A2
  iintro %v912 ⟨G, S1, S2, L1, L2, A1, A2⟩
  iapply (g_credGive true (m := m) (K := K) (ιs := ιs) (c := c) (s := k.val + 3) (w := k.val + 3) (r := k.val + 3) (cw := k.val + 1) (y := ⟨k.val + 3, k.val + 3, k.val + 3, k.val + 1, k.val + 2⟩) (h := 0) (j := k.val + 2) (Fin.ext (k0_dev13_eq c)) (by first | omega | (dsimp only; omega)) (.inl (by first | omega | (dsimp only; omega)))) $$ [G L1]
  · isplitl [G]; · iexact G
    iexact L1
  iintro G
  iapply (g_credGive false (m := m) (K := K) (ιs := ιs) (c := c) (s := k.val + 3) (w := k.val + 3) (r := k.val + 3) (cw := k.val + 1) (y := ⟨k.val + 3, k.val + 3, k.val + 3, k.val + 1, k.val + 3⟩) (h := 0) (j := k.val + 2) (Fin.ext (k0_dev14_eq c)) (by first | omega | (dsimp only; omega)) (.inl (by first | omega | (dsimp only; omega)))) $$ [G L2]
  · isplitl [G]; · iexact G
    iexact L2
  iintro G
  iapply ret_WP
  isplitl [G]; · iexact G
  isplitl [X]; · iexact X
  isplitl [W]; · iexact W
  isplitl [S1]; · iexact S1
  isplitl [S2]; · iexact S2
  isplitl [A1]; · iexact A1
  iexact A2
theorem part21 (c : Dev nD) (v2 v4 v7 : BitVec 32) {Q : _ → sProp 𝕄} :
    iprop(G m K ιs c ⟨2, 2, 2, 0, 1⟩ ⟨2, 2, 2, 0, 1⟩ 0 ∗ xPts m c ∗ wPts m c ∗ sendPts fullShare c true (V m true 2 c) ∗ sendAny c false ∗ slotAny c true 1 ∗ slotPts fullShare c false 1 (V m false 1 (up false c)) ∗ accAny c true ∗ accPts c false (part m false c (ck false c 1)) ∗ rowAny c 7)
      ⊢ iprop((∀ v262, iprop(G m K ιs c ⟨7, 7, 7, 5, 7⟩ ⟨7, 7, 7, 5, 7⟩ 0 ∗ xPts m c ∗ wPts m c ∗ sendPts fullShare c true (V m true 7 c) ∗ sendPts fullShare c false (V m false 7 c) ∗ accAny c true ∗ accAny c false ∗ rowAny c 7) -∗ Q ⟨k0_pay59 (V m true 7 c) (V m false 7 c), v262⟩)
          -∗ WP c (k0_part21 xM (Memref.isWhole_whole _) wM (Memref.isWhole_whole _) oM (Memref.isWhole_whole _) (sM true) (Memref.isWhole_whole _) (sM false) (Memref.isWhole_whole _) (rM true) (Memref.isWhole_whole _) (rM false) (Memref.isWhole_whole _) (cM true) (Memref.isWhole_whole _) (cM false) (Memref.isWhole_whole _) aM (Memref.isWhole_whole _) cc0_scratch7 cc0_scratch8 cc0_scratch9 cc0_scratch10 cc0_scratch11 cc0_scratch12 cc0_scratch13 cc0_scratch14 cc0_scratch15 cc0_scratch16 c v2 v4 v7) Q) := by
  rw [k0_part21_eq_skeleton]
  unfold k0_part21_skel
  simp only [semSignalWord, semWaitWord, Prog.lift, Prog.bind_op, Prog.bind_ret, Prog.pure_eq_ret, Prog.bind_assoc, wp_deviceId]
  iintro ⟨G, X, W, S1, S2, L1, L2, A1, A2, HR⟩ Hk
  iapply (ld_acc false rfl rfl) $$ A2
  iintro A2
  iapply (ld_slot false (1) rfl rfl) $$ L2
  iintro L2
  iapply (ld_sendAny false rfl) $$ S2
  iintro %_ S2
  iapply (st_sendBuf false rfl rfl) $$ S2
  iintro S2
  ihave L2 := (slotAny_of c false (1) _) $$ L2
  ihave A2 := (accAny_of c false _) $$ A2
  iapply (g_credGive true (m := m) (K := K) (ιs := ιs) (c := c) (s := 2) (w := 2) (r := 2) (cw := 0) (y := ⟨2, 2, 2, 0, 1⟩) (h := 0) (j := 1) (Fin.ext (k0_dev9_eq c)) (by first | omega | (dsimp only; omega)) (.inl (by first | omega | (dsimp only; omega)))) $$ [G L1]
  · isplitl [G]; · iexact G
    iexact L1
  iintro G
  iapply (g_credGive false (m := m) (K := K) (ιs := ιs) (c := c) (s := 2) (w := 2) (r := 2) (cw := 0) (y := ⟨2, 2, 2, 0, 2⟩) (h := 0) (j := 1) (Fin.ext (k0_dev10_eq c)) (by first | omega | (dsimp only; omega)) (.inl (by first | omega | (dsimp only; omega)))) $$ [G L2]
  · isplitl [G]; · iexact G
    iexact L2
  iintro G
  iapply bind_WP
  iapply (Scf.wp_for frame (wpE (defs₀ (F := F)) 𝒱₀ (c : Thread nD τ) none) Set.univ _ _ _ _ _ _ (fun k _ => RS m K ιs c k) (fun k u => t1_trip c v2 v4 v7 k u))
  isplitl [G X W S1 S2 A1 A2]
  · unfold RS
    isplitl [G]; · iexact G
    isplitl [X]; · iexact X
    isplitl [W]; · iexact W
    isplitl [S1]; · iexact S1
    isplitl [S2]; · iexact S2
    isplitl [A1]; · iexact A1
    iexact A2
  iintro %_ H
  ihave H := (Entails.of_eq (congrArg (RS m K ιs c) (show _ = 5 by decide))) $$ H
  unfold RS
  icases H with ⟨G, X, W, S1, S2, A1, A2⟩
  iapply (ld_send true rfl rfl) $$ S1
  iintro S1
  iapply (ld_send false rfl rfl) $$ S2
  iintro S2
  iapply (ld_rowAny 7 rfl rfl) $$ HR
  iintro %_ HR
  iapply ret_WP
  iapply Hk
  isplitl [G]; · iexact G
  isplitl [X]; · iexact X
  isplitl [W]; · iexact W
  isplitl [S1]; · iexact S1
  isplitl [S2]; · iexact S2
  isplitl [A1]; · iexact A1
  isplitl [A2]; · iexact A2
  iexact HR

end Cert.RingProof

end
-- ==== Proof.Body3.lean ====
/-
  The maxima's ring and the first tile of each direction.
-/
module

public import proofs.«01_k».proof.Proof.Body2

@[expose] public section

noncomputable section

namespace Cert.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {K : GSem nD τ sig → ℕ} {ιs : Key → ℕ}

theorem rowM_off {n : ℕ} {off : Fin 3 → ℕ} {hin} (hoff : off = ![n % 8, 0, 0]) :
    (aM.slice (Rect.unit (s := S8x8x128) off S1x8x128.size hin) (fun _ => rfl)).squeeze S8x128 squeezes_S1x8x128_S8x128 = rowM n := by
  subst hoff; rfl
theorem tileM_off {b : Bool} {g : ℕ} {off : Fin 2 → ℕ} {hin} (hoff : off = ![512 * (g % 8), col0 b]) :
    oM.slice (Rect.unit (s := S4096x8192) off S512x4096.size hin) (fun _ => rfl) = tileM b g := by
  subst hoff; rfl

/-- The quantiser as the program's statements group it. -/
theorem dq_a (s : F .f32) (v : Vec F S512x2048 .bf16) : k0_pay65 s (k0_pay63 s v) (k0_pay64 s v) = dq s v := rfl
theorem dq_b (s : F .f32) (v : Vec F S512x2048 .bf16) :
    k0_pay69 s (k0_pay66 s v) (k0_pay67 s v) (k0_pay68 s v) (Scalar.ofBits .f32 0x3E000000#32) = dq s v := rfl
theorem dq_c (s : F .f32) (v : Vec F S512x2048 .bf16) :
    k0_pay75 s (k0_pay70 s v) (k0_pay71 s v) (k0_pay72 s v) (k0_pay73 s v) (k0_pay74 (F := F)) = dq s v := rfl
theorem dq_d (s : F .f32) (v : Vec F S512x2048 .bf16) : k0_pay79 s (k0_pay77 s (k0_pay76 v)) (k0_pay78 s (k0_pay76 v)) = dq s v := rfl
theorem dq_e (s : F .f32) (v : Vec F S512x2048 .bf16) :
    k0_pay16 s (k0_pay11 s v) (k0_pay12 s v) (k0_pay13 s v) (k0_pay14 s v) (k0_pay15 (F := F)) = dq s v := rfl
theorem dq_f (s : F .f32) (v : Vec F S512x2048 .bf16) :
    k0_pay23 (k0_pay22 s (k0_pay17 s v) (k0_pay18 s v) (k0_pay19 (F := F)) (k0_pay20 s v) (k0_pay21 (F := F))) = dq s v := rfl
theorem dq_g (s : F .f32) (v : Vec F S512x2048 .bf16) :
    k0_pay27 s (k0_pay24 s v) (k0_pay25 s v) (k0_pay26 s v) (Scalar.ofBits .f32 0x44000000#32) = dq s v := rfl
theorem dq_h (s : F .f32) (v : Vec F S512x2048 .bf16) :
    k0_pay32 s (k0_pay28 s v) (k0_pay29 s v) (k0_pay30 s v) (k0_pay31 s v) = dq s v := rfl
theorem dq_i (s : F .f32) (v : Vec F S512x2048 .bf16) :
    k0_pay84 s (k0_pay80 s v) (k0_pay81 s v) (k0_pay82 s v) (k0_pay83 s v) = dq s v := rfl
theorem dq_j (s : F .f32) (v : Vec F S512x2048 .bf16) :
    k0_pay89 s (k0_pay85 s v) (k0_pay86 s v) (k0_pay87 s v) (k0_pay88 s v) (Scalar.ofBits .f32 0x40800000#32) = dq s v := rfl
theorem dq_k (s : F .f32) (v : Vec F S512x2048 .bf16) :
    k0_pay93 s (k0_pay90 s v) (k0_pay91 (k0_pay90 s v)) (k0_pay92 (F := F)) = dq s v := rfl
theorem dq_l (s : F .f32) (v : Vec F S512x2048 .bf16) :
    k0_pay97 s (k0_pay94 s v) (k0_pay95 s v) (k0_pay96 s v) (Scalar.ofBits .f32 0x3E000000#32) = dq s v := rfl

/-- What the maxima's ring starts with, the neighbour's rows apart. -/
def AmT (c : Dev nD) : sProp 𝕄 :=
  bigSep (Finset.range 7) (fun i => iprop(dutyTok ER (amSCell c i) 0 0 ∗ dutyTok ER (amRCell (nxt c) i) 0 0
    ∗ cred (tallyAt (amRCell c i) i NA) ∗ atPos ER (amSCell c i) 0 ∅ 0 ∗ atPos ER (amRCell c i) 0 ∅ 0))
theorem AmK_of (c : Dev nD) : iprop(AmT (F := F) c ∗ rowsAny (nxt c)) ⊢ AmK c 0 := by
  unfold AmT rowsAny AmK
  rw [← bigSep_sep', Finset.range_eq_Ico]
  refine bigSep_mono fun i _ => (?_ : iprop(_ ∗ _) ⊢ (_ : sProp 𝕄))
  iintro ⟨⟨H1, H2, H3, H4, H5⟩, H6⟩
  isplitl [H1]; · iexact H1
  isplitl [H2]; · iexact H2
  isplitl [H6]; · iexact H6
  isplitl [H3]; · iexact H3
  isplitl [H4]; · iexact H4
  iexact H5

variable (m K ιs) in
/-- Before step `h` of the maxima's ring. -/
def MS (c : Dev nD) (h : ℕ) : sProp 𝕄 :=
  iprop(G m K ιs c ⟨7, 7, 7, 5, 7⟩ ⟨7, 7, 7, 5, 7⟩ h ∗ AmK c h ∗ AmD c h ∗ rowPts c 7 (Mx m h c))

theorem t2_sem (k : Fin k0_t2_loop.trips) :
    ((cc0_scratch13.slice (Rect.unit (s := S7) (k0_off9 k) S1.size (k0_off9_inb k))).squeeze S_ squeezes_S1_S_).sem = amSS k.val
    ∧ ((cc0_scratch14.slice (Rect.unit (s := S7) (k0_off9 k) S1.size (k0_off9_inb k))).squeeze S_ squeezes_S1_S_).sem = amRS k.val := by
  revert k; decide +kernel
theorem t2_lt (k : Fin k0_t2_loop.trips) : k.val < 7 := lt_of_lt_of_le k.isLt (by decide)
theorem t2_row (k : Fin k0_t2_loop.trips) : k0_off10 k = ![k.val % 8, 0, 0] ∧ k0_off11 k = ![k.val % 8, 0, 0] := by
  rw [k0_off10_eq, k0_off11_eq, Nat.mod_eq_of_lt (show k.val < 8 by have := t2_lt k; omega)]
  exact ⟨rfl, rfl⟩

theorem part4 (c : Dev nD) (v4 w w' : BitVec 32) (k : Fin k0_t2_loop.trips) {Q : _ → sProp 𝕄} :
    MS m K ιs c k.val
      ⊢ iprop((iprop(G m K ιs c ⟨7, 7, 7, 5, 7⟩ ⟨7, 7, 7, 5, 7⟩ (k.val + 1) ∗ AmK c (k.val + 1) ∗ AmD c (k.val + 1) ∗ rowAny c 7)
              -∗ Q (k0_pay10 (Mx m k.val c) (Mx m k.val (prv c))))
          -∗ WP c (k0_part4 xM (Memref.isWhole_whole _) wM (Memref.isWhole_whole _) oM (Memref.isWhole_whole _) (sM true) (Memref.isWhole_whole _) (sM false) (Memref.isWhole_whole _) (rM true) (Memref.isWhole_whole _) (rM false) (Memref.isWhole_whole _) (cM true) (Memref.isWhole_whole _) (cM false) (Memref.isWhole_whole _) aM (Memref.isWhole_whole _) cc0_scratch7 cc0_scratch8 cc0_scratch9 cc0_scratch10 cc0_scratch11 cc0_scratch12 cc0_scratch13 cc0_scratch14 cc0_scratch15 cc0_scratch16 c v4 w w' k) Q) := by
  have hk := t2_lt k
  obtain ⟨hs, hr⟩ := t2_sem k
  obtain ⟨ho, ho'⟩ := t2_row k
  rw [k0_part4_eq_skeleton]
  unfold k0_part4_skel MS
  simp only [semSignalWord, semWaitWord, Prog.lift, Prog.bind_op, Prog.bind_ret, Prog.pure_eq_ret, Prog.bind_assoc, wp_deviceId]
  iintro ⟨G, K, D, R⟩ Hk
  iapply (g_amSend (Fin.ext (k0_dev15_eq c)) hk (rowM_off (n := 7) rfl) (rowM_off ho) hs hr) $$ [G K R]
  · isplitl [G]; · iexact G
    isplitl [K]; · iexact K
    iexact R
  iintro ⟨G, K, C1, C2, P1, P2⟩
  iapply (g_amWaitS hk hs) $$ [G C1 P1]
  · isplitl [G]; · iexact G
    isplitl [C1]; · iexact C1
    iexact P1
  iintro ⟨G, P1, R⟩
  iapply (g_amWaitR (x := ⟨7, 7, 7, 5, 7⟩) (y := ⟨7, 7, 7, 5, 7⟩) hk (by decide) (by decide) (by decide) (by decide) hr) $$ [G C2 P2]
  · isplitl [G]; · iexact G
    isplitl [C2]; · iexact C2
    iexact P2
  iintro ⟨G, P2, R'⟩
  iapply (ld_row 7 rfl rfl) $$ R
  iintro R
  iapply (ld_row k.val rfl ho') $$ R'
  iintro R'
  iapply ret_WP
  iapply Hk
  isplitl [G]; · iexact G
  isplitl [K]; · iexact K
  isplitl [D P1 P2 R']
  · unfold AmD
    rw [bigSep_range_succ]
    isplitr [D]
    · isplitl [P1]; · iexact P1
      isplitl [P2]; · iexact P2
      iapply (rowAny_of c k.val _) $$ R'
    · iexact D
  iapply (rowAny_of c 7 _) $$ R

theorem t2_trip (c : Dev nD) (v4 v7 : BitVec 32) (v261 : FVec F S8x128 .f32) (v262 : Vec F S1x8x128 .f32) (k : Fin k0_t2_loop.trips) (u : Unit) :
    MS m K ιs c k.val ⊢ WP c (k0_t2_body xM (Memref.isWhole_whole _) wM (Memref.isWhole_whole _) oM (Memref.isWhole_whole _) (sM true) (Memref.isWhole_whole _) (sM false) (Memref.isWhole_whole _) (rM true) (Memref.isWhole_whole _) (rM false) (Memref.isWhole_whole _) (cM true) (Memref.isWhole_whole _) (cM false) (Memref.isWhole_whole _) aM (Memref.isWhole_whole _) cc0_scratch7 cc0_scratch8 cc0_scratch9 cc0_scratch10 cc0_scratch11 cc0_scratch12 cc0_scratch13 cc0_scratch14 cc0_scratch15 cc0_scratch16 c v4 v7 v261 v262 k u) (fun _ => MS m K ιs c (k.val + 1)) := by
  unfold k0_t2_body
  simp only [semSignalWord, semWaitWord, Prog.lift, Prog.bind_op, Prog.bind_ret, Prog.pure_eq_ret, Prog.bind_assoc]
  iintro H
  iapply bind_WP
  iapply (part4 c v4 _ _ k) $$ H
  iintro ⟨G, K, D, R⟩
  iapply (ld_rowAny 7 rfl rfl) $$ R
  iintro %_ R
  iapply (st_row 7 rfl rfl) $$ R
  iintro R
  iapply ret_WP
  unfold MS
  isplitl [G]; · iexact G
  isplitl [K]; · iexact K
  isplitl [D]; · iexact D
  iexact R

theorem part22 (c : Dev nD) (v4 v7 : BitVec 32) (v262 : Vec F S1x8x128 .f32) {Q : _ → sProp 𝕄} :
    iprop(G m K ιs c ⟨7, 7, 7, 5, 7⟩ ⟨7, 7, 7, 5, 7⟩ 0 ∗ sendPts fullShare c true (V m true 7 c) ∗ sendPts fullShare c false (V m false 7 c) ∗ AmK c 0 ∗ rowAny c 7)
      ⊢ iprop((iprop(G m K ιs c ⟨8, 7, 7, 6, 7⟩ ⟨8, 7, 7, 6, 7⟩ 7 ∗ sendPts fullShare.right c true (V m true 7 c) ∗ sendPts fullShare.right c false (V m false 7 c) ∗ AmD c 7 ∗ rowPts c 7 (Mx m 7 c)) -∗ Q (scale m c))
          -∗ WP c (k0_part22 xM (Memref.isWhole_whole _) wM (Memref.isWhole_whole _) oM (Memref.isWhole_whole _) (sM true) (Memref.isWhole_whole _) (sM false) (Memref.isWhole_whole _) (rM true) (Memref.isWhole_whole _) (rM false) (Memref.isWhole_whole _) (cM true) (Memref.isWhole_whole _) (cM false) (Memref.isWhole_whole _) aM (Memref.isWhole_whole _) cc0_scratch7 cc0_scratch8 cc0_scratch9 cc0_scratch10 cc0_scratch11 cc0_scratch12 cc0_scratch13 cc0_scratch14 cc0_scratch15 cc0_scratch16 c v4 v7 (k0_pay59 (V m true 7 c) (V m false 7 c)) v262) Q) := by
  rw [k0_part22_eq_skeleton]
  unfold k0_part22_skel
  simp only [semSignalWord, semWaitWord, Prog.lift, Prog.bind_op, Prog.bind_ret, Prog.pure_eq_ret, Prog.bind_assoc, wp_deviceId]
  unfold scale
  iintro ⟨G, S1, S2, K, R⟩ Hk
  iapply (st_row 7 rfl rfl) $$ R
  iintro R
  iapply bind_WP
  iapply (Scf.wp_for frame (wpE (defs₀ (F := F)) 𝒱₀ (c : Thread nD τ) none) Set.univ _ _ _ _ _ _ (fun k _ => MS m K ιs c k) (fun k u => t2_trip c v4 v7 _ v262 k u))
  isplitl [G K R]
  · unfold MS AmD
    rw [Finset.range_zero, bigSep_empty]
    isplitl [G]; · iexact G
    isplitl [K]; · iexact K
    isplitr; · iempintro
    iexact R
  iintro %_ H
  ihave H := (Entails.of_eq (congrArg (MS m K ιs c) (show _ = 7 by decide))) $$ H
  unfold MS
  icases H with ⟨G, K, D, R⟩
  iapply (ld_row 7 rfl rfl) $$ R
  iintro R
  iapply (g_credWait true (m := m) (K := K) (ιs := ιs) (c := c) (s := 7) (r := 7) (cg := 7) (y := ⟨7, 7, 7, 5, 7⟩) (h := 7) (n := 5) (by first | omega | (dsimp only; omega)) (by first | omega | (dsimp only; omega)) (by first | omega | (dsimp only; omega)) (by first | omega | (dsimp only; omega)) (by first | omega | (dsimp only; omega)) (by first | omega | (dsimp only; omega))) $$ G
  iintro G
  iapply (g_credWait false (m := m) (K := K) (ιs := ιs) (c := c) (s := 7) (r := 7) (cg := 7) (y := ⟨7, 7, 7, 6, 7⟩) (h := 7) (n := 5) (by first | omega | (dsimp only; omega)) (by first | omega | (dsimp only; omega)) (by first | omega | (dsimp only; omega)) (by first | omega | (dsimp only; omega)) (by first | omega | (dsimp only; omega)) (by first | omega | (dsimp only; omega))) $$ G
  iintro G
  ihave S1 := (sendPts_share c true _).1 $$ S1
  icases S1 with ⟨S1l, S1⟩
  iapply (g_sendS true (m := m) (K := K) (ιs := ιs) (c := c) (r := 7) (cw := 6) (cg := 7) (y := ⟨7, 7, 7, 6, 7⟩) (h := 7) (n := 7) (Fin.ext (k0_dev16_eq c)) (by first | omega | (dsimp only; omega)) (.inr (by decide)) rfl rfl rfl rfl) $$ [G S1l]
  · isplitl [G]; · iexact G
    iexact S1l
  iintro G
  ihave S2 := (sendPts_share c false _).1 $$ S2
  icases S2 with ⟨S2l, S2⟩
  iapply (g_sendS false (m := m) (K := K) (ιs := ιs) (c := c) (r := 7) (cw := 6) (cg := 7) (y := ⟨8, 7, 7, 6, 7⟩) (h := 7) (n := 7) (Fin.ext (k0_dev17_eq c)) (by first | omega | (dsimp only; omega)) (.inr (by decide)) rfl rfl rfl rfl) $$ [G S2l]
  · isplitl [G]; · iexact G
    iexact S2l
  iintro G
  iapply ret_WP
  iapply Hk
  isplitl [G]; · iexact G
  isplitl [S1]; · iexact S1
  isplitl [S2]; · iexact S2
  isplitl [D]; · iexact D
  iexact R

theorem part23 (c : Dev nD) {Q : _ → sProp 𝕄} :
    iprop(sendPts fullShare.right c true (V m true 7 c))
      ⊢ iprop((iprop(sendPts fullShare.right c true (V m true 7 c)) -∗ Q ⟨k0_pay63 (scale m c) (half (V m true 7 c) 0), k0_pay64 (scale m c) (half (V m true 7 c) 0)⟩)
          -∗ WP c (k0_part23 xM (Memref.isWhole_whole _) wM (Memref.isWhole_whole _) oM (Memref.isWhole_whole _) (sM true) (Memref.isWhole_whole _) (sM false) (Memref.isWhole_whole _) (rM true) (Memref.isWhole_whole _) (rM false) (Memref.isWhole_whole _) (cM true) (Memref.isWhole_whole _) (cM false) (Memref.isWhole_whole _) aM (Memref.isWhole_whole _) cc0_scratch7 cc0_scratch8 cc0_scratch9 cc0_scratch10 cc0_scratch11 cc0_scratch12 cc0_scratch13 cc0_scratch14 cc0_scratch15 cc0_scratch16 (scale m c)) Q) := by
  rw [k0_part23_eq_skeleton]
  unfold k0_part23_skel
  simp only [semSignalWord, semWaitWord, Prog.lift, Prog.bind_op, Prog.bind_ret, Prog.pure_eq_ret, Prog.bind_assoc, wp_deviceId]
  iintro S1 Hk
  iapply (ld_sendHalf true 0 rfl rfl) $$ S1
  iintro S1
  iapply ret_WP
  iapply Hk
  iexact S1

theorem part24 (c : Dev nD) {Q : _ → sProp 𝕄} :
    iprop(sendPts fullShare.right c true (V m true 7 c) ∗ accAny c true)
      ⊢ iprop((iprop(sendPts fullShare.right c true (V m true 7 c) ∗ accLo c true (dq (scale m c) (half (V m true 7 c) 0))) -∗ Q ⟨k0_pay66 (scale m c) (half (V m true 7 c) 1), k0_pay67 (scale m c) (half (V m true 7 c) 1), k0_pay68 (scale m c) (half (V m true 7 c) 1), Scalar.ofBits .f32 0x3E000000#32⟩)
          -∗ WP c (k0_part24 xM (Memref.isWhole_whole _) wM (Memref.isWhole_whole _) oM (Memref.isWhole_whole _) (sM true) (Memref.isWhole_whole _) (sM false) (Memref.isWhole_whole _) (rM true) (Memref.isWhole_whole _) (rM false) (Memref.isWhole_whole _) (cM true) (Memref.isWhole_whole _) (cM false) (Memref.isWhole_whole _) aM (Memref.isWhole_whole _) cc0_scratch7 cc0_scratch8 cc0_scratch9 cc0_scratch10 cc0_scratch11 cc0_scratch12 cc0_scratch13 cc0_scratch14 cc0_scratch15 cc0_scratch16 (scale m c) (k0_pay63 (scale m c) (half (V m true 7 c) 0)) (k0_pay64 (scale m c) (half (V m true 7 c) 0))) Q) := by
  rw [k0_part24_eq_skeleton]
  unfold k0_part24_skel
  simp only [semSignalWord, semWaitWord, Prog.lift, Prog.bind_op, Prog.bind_ret, Prog.pure_eq_ret, Prog.bind_assoc, wp_deviceId]
  rw [dq_a]
  iintro ⟨S1, A1⟩ Hk
  iapply (ld_accAny true rfl) $$ A1
  iintro %_ A1
  iapply (st_lo true rfl rfl) $$ A1
  iintro A1
  iapply (ld_sendHalf true 1 rfl rfl) $$ S1
  iintro S1
  iapply ret_WP
  iapply Hk
  isplitl [S1]; · iexact S1
  iexact A1

theorem part25 (c : Dev nD) {Q : _ → sProp 𝕄} :
    iprop(sendPts fullShare.right c false (V m false 7 c) ∗ accLo c true (dq (scale m c) (half (V m true 7 c) 0)))
      ⊢ iprop((iprop(sendPts fullShare.right c false (V m false 7 c) ∗ accPts c true (tile m true 0 c)) -∗ Q ⟨k0_pay70 (scale m c) (half (V m false 7 c) 0), k0_pay71 (scale m c) (half (V m false 7 c) 0), k0_pay72 (scale m c) (half (V m false 7 c) 0), k0_pay73 (scale m c) (half (V m false 7 c) 0), k0_pay74 (F := F)⟩)
          -∗ WP c (k0_part25 xM (Memref.isWhole_whole _) wM (Memref.isWhole_whole _) oM (Memref.isWhole_whole _) (sM true) (Memref.isWhole_whole _) (sM false) (Memref.isWhole_whole _) (rM true) (Memref.isWhole_whole _) (rM false) (Memref.isWhole_whole _) (cM true) (Memref.isWhole_whole _) (cM false) (Memref.isWhole_whole _) aM (Memref.isWhole_whole _) cc0_scratch7 cc0_scratch8 cc0_scratch9 cc0_scratch10 cc0_scratch11 cc0_scratch12 cc0_scratch13 cc0_scratch14 cc0_scratch15 cc0_scratch16 (scale m c) (k0_pay66 (scale m c) (half (V m true 7 c) 1)) (k0_pay67 (scale m c) (half (V m true 7 c) 1)) (k0_pay68 (scale m c) (half (V m true 7 c) 1)) (Scalar.ofBits .f32 0x3E000000#32)) Q) := by
  rw [k0_part25_eq_skeleton]
  unfold k0_part25_skel
  simp only [semSignalWord, semWaitWord, Prog.lift, Prog.bind_op, Prog.bind_ret, Prog.pure_eq_ret, Prog.bind_assoc, wp_deviceId]
  rw [dq_b]
  iintro ⟨S2, A1⟩ Hk
  iapply (ld_accLo true rfl) $$ A1
  iintro %_ A1
  iapply (st_hi true rfl rfl) $$ A1
  iintro A1
  iapply (ld_sendHalf false 0 rfl rfl) $$ S2
  iintro S2
  iapply ret_WP
  iapply Hk
  isplitl [S2]; · iexact S2
  iexact A1

theorem part26 (c : Dev nD) {Q : _ → sProp 𝕄} :
    iprop(sendPts fullShare.right c false (V m false 7 c) ∗ accAny c false)
      ⊢ iprop((iprop(sendPts fullShare.right c false (V m false 7 c) ∗ accLo c false (dq (scale m c) (half (V m false 7 c) 0))) -∗ Q (k0_pay76 (half (V m false 7 c) 1)))
          -∗ WP c (k0_part26 xM (Memref.isWhole_whole _) wM (Memref.isWhole_whole _) oM (Memref.isWhole_whole _) (sM true) (Memref.isWhole_whole _) (sM false) (Memref.isWhole_whole _) (rM true) (Memref.isWhole_whole _) (rM false) (Memref.isWhole_whole _) (cM true) (Memref.isWhole_whole _) (cM false) (Memref.isWhole_whole _) aM (Memref.isWhole_whole _) cc0_scratch7 cc0_scratch8 cc0_scratch9 cc0_scratch10 cc0_scratch11 cc0_scratch12 cc0_scratch13 cc0_scratch14 cc0_scratch15 cc0_scratch16 (scale m c) (k0_pay70 (scale m c) (half (V m false 7 c) 0)) (k0_pay71 (scale m c) (half (V m false 7 c) 0)) (k0_pay72 (scale m c) (half (V m false 7 c) 0)) (k0_pay73 (scale m c) (half (V m false 7 c) 0)) (k0_pay74 (F := F))) Q) := by
  rw [k0_part26_eq_skeleton]
  unfold k0_part26_skel
  simp only [semSignalWord, semWaitWord, Prog.lift, Prog.bind_op, Prog.bind_ret, Prog.pure_eq_ret, Prog.bind_assoc, wp_deviceId]
  rw [dq_c]
  iintro ⟨S2, A2⟩ Hk
  iapply (ld_accAny false rfl) $$ A2
  iintro %_ A2
  iapply (st_lo false rfl rfl) $$ A2
  iintro A2
  iapply (ld_sendHalf false 1 rfl rfl) $$ S2
  iintro S2
  iapply ret_WP
  iapply Hk
  isplitl [S2]; · iexact S2
  iexact A2

theorem part27 (c : Dev nD) (s : F .f32) (v : FVec F S512x2048 .f32) {Q : _ → sProp 𝕄} :
    Q ⟨k0_pay77 s v, k0_pay78 s v⟩ ⊢ WP c (k0_part27 xM (Memref.isWhole_whole _) wM (Memref.isWhole_whole _) oM (Memref.isWhole_whole _) (sM true) (Memref.isWhole_whole _) (sM false) (Memref.isWhole_whole _) (rM true) (Memref.isWhole_whole _) (rM false) (Memref.isWhole_whole _) (cM true) (Memref.isWhole_whole _) (cM false) (Memref.isWhole_whole _) aM (Memref.isWhole_whole _) cc0_scratch7 cc0_scratch8 cc0_scratch9 cc0_scratch10 cc0_scratch11 cc0_scratch12 cc0_scratch13 cc0_scratch14 cc0_scratch15 cc0_scratch16 s v) Q := by
  rw [k0_part27_eq_skeleton]
  exact ret_WP

theorem off12_0 (c : Dev nD) : k0_off12 c 1#32 = ![512 * (gk true c 0 % 8), col0 true] :=
  (k0_off12_eq c 0).trans (congrArg (fun j => ![512 * j, 0]) (show (c.val + 9 * 0 + 1) % 8 = (c.val + 17 - 0) % 8 % 8 by omega))
theorem off13_0 (c : Dev nD) : k0_off13 c = ![512 * (gk false c 0 % 8), col0 false] :=
  (k0_off13_eq c).trans (congrArg (fun j => ![512 * j, 4096]) (show (c.val + 7) % 8 = (c.val + 0 + 7) % 8 % 8 by omega))

theorem part28 (c : Dev nD) (v2 v4 : BitVec 32) {Q : _ → sProp 𝕄} :
    iprop(G m K ιs c ⟨8, 7, 7, 6, 7⟩ ⟨8, 7, 7, 6, 7⟩ 7 ∗ sendPts fullShare.right c true (V m true 7 c) ∗ accPts c true (tile m true 0 c) ∗ accLo c false (dq (scale m c) (half (V m false 7 c) 0)) ∗ Sto m c true (0) (0) ∗ Sto m c false (0) (0))
      ⊢ iprop((iprop(G m K ιs c ⟨8, 8, 7, 6, 7⟩ ⟨8, 7, 7, 6, 7⟩ 7 ∗ sendAny c true ∗ Sto m c true (1) (0) ∗ Sto m c false (1) (0)) -∗ Q ⟨⟩)
          -∗ WP c (k0_part28 xM (Memref.isWhole_whole _) wM (Memref.isWhole_whole _) oM (Memref.isWhole_whole _) (sM true) (Memref.isWhole_whole _) (sM false) (Memref.isWhole_whole _) (rM true) (Memref.isWhole_whole _) (rM false) (Memref.isWhole_whole _) (cM true) (Memref.isWhole_whole _) (cM false) (Memref.isWhole_whole _) aM (Memref.isWhole_whole _) cc0_scratch7 cc0_scratch8 cc0_scratch9 cc0_scratch10 cc0_scratch11 cc0_scratch12 cc0_scratch13 cc0_scratch14 cc0_scratch15 cc0_scratch16 c v2 v4 (scale m c) (k0_pay77 (scale m c) (k0_pay76 (half (V m false 7 c) 1))) (k0_pay78 (scale m c) (k0_pay76 (half (V m false 7 c) 1)))) Q) := by
  rw [k0_part28_eq_skeleton]
  unfold k0_part28_skel
  simp only [semSignalWord, semWaitWord, Prog.lift, Prog.bind_op, Prog.bind_ret, Prog.pure_eq_ret, Prog.bind_assoc, wp_deviceId]
  rw [dq_d]
  iintro ⟨G, S1, A1, A2, T1, T2⟩ Hk
  iapply (ld_accLo false rfl) $$ A2
  iintro %_ A2
  iapply (st_hi false rfl rfl) $$ A2
  iintro A2
  ihave G := (G_ctx c _ _ _) $$ G
  icases G with ⟨#HX, G⟩
  iapply (g_store (m := m) (K := K) (ιs := ιs) true (t := 0) (c := c) (by first | omega | (dsimp only; omega)) rfl (tileM_off (off12_0 c)) rfl) $$ [T1 A1]
  · isplitr; · iexact HX
    isplitl [T1]; · iexact T1
    iexact A1
  iintro T1
  ihave G := (G_ctx c _ _ _) $$ G
  icases G with ⟨#HX, G⟩
  iapply (g_store (m := m) (K := K) (ιs := ιs) false (t := 0) (c := c) (by first | omega | (dsimp only; omega)) rfl (tileM_off (off13_0 c)) rfl) $$ [T2 A2]
  · isplitr; · iexact HX
    isplitl [T2]; · iexact T2
    iexact A2
  iintro T2
  iapply (g_waitSend true (m := m) (K := K) (ιs := ιs) (c := c) (r := 7) (cw := 6) (cg := 7) (y := ⟨8, 7, 7, 6, 7⟩) (h := 7) (n := 7) (by first | omega | (dsimp only; omega)) rfl) $$ G
  iintro ⟨G, S1l⟩
  ihave S1l := (Entails.of_eq (src_send (by first | omega | (dsimp only; omega)) _)) $$ S1l
  ihave S1 := (sendPts_share c true _).2 $$ [S1l S1]
  · isplitl [S1l]; · iexact S1l
    iexact S1
  ihave S1 := (sendAny_of c true _) $$ S1
  iapply ret_WP
  iapply Hk
  isplitl [G]; · iexact G
  isplitl [S1]; · iexact S1
  isplitl [T1]; · iexact T1
  iexact T2

end Cert.RingProof

end
-- ==== Proof.Body4.lean ====
/-
  The remaining tiles: a slot landed is passed on, quantised and stored.
-/
module

public import proofs.«01_k».proof.Proof.Body3

@[expose] public section

noncomputable section

namespace Cert.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {K : GSem nD τ sig → ℕ} {ιs : Key → ℕ}

theorem slotPts_off (q : PosShare TreeShare) (c : Dev nD) (b : Bool) {off off' : Fin 3 → ℕ} (h : off = off') {hin hin'} (f : Buf (Elt F) ((rM b).view.loc (c : Thread nD τ))) :
    (((rM b).view.loc (c : Thread nD τ)) ↦[(((rM b).slice (Rect.unit (s := S2x512x4096) off S1x512x4096.size hin) (fun _ => rfl)).squeeze S512x4096 squeezes_S1x512x4096_S512x4096).view.set]{q} f : sProp 𝕄)
      = (((rM b).view.loc (c : Thread nD τ)) ↦[(((rM b).slice (Rect.unit (s := S2x512x4096) off' S1x512x4096.size hin') (fun _ => rfl)).squeeze S512x4096 squeezes_S1x512x4096_S512x4096).view.set]{q} f) := by
  subst h; rfl
theorem slotPts_two (q : PosShare TreeShare) (c : Dev nD) (b : Bool) (n : ℕ) (v : Vec F S512x4096 .bf16) :
    (slotPts q c b (n + 2) v : sProp 𝕄) = slotPts q c b n v :=
  slotPts_off q c b (by rw [Nat.add_mod_right]) (slotBuf b v)
theorem tile_succ (b : Bool) (k : ℕ) (c : Dev nD) : tile m b (k + 1) c = dqT (scale m c) (V m b (k + 8) c) := by
  unfold tile; rw [show 7 + (k + 1) = k + 8 by omega]

variable (m K ιs) in
/-- Before step `k + 1` of the gathering: the chunk that landed last in its slot, its predecessor's tile being stored. -/
def AS (c : Dev nD) (k : ℕ) : sProp 𝕄 :=
  iprop(G m K ιs c ⟨k + 8, k + 8, k + 8, k + 6, k + 7⟩ ⟨k + 8, k + 8, k + 8, k + 6, k + 7⟩ 7
    ∗ slotPts fullShare c true (k + 7) (V m true (k + 8) c) ∗ slotPts fullShare c false (k + 7) (V m false (k + 8) c)
    ∗ Sto m c true (k + 1) k ∗ Sto m c false (k + 1) k ∗ (if k < 6 then iprop(emp) else iprop(slotAny c true 12 ∗ slotAny c false 12)))

theorem t3_sem (k : Fin k0_t3_loop.trips) :
    ((cc0_scratch7.slice (Rect.unit (s := S2) (k0_off14 k) S1.size (k0_off14_inb k))).squeeze S_ squeezes_S1_S_).sem = sendS true (k.val + 8)
    ∧ ((cc0_scratch8.slice (Rect.unit (s := S2) (k0_off14 k) S1.size (k0_off14_inb k))).squeeze S_ squeezes_S1_S_).sem = recvS true (k.val + 8)
    ∧ ((cc0_scratch9.slice (Rect.unit (s := S2) (k0_off14 k) S1.size (k0_off14_inb k))).squeeze S_ squeezes_S1_S_).sem = sendS false (k.val + 8)
    ∧ ((cc0_scratch10.slice (Rect.unit (s := S2) (k0_off14 k) S1.size (k0_off14_inb k))).squeeze S_ squeezes_S1_S_).sem = recvS false (k.val + 8)
    ∧ ((cc0_scratch11.slice (Rect.unit (s := S2) (k0_off14 k) S1.size (k0_off14_inb k))).squeeze S_ squeezes_S1_S_).sem = storS true k.val
    ∧ ((cc0_scratch12.slice (Rect.unit (s := S2) (k0_off14 k) S1.size (k0_off14_inb k))).squeeze S_ squeezes_S1_S_).sem = storS false k.val
    ∧ ((cc0_scratch11.slice (Rect.unit (s := S2) (k0_off19 k) S1.size (k0_off19_inb k))).squeeze S_ squeezes_S1_S_).sem = storS true (k.val + 1)
    ∧ ((cc0_scratch12.slice (Rect.unit (s := S2) (k0_off19 k) S1.size (k0_off19_inb k))).squeeze S_ squeezes_S1_S_).sem = storS false (k.val + 1) := by
  revert k; decide +kernel
theorem t3_lt (k : Fin k0_t3_loop.trips) : k.val < 6 := lt_of_lt_of_le k.isLt (by decide)
theorem t3_src (k : Fin k0_t3_loop.trips) : k0_off16 k = ![(k.val + 8 + 1) % 2, 0, 0] := by
  rw [k0_off16_eq, show 1 - (k.val + 2) % 2 = (k.val + 8 + 1) % 2 by omega]
theorem t3_ld (k : Fin k0_t3_loop.trips) : k0_off16 k = ![(k.val + 7) % 2, 0, 0] := by
  rw [k0_off16_eq, show 1 - (k.val + 2) % 2 = (k.val + 7) % 2 by omega]
theorem t3_dst (k : Fin k0_t3_loop.trips) : k0_off15 k = ![(k.val + 8) % 2, 0, 0] := by
  rw [k0_off15_eq, show (k.val + 2) % 2 = (k.val + 8) % 2 by omega]
theorem t3_tr (c : Dev nD) (k : Fin k0_t3_loop.trips) : k0_off17 c k = ![512 * (gk true c (k.val + 1) % 8), col0 true] :=
  (k0_off17_eq c k).trans (congrArg (fun j => ![512 * j, 0]) (show (c.val + 16 - k.val) % 8 = (c.val + 17 - (k.val + 1)) % 8 % 8 by omega))
theorem t3_tl (c : Dev nD) (k : Fin k0_t3_loop.trips) : k0_off18 c k = ![512 * (gk false c (k.val + 1) % 8), col0 false] :=
  (k0_off18_eq c k).trans (congrArg (fun j => ![512 * j, 4096]) (show (c.val + k.val) % 8 = (c.val + (k.val + 1) + 7) % 8 % 8 by omega))

theorem part5 (c : Dev nD) (v2 v4 v7 w w' : BitVec 32) (k : Fin k0_t3_loop.trips) {Q : _ → sProp 𝕄} :
    iprop(G m K ιs c ⟨k.val + 8, k.val + 8, k.val + 8, k.val + 6, k.val + 7⟩ ⟨k.val + 8, k.val + 8, k.val + 8, k.val + 6, k.val + 7⟩ 7 ∗ slotPts fullShare c true (k.val + 7) (V m true (k.val + 8) c) ∗ slotPts fullShare c false (k.val + 7) (V m false (k.val + 8) c))
      ⊢ iprop((∀ v818 v844 v846, iprop(G m K ιs c ⟨k.val + 9, k.val + 8, k.val + 8, k.val + 7, k.val + 7⟩ ⟨k.val + 9, k.val + 8, k.val + 8, k.val + 7, k.val + 7⟩ 7 ∗ slotPts fullShare.right c true (k.val + 7) (V m true (k.val + 8) c) ∗ slotPts fullShare.right c false (k.val + 7) (V m false (k.val + 8) c)) -∗ Q ⟨v818, v844, v846, 8#32⟩)
          -∗ WP c (k0_part5 xM (Memref.isWhole_whole _) wM (Memref.isWhole_whole _) oM (Memref.isWhole_whole _) (sM true) (Memref.isWhole_whole _) (sM false) (Memref.isWhole_whole _) (rM true) (Memref.isWhole_whole _) (rM false) (Memref.isWhole_whole _) (cM true) (Memref.isWhole_whole _) (cM false) (Memref.isWhole_whole _) aM (Memref.isWhole_whole _) cc0_scratch7 cc0_scratch8 cc0_scratch9 cc0_scratch10 cc0_scratch11 cc0_scratch12 cc0_scratch13 cc0_scratch14 cc0_scratch15 cc0_scratch16 c v2 v4 v7 w w' k) Q) := by
  have hk := t3_lt k
  obtain ⟨hs1, hr1, hs2, hr2, ht1, ht2, hu1, hu2⟩ := t3_sem k
  rw [k0_part5_eq_skeleton]
  unfold k0_part5_skel
  simp only [semSignalWord, semWaitWord, Prog.lift, Prog.bind_op, Prog.bind_ret, Prog.pure_eq_ret, Prog.bind_assoc, wp_deviceId]
  iintro ⟨G, L1, L2⟩ Hk
  iapply (g_credWait true (m := m) (K := K) (ιs := ιs) (c := c) (s := k.val + 8) (r := k.val + 8) (cg := k.val + 7) (y := ⟨k.val + 8, k.val + 8, k.val + 8, k.val + 6, k.val + 7⟩) (h := 7) (n := k.val + 6) (by first | omega | (dsimp only; omega)) (by first | omega | (dsimp only; omega)) (by first | omega | (dsimp only; omega)) (by first | omega | (dsimp only; omega)) (by first | omega | (dsimp only; omega)) (by first | omega | (dsimp only; omega))) $$ G
  iintro G
  iapply (g_credWait false (m := m) (K := K) (ιs := ιs) (c := c) (s := k.val + 8) (r := k.val + 8) (cg := k.val + 7) (y := ⟨k.val + 8, k.val + 8, k.val + 8, k.val + 7, k.val + 7⟩) (h := 7) (n := k.val + 6) (by first | omega | (dsimp only; omega)) (by first | omega | (dsimp only; omega)) (by first | omega | (dsimp only; omega)) (by first | omega | (dsimp only; omega)) (by first | omega | (dsimp only; omega)) (by first | omega | (dsimp only; omega))) $$ G
  iintro G
  ihave L1 := (slotPts_share c true _ _).1 $$ L1
  icases L1 with ⟨L1l, L1⟩
  ihave L1l := (Entails.of_eq (slotPts_two _ c true (k.val + 7) _).symm) $$ L1l
  iapply (g_sendR true (m := m) (K := K) (ιs := ιs) (c := c) (r := k.val + 8) (cw := k.val + 7) (cg := k.val + 7) (y := ⟨k.val + 8, k.val + 8, k.val + 8, k.val + 7, k.val + 7⟩) (h := 7) (n := k.val + 8) (Fin.ext (k0_dev18_eq c)) (by first | omega | (dsimp only; omega)) (by first | omega | (dsimp only; omega)) (.inr (by first | omega | (dsimp only; omega))) (slotM_off (t3_src k)) (slotM_off (t3_dst k)) hs1 hr1) $$ [G L1l]
  · isplitl [G]; · iexact G
    iexact L1l
  iintro G
  ihave L2 := (slotPts_share c false _ _).1 $$ L2
  icases L2 with ⟨L2l, L2⟩
  ihave L2l := (Entails.of_eq (slotPts_two _ c false (k.val + 7) _).symm) $$ L2l
  iapply (g_sendR false (m := m) (K := K) (ιs := ιs) (c := c) (r := k.val + 8) (cw := k.val + 7) (cg := k.val + 7) (y := ⟨k.val + 9, k.val + 8, k.val + 8, k.val + 7, k.val + 7⟩) (h := 7) (n := k.val + 8) (Fin.ext (k0_dev19_eq c)) (by first | omega | (dsimp only; omega)) (by first | omega | (dsimp only; omega)) (.inr (by first | omega | (dsimp only; omega))) (slotM_off (t3_src k)) (slotM_off (t3_dst k)) hs2 hr2) $$ [G L2l]
  · isplitl [G]; · iexact G
    iexact L2l
  iintro G
  iapply ret_WP
  iapply Hk
  isplitl [G]; · iexact G
  isplitl [L1]; · iexact L1
  iexact L2

theorem part6 (c : Dev nD) (v818 v844 v846 w : BitVec 32) (k : Fin k0_t3_loop.trips) {Q : _ → sProp 𝕄} :
    iprop(G m K ιs c ⟨k.val + 9, k.val + 8, k.val + 8, k.val + 7, k.val + 7⟩ ⟨k.val + 9, k.val + 8, k.val + 8, k.val + 7, k.val + 7⟩ 7 ∗ slotPts fullShare.right c true (k.val + 7) (V m true (k.val + 8) c) ∗ Sto m c true (k.val + 1) (k.val) ∗ Sto m c false (k.val + 1) (k.val))
      ⊢ iprop((∀ v847, iprop(G m K ιs c ⟨k.val + 9, k.val + 8, k.val + 8, k.val + 7, k.val + 7⟩ ⟨k.val + 9, k.val + 8, k.val + 8, k.val + 7, k.val + 7⟩ 7 ∗ slotPts fullShare.right c true (k.val + 7) (V m true (k.val + 8) c) ∗ Sto m c true (k.val + 1) (k.val + 1) ∗ Sto m c false (k.val + 1) (k.val + 1) ∗ accAny c true ∗ accAny c false) -∗ Q ⟨v847, k0_pay11 (scale m c) (half (V m true (k.val + 8) c) 0), k0_pay12 (scale m c) (half (V m true (k.val + 8) c) 0), k0_pay13 (scale m c) (half (V m true (k.val + 8) c) 0), k0_pay14 (scale m c) (half (V m true (k.val + 8) c) 0), k0_pay15 (F := F)⟩)
          -∗ WP c (k0_part6 xM (Memref.isWhole_whole _) wM (Memref.isWhole_whole _) oM (Memref.isWhole_whole _) (sM true) (Memref.isWhole_whole _) (sM false) (Memref.isWhole_whole _) (rM true) (Memref.isWhole_whole _) (rM false) (Memref.isWhole_whole _) (cM true) (Memref.isWhole_whole _) (cM false) (Memref.isWhole_whole _) aM (Memref.isWhole_whole _) cc0_scratch7 cc0_scratch8 cc0_scratch9 cc0_scratch10 cc0_scratch11 cc0_scratch12 cc0_scratch13 cc0_scratch14 cc0_scratch15 cc0_scratch16 c (scale m c) k v818 v844 v846 w) Q) := by
  have hk := t3_lt k
  obtain ⟨hs1, hr1, hs2, hr2, ht1, ht2, hu1, hu2⟩ := t3_sem k
  rw [k0_part6_eq_skeleton]
  unfold k0_part6_skel
  simp only [semSignalWord, semWaitWord, Prog.lift, Prog.bind_op, Prog.bind_ret, Prog.pure_eq_ret, Prog.bind_assoc, wp_deviceId]
  iintro ⟨G, L1, T1, T2⟩ Hk
  iapply (g_waitStore true (t := k.val) (c := c) (by first | omega | (dsimp only; omega)) ht1) $$ [G T1]
  · isplitl [G]; · iexact G
    iexact T1
  iintro ⟨G, T1, A1⟩
  iapply (g_waitStore false (t := k.val) (c := c) (by first | omega | (dsimp only; omega)) ht2) $$ [G T2]
  · isplitl [G]; · iexact G
    iexact T2
  iintro ⟨G, T2, A2⟩
  iapply (ld_slotHalf true (k.val + 7) 0 (slotM_off (t3_ld k)) rfl) $$ L1
  iintro L1
  ihave A1 := (accAny_of c true _) $$ A1
  ihave A2 := (accAny_of c false _) $$ A2
  iapply ret_WP
  iapply Hk
  isplitl [G]; · iexact G
  isplitl [L1]; · iexact L1
  isplitl [T1]; · iexact T1
  isplitl [T2]; · iexact T2
  isplitl [A1]; · iexact A1
  iexact A2

theorem part7 (c : Dev nD) (k : Fin k0_t3_loop.trips) {Q : _ → sProp 𝕄} :
    iprop(slotPts fullShare.right c true (k.val + 7) (V m true (k.val + 8) c) ∗ accAny c true)
      ⊢ iprop((iprop(slotPts fullShare.right c true (k.val + 7) (V m true (k.val + 8) c) ∗ accLo c true (dq (scale m c) (half (V m true (k.val + 8) c) 0))) -∗ Q ⟨k0_pay17 (scale m c) (half (V m true (k.val + 8) c) 1), k0_pay18 (scale m c) (half (V m true (k.val + 8) c) 1), k0_pay19 (F := F), k0_pay20 (scale m c) (half (V m true (k.val + 8) c) 1), k0_pay21 (F := F)⟩)
          -∗ WP c (k0_part7 xM (Memref.isWhole_whole _) wM (Memref.isWhole_whole _) oM (Memref.isWhole_whole _) (sM true) (Memref.isWhole_whole _) (sM false) (Memref.isWhole_whole _) (rM true) (Memref.isWhole_whole _) (rM false) (Memref.isWhole_whole _) (cM true) (Memref.isWhole_whole _) (cM false) (Memref.isWhole_whole _) aM (Memref.isWhole_whole _) cc0_scratch7 cc0_scratch8 cc0_scratch9 cc0_scratch10 cc0_scratch11 cc0_scratch12 cc0_scratch13 cc0_scratch14 cc0_scratch15 cc0_scratch16 (scale m c) k (k0_pay11 (scale m c) (half (V m true (k.val + 8) c) 0)) (k0_pay12 (scale m c) (half (V m true (k.val + 8) c) 0)) (k0_pay13 (scale m c) (half (V m true (k.val + 8) c) 0)) (k0_pay14 (scale m c) (half (V m true (k.val + 8) c) 0)) (k0_pay15 (F := F))) Q) := by
  have hk := t3_lt k
  obtain ⟨hs1, hr1, hs2, hr2, ht1, ht2, hu1, hu2⟩ := t3_sem k
  rw [k0_part7_eq_skeleton]
  unfold k0_part7_skel
  simp only [semSignalWord, semWaitWord, Prog.lift, Prog.bind_op, Prog.bind_ret, Prog.pure_eq_ret, Prog.bind_assoc, wp_deviceId]
  rw [dq_e]
  iintro ⟨L1, A1⟩ Hk
  iapply (ld_accAny true rfl) $$ A1
  iintro %_ A1
  iapply (st_lo true rfl rfl) $$ A1
  iintro A1
  iapply (ld_slotHalf true (k.val + 7) 1 (slotM_off (t3_ld k)) rfl) $$ L1
  iintro L1
  iapply ret_WP
  iapply Hk
  isplitl [L1]; · iexact L1
  iexact A1

theorem part8 (c : Dev nD) (k : Fin k0_t3_loop.trips) {Q : _ → sProp 𝕄} :
    iprop(accLo c true (dq (scale m c) (half (V m true (k.val + 8) c) 0)))
      ⊢ iprop((∀ v972, iprop(accLo c true (dq (scale m c) (half (V m true (k.val + 8) c) 0))) -∗ Q ⟨k0_pay22 (scale m c) (k0_pay17 (scale m c) (half (V m true (k.val + 8) c) 1)) (k0_pay18 (scale m c) (half (V m true (k.val + 8) c) 1)) (k0_pay19 (F := F)) (k0_pay20 (scale m c) (half (V m true (k.val + 8) c) 1)) (k0_pay21 (F := F)), v972⟩)
          -∗ WP c (k0_part8 xM (Memref.isWhole_whole _) wM (Memref.isWhole_whole _) oM (Memref.isWhole_whole _) (sM true) (Memref.isWhole_whole _) (sM false) (Memref.isWhole_whole _) (rM true) (Memref.isWhole_whole _) (rM false) (Memref.isWhole_whole _) (cM true) (Memref.isWhole_whole _) (cM false) (Memref.isWhole_whole _) aM (Memref.isWhole_whole _) cc0_scratch7 cc0_scratch8 cc0_scratch9 cc0_scratch10 cc0_scratch11 cc0_scratch12 cc0_scratch13 cc0_scratch14 cc0_scratch15 cc0_scratch16 (scale m c) (k0_pay17 (scale m c) (half (V m true (k.val + 8) c) 1)) (k0_pay18 (scale m c) (half (V m true (k.val + 8) c) 1)) (k0_pay19 (F := F)) (k0_pay20 (scale m c) (half (V m true (k.val + 8) c) 1)) (k0_pay21 (F := F))) Q) := by
  rw [k0_part8_eq_skeleton]
  unfold k0_part8_skel
  simp only [semSignalWord, semWaitWord, Prog.lift, Prog.bind_op, Prog.bind_ret, Prog.pure_eq_ret, Prog.bind_assoc, wp_deviceId]
  iintro A1 Hk
  iapply (ld_accLo true rfl) $$ A1
  iintro %_ A1
  iapply ret_WP
  iapply Hk
  iexact A1

theorem part9 (c : Dev nD) (v818 : BitVec 32) (v972 : Vec F S512x2048 .f32) (k : Fin k0_t3_loop.trips) {Q : _ → sProp 𝕄} :
    iprop(slotPts fullShare.right c false (k.val + 7) (V m false (k.val + 8) c) ∗ accLo c true (dq (scale m c) (half (V m true (k.val + 8) c) 0)))
      ⊢ iprop((iprop(slotPts fullShare.right c false (k.val + 7) (V m false (k.val + 8) c) ∗ accPts c true (tile m true (k.val + 1) c)) -∗ Q ⟨k0_pay24 (scale m c) (half (V m false (k.val + 8) c) 0), k0_pay25 (scale m c) (half (V m false (k.val + 8) c) 0), k0_pay26 (scale m c) (half (V m false (k.val + 8) c) 0), Scalar.ofBits .f32 0x44000000#32⟩)
          -∗ WP c (k0_part9 xM (Memref.isWhole_whole _) wM (Memref.isWhole_whole _) oM (Memref.isWhole_whole _) (sM true) (Memref.isWhole_whole _) (sM false) (Memref.isWhole_whole _) (rM true) (Memref.isWhole_whole _) (rM false) (Memref.isWhole_whole _) (cM true) (Memref.isWhole_whole _) (cM false) (Memref.isWhole_whole _) aM (Memref.isWhole_whole _) cc0_scratch7 cc0_scratch8 cc0_scratch9 cc0_scratch10 cc0_scratch11 cc0_scratch12 cc0_scratch13 cc0_scratch14 cc0_scratch15 cc0_scratch16 (scale m c) k v818 (k0_pay22 (scale m c) (k0_pay17 (scale m c) (half (V m true (k.val + 8) c) 1)) (k0_pay18 (scale m c) (half (V m true (k.val + 8) c) 1)) (k0_pay19 (F := F)) (k0_pay20 (scale m c) (half (V m true (k.val + 8) c) 1)) (k0_pay21 (F := F))) v972) Q) := by
  have hk := t3_lt k
  obtain ⟨hs1, hr1, hs2, hr2, ht1, ht2, hu1, hu2⟩ := t3_sem k
  rw [k0_part9_eq_skeleton]
  unfold k0_part9_skel
  simp only [semSignalWord, semWaitWord, Prog.lift, Prog.bind_op, Prog.bind_ret, Prog.pure_eq_ret, Prog.bind_assoc, wp_deviceId]
  rw [dq_f, tile_succ]
  iintro ⟨L2, A1⟩ Hk
  iapply (st_hi true rfl rfl) $$ A1
  iintro A1
  iapply (ld_slotHalf false (k.val + 7) 0 (slotM_off (t3_ld k)) rfl) $$ L2
  iintro L2
  iapply ret_WP
  iapply Hk
  isplitl [L2]; · iexact L2
  iexact A1

theorem part10 (c : Dev nD) (k : Fin k0_t3_loop.trips) {Q : _ → sProp 𝕄} :
    iprop(slotPts fullShare.right c false (k.val + 7) (V m false (k.val + 8) c) ∗ accAny c false)
      ⊢ iprop((iprop(slotPts fullShare.right c false (k.val + 7) (V m false (k.val + 8) c) ∗ accLo c false (dq (scale m c) (half (V m false (k.val + 8) c) 0))) -∗ Q ⟨k0_pay28 (scale m c) (half (V m false (k.val + 8) c) 1), k0_pay29 (scale m c) (half (V m false (k.val + 8) c) 1), k0_pay30 (scale m c) (half (V m false (k.val + 8) c) 1), k0_pay31 (scale m c) (half (V m false (k.val + 8) c) 1)⟩)
          -∗ WP c (k0_part10 xM (Memref.isWhole_whole _) wM (Memref.isWhole_whole _) oM (Memref.isWhole_whole _) (sM true) (Memref.isWhole_whole _) (sM false) (Memref.isWhole_whole _) (rM true) (Memref.isWhole_whole _) (rM false) (Memref.isWhole_whole _) (cM true) (Memref.isWhole_whole _) (cM false) (Memref.isWhole_whole _) aM (Memref.isWhole_whole _) cc0_scratch7 cc0_scratch8 cc0_scratch9 cc0_scratch10 cc0_scratch11 cc0_scratch12 cc0_scratch13 cc0_scratch14 cc0_scratch15 cc0_scratch16 (scale m c) k (k0_pay24 (scale m c) (half (V m false (k.val + 8) c) 0)) (k0_pay25 (scale m c) (half (V m false (k.val + 8) c) 0)) (k0_pay26 (scale m c) (half (V m false (k.val + 8) c) 0)) (Scalar.ofBits .f32 0x44000000#32)) Q) := by
  have hk := t3_lt k
  obtain ⟨hs1, hr1, hs2, hr2, ht1, ht2, hu1, hu2⟩ := t3_sem k
  rw [k0_part10_eq_skeleton]
  unfold k0_part10_skel
  simp only [semSignalWord, semWaitWord, Prog.lift, Prog.bind_op, Prog.bind_ret, Prog.pure_eq_ret, Prog.bind_assoc, wp_deviceId]
  rw [dq_g]
  iintro ⟨L2, A2⟩ Hk
  iapply (ld_accAny false rfl) $$ A2
  iintro %_ A2
  iapply (st_lo false rfl rfl) $$ A2
  iintro A2
  iapply (ld_slotHalf false (k.val + 7) 1 (slotM_off (t3_ld k)) rfl) $$ L2
  iintro L2
  iapply ret_WP
  iapply Hk
  isplitl [L2]; · iexact L2
  iexact A2

theorem part11 (c : Dev nD) (v818 v844 : BitVec 32) (k : Fin k0_t3_loop.trips) {Q : _ → sProp 𝕄} :
    iprop(G m K ιs c ⟨k.val + 9, k.val + 8, k.val + 8, k.val + 7, k.val + 7⟩ ⟨k.val + 9, k.val + 8, k.val + 8, k.val + 7, k.val + 7⟩ 7 ∗ accPts c true (tile m true (k.val + 1) c) ∗ accLo c false (dq (scale m c) (half (V m false (k.val + 8) c) 0)) ∗ Sto m c true (k.val + 1) (k.val + 1))
      ⊢ iprop((iprop(G m K ιs c ⟨k.val + 9, k.val + 8, k.val + 8, k.val + 7, k.val + 7⟩ ⟨k.val + 9, k.val + 8, k.val + 8, k.val + 7, k.val + 7⟩ 7 ∗ accPts c false (tile m false (k.val + 1) c) ∗ Sto m c true (k.val + 1 + 1) (k.val + 1)) -∗ Q ⟨⟩)
          -∗ WP c (k0_part11 xM (Memref.isWhole_whole _) wM (Memref.isWhole_whole _) oM (Memref.isWhole_whole _) (sM true) (Memref.isWhole_whole _) (sM false) (Memref.isWhole_whole _) (rM true) (Memref.isWhole_whole _) (rM false) (Memref.isWhole_whole _) (cM true) (Memref.isWhole_whole _) (cM false) (Memref.isWhole_whole _) aM (Memref.isWhole_whole _) cc0_scratch7 cc0_scratch8 cc0_scratch9 cc0_scratch10 cc0_scratch11 cc0_scratch12 cc0_scratch13 cc0_scratch14 cc0_scratch15 cc0_scratch16 c (scale m c) k v818 v844 (k0_pay28 (scale m c) (half (V m false (k.val + 8) c) 1)) (k0_pay29 (scale m c) (half (V m false (k.val + 8) c) 1)) (k0_pay30 (scale m c) (half (V m false (k.val + 8) c) 1)) (k0_pay31 (scale m c) (half (V m false (k.val + 8) c) 1))) Q) := by
  have hk := t3_lt k
  obtain ⟨hs1, hr1, hs2, hr2, ht1, ht2, hu1, hu2⟩ := t3_sem k
  rw [k0_part11_eq_skeleton]
  unfold k0_part11_skel
  simp only [semSignalWord, semWaitWord, Prog.lift, Prog.bind_op, Prog.bind_ret, Prog.pure_eq_ret, Prog.bind_assoc, wp_deviceId]
  rw [dq_h, tile_succ (b := false)]
  iintro ⟨G, A1, A2, T1⟩ Hk
  iapply (ld_accLo false rfl) $$ A2
  iintro %_ A2
  iapply (st_hi false rfl rfl) $$ A2
  iintro A2
  ihave G := (G_ctx c _ _ _) $$ G
  icases G with ⟨#HX, G⟩
  iapply (g_store (m := m) (K := K) (ιs := ιs) true (t := k.val + 1) (c := c) (by first | omega | (dsimp only; omega)) rfl (tileM_off (t3_tr c k)) hu1) $$ [T1 A1]
  · isplitr; · iexact HX
    isplitl [T1]; · iexact T1
    iexact A1
  iintro T1
  iapply ret_WP
  iapply Hk
  isplitl [G]; · iexact G
  isplitl [A2]; · iexact A2
  iexact T1

theorem part12 (c : Dev nD) (v4 v7 v818 v847 : BitVec 32) (k : Fin k0_t3_loop.trips) {Q : _ → sProp 𝕄} :
    iprop(G m K ιs c ⟨k.val + 9, k.val + 8, k.val + 8, k.val + 7, k.val + 7⟩ ⟨k.val + 9, k.val + 8, k.val + 8, k.val + 7, k.val + 7⟩ 7 ∗ accPts c false (tile m false (k.val + 1) c) ∗ Sto m c false (k.val + 1) (k.val + 1) ∗ slotPts fullShare.right c true (k.val + 7) (V m true (k.val + 8) c) ∗ slotPts fullShare.right c false (k.val + 7) (V m false (k.val + 8) c))
      ⊢ iprop((iprop(G m K ιs c ⟨k.val + 9, k.val + 9, k.val + 9, k.val + 7, k.val + 7⟩ ⟨k.val + 9, k.val + 9, k.val + 8, k.val + 7, k.val + 7⟩ 7 ∗ Sto m c false (k.val + 1 + 1) (k.val + 1) ∗ slotAny c true (k.val + 7) ∗ slotAny c false (k.val + 7) ∗ slotPts fullShare c true (k.val + 8) (V m true (k.val + 8 + 1) c)) -∗ Q ⟨⟩)
          -∗ WP c (k0_part12 xM (Memref.isWhole_whole _) wM (Memref.isWhole_whole _) oM (Memref.isWhole_whole _) (sM true) (Memref.isWhole_whole _) (sM false) (Memref.isWhole_whole _) (rM true) (Memref.isWhole_whole _) (rM false) (Memref.isWhole_whole _) (cM true) (Memref.isWhole_whole _) (cM false) (Memref.isWhole_whole _) aM (Memref.isWhole_whole _) cc0_scratch7 cc0_scratch8 cc0_scratch9 cc0_scratch10 cc0_scratch11 cc0_scratch12 cc0_scratch13 cc0_scratch14 cc0_scratch15 cc0_scratch16 c v4 v7 k v818 v847) Q) := by
  have hk := t3_lt k
  obtain ⟨hs1, hr1, hs2, hr2, ht1, ht2, hu1, hu2⟩ := t3_sem k
  rw [k0_part12_eq_skeleton]
  unfold k0_part12_skel
  simp only [semSignalWord, semWaitWord, Prog.lift, Prog.bind_op, Prog.bind_ret, Prog.pure_eq_ret, Prog.bind_assoc, wp_deviceId]
  iintro ⟨G, A2, T2, L1, L2⟩ Hk
  ihave G := (G_ctx c _ _ _) $$ G
  icases G with ⟨#HX, G⟩
  iapply (g_store (m := m) (K := K) (ιs := ιs) false (t := k.val + 1) (c := c) (by first | omega | (dsimp only; omega)) rfl (tileM_off (t3_tl c k)) hu2) $$ [T2 A2]
  · isplitr; · iexact HX
    isplitl [T2]; · iexact T2
    iexact A2
  iintro T2
  iapply (g_waitSend true (m := m) (K := K) (ιs := ιs) (c := c) (r := k.val + 8) (cw := k.val + 7) (cg := k.val + 7) (y := ⟨k.val + 9, k.val + 8, k.val + 8, k.val + 7, k.val + 7⟩) (h := 7) (n := k.val + 8) (by first | omega | (dsimp only; omega)) hs1) $$ G
  iintro ⟨G, L1l⟩
  ihave L1l := (Entails.of_eq ((src_slot (by first | omega | (dsimp only; omega)) _).trans (slotPts_two _ c true (k.val + 7) _))) $$ L1l
  ihave L1 := (slotPts_share c true _ _).2 $$ [L1l L1]
  · isplitl [L1l]; · iexact L1l
    iexact L1
  ihave L1 := (slotAny_of c true _ _) $$ L1
  iapply (g_waitRecv true (m := m) (K := K) (ιs := ιs) (c := c) (s := k.val + 9) (w := k.val + 9) (cw := k.val + 7) (cg := k.val + 7) (y := ⟨k.val + 9, k.val + 8, k.val + 8, k.val + 7, k.val + 7⟩) (h := 7) (n := k.val + 8) (by first | omega | (dsimp only; omega)) (by first | omega | (dsimp only; omega)) (by first | omega | (dsimp only; omega)) (by first | omega | (dsimp only; omega)) (by first | omega | (dsimp only; omega)) (by first | omega | (dsimp only; omega)) hr1) $$ G
  iintro ⟨G, N1⟩
  ihave N1 := (Entails.of_eq (congrArg (slotPts fullShare c true _) (V_pass m true (n := k.val + 8) (by first | omega | (dsimp only; omega)) c).symm)) $$ N1
  iapply (g_waitSend false (m := m) (K := K) (ιs := ιs) (c := c) (r := k.val + 8) (cw := k.val + 7) (cg := k.val + 7) (y := ⟨k.val + 9, k.val + 9, k.val + 9, k.val + 7, k.val + 7⟩) (h := 7) (n := k.val + 8) (by first | omega | (dsimp only; omega)) hs2) $$ G
  iintro ⟨G, L2l⟩
  ihave L2l := (Entails.of_eq ((src_slot (by first | omega | (dsimp only; omega)) _).trans (slotPts_two _ c false (k.val + 7) _))) $$ L2l
  ihave L2 := (slotPts_share c false _ _).2 $$ [L2l L2]
  · isplitl [L2l]; · iexact L2l
    iexact L2
  ihave L2 := (slotAny_of c false _ _) $$ L2
  iapply ret_WP
  iapply Hk
  isplitl [G]; · iexact G
  isplitl [T2]; · iexact T2
  isplitl [L1]; · iexact L1
  isplitl [L2]; · iexact L2
  iexact N1

set_option maxHeartbeats 800000 in
theorem t3_trip (c : Dev nD) (v2 v4 v7 : BitVec 32) (k : Fin k0_t3_loop.trips) (u : Unit) :
    AS m K ιs c k.val ⊢ WP c (k0_t3_body xM (Memref.isWhole_whole _) wM (Memref.isWhole_whole _) oM (Memref.isWhole_whole _) (sM true) (Memref.isWhole_whole _) (sM false) (Memref.isWhole_whole _) (rM true) (Memref.isWhole_whole _) (rM false) (Memref.isWhole_whole _) (cM true) (Memref.isWhole_whole _) (cM false) (Memref.isWhole_whole _) aM (Memref.isWhole_whole _) cc0_scratch7 cc0_scratch8 cc0_scratch9 cc0_scratch10 cc0_scratch11 cc0_scratch12 cc0_scratch13 cc0_scratch14 cc0_scratch15 cc0_scratch16 c v2 v4 v7 (scale m c) k u) (fun _ => AS m K ιs c (k.val + 1)) := by
  have hk := t3_lt k
  obtain ⟨hs1, hr1, hs2, hr2, ht1, ht2, hu1, hu2⟩ := t3_sem k
  unfold k0_t3_body AS
  rw [if_pos hk]
  simp only [semSignalWord, semWaitWord, Prog.lift, Prog.bind_op, Prog.bind_ret, Prog.pure_eq_ret, Prog.bind_assoc]
  iintro ⟨G, L1, L2, T1, T2, -⟩
  iapply bind_WP
  iapply (part5 (m := m) (K := K) (ιs := ιs) c v2 v4 v7 _ _ k) $$ [G L1 L2]
  · isplitl [G]; · iexact G
    isplitl [L1]; · iexact L1
    iexact L2
  iintro %v818 %v844 %v846 ⟨G, L1, L2⟩
  iapply bind_WP
  iapply (part6 (m := m) (K := K) (ιs := ιs) c v818 v844 v846 _ k) $$ [G L1 T1 T2]
  · isplitl [G]; · iexact G
    isplitl [L1]; · iexact L1
    isplitl [T1]; · iexact T1
    iexact T2
  iintro %v847 ⟨G, L1, T1, T2, A1, A2⟩
  iapply bind_WP
  iapply (part7 (m := m) c k) $$ [L1 A1]
  · isplitl [L1]; · iexact L1
    iexact A1
  iintro  ⟨L1, A1⟩
  iapply bind_WP
  iapply (part8 (m := m) c k) $$ A1
  iintro %v972 A1
  iapply bind_WP
  iapply (part9 (m := m) c v818 v972 k) $$ [L2 A1]
  · isplitl [L2]; · iexact L2
    iexact A1
  iintro  ⟨L2, A1⟩
  iapply bind_WP
  iapply (part10 (m := m) c k) $$ [L2 A2]
  · isplitl [L2]; · iexact L2
    iexact A2
  iintro  ⟨L2, A2⟩
  iapply bind_WP
  iapply (part11 (m := m) (K := K) (ιs := ιs) c v818 v844 k) $$ [G A1 A2 T1]
  · isplitl [G]; · iexact G
    isplitl [A1]; · iexact A1
    isplitl [A2]; · iexact A2
    iexact T1
  iintro  ⟨G, A2, T1⟩
  iapply bind_WP
  iapply (part12 (m := m) (K := K) (ιs := ιs) c v4 v7 v818 v847 k) $$ [G A2 T2 L1 L2]
  · isplitl [G]; · iexact G
    isplitl [A2]; · iexact A2
    isplitl [T2]; · iexact T2
    isplitl [L1]; · iexact L1
    iexact L2
  iintro  ⟨G, T2, L1, L2, N1⟩
  iapply (g_waitRecv false (m := m) (K := K) (ιs := ιs) (c := c) (s := k.val + 9) (w := k.val + 9) (cw := k.val + 7) (cg := k.val + 7) (y := ⟨k.val + 9, k.val + 9, k.val + 9, k.val + 7, k.val + 7⟩) (h := 7) (n := k.val + 8) (by first | omega | (dsimp only; omega)) (by first | omega | (dsimp only; omega)) (by first | omega | (dsimp only; omega)) (by first | omega | (dsimp only; omega)) (by first | omega | (dsimp only; omega)) (by first | omega | (dsimp only; omega)) hr2) $$ G
  iintro ⟨G, N2⟩
  ihave N2 := (Entails.of_eq (congrArg (slotPts fullShare c false _) (V_pass m false (n := k.val + 8) (by first | omega | (dsimp only; omega)) c).symm)) $$ N2
  rcases Nat.lt_or_ge k.val 5 with h5 | h5
  · iapply (g_credGive true (m := m) (K := K) (ιs := ιs) (c := c) (s := k.val + 9) (w := k.val + 9) (r := k.val + 9) (cw := k.val + 7) (y := ⟨k.val + 9, k.val + 9, k.val + 9, k.val + 7, k.val + 7⟩) (h := 7) (j := k.val + 7) (Fin.ext (k0_dev20_eq c)) (by first | omega | (dsimp only; omega)) (.inr (by first | omega | (dsimp only; omega)))) $$ [G L1]
    · isplitl [G]; · iexact G
      iexact L1
    iintro G
    iapply (g_credGive false (m := m) (K := K) (ιs := ιs) (c := c) (s := k.val + 9) (w := k.val + 9) (r := k.val + 9) (cw := k.val + 7) (y := ⟨k.val + 9, k.val + 9, k.val + 9, k.val + 7, k.val + 8⟩) (h := 7) (j := k.val + 7) (Fin.ext (k0_dev21_eq c)) (by first | omega | (dsimp only; omega)) (.inr (by first | omega | (dsimp only; omega)))) $$ [G L2]
    · isplitl [G]; · iexact G
      iexact L2
    iintro G
    iapply ret_WP
    rw [if_pos (show k.val + 1 < 6 by omega)]
    isplitl [G]; · iexact G
    isplitl [N1]; · iexact N1
    isplitl [N2]; · iexact N2
    isplitl [T1]; · iexact T1
    isplitl [T2]; · iexact T2
    iempintro
  · iapply (g_credLast true (m := m) (K := K) (ιs := ιs) (c := c) (s := k.val + 9) (w := k.val + 9) (r := k.val + 9) (cw := k.val + 7) (y := ⟨k.val + 9, k.val + 9, k.val + 9, k.val + 7, k.val + 7⟩) (h := 7) (j := k.val + 7) (Fin.ext (k0_dev20_eq c)) (by first | omega | (dsimp only; omega)) (by first | omega | (dsimp only; omega))) $$ G
    iintro G
    iapply (g_credLast false (m := m) (K := K) (ιs := ιs) (c := c) (s := k.val + 9) (w := k.val + 9) (r := k.val + 9) (cw := k.val + 7) (y := ⟨k.val + 9, k.val + 9, k.val + 9, k.val + 7, k.val + 8⟩) (h := 7) (j := k.val + 7) (Fin.ext (k0_dev21_eq c)) (by first | omega | (dsimp only; omega)) (by first | omega | (dsimp only; omega))) $$ G
    iintro G
    iapply ret_WP
    rw [if_neg (show ¬ k.val + 1 < 6 by omega)]
    isplitl [G]; · iexact G
    isplitl [N1]; · iexact N1
    isplitl [N2]; · iexact N2
    isplitl [T1]; · iexact T1
    isplitl [T2]; · iexact T2
    ihave L1 := (Entails.of_eq (congrArg (slotAny c true) (show k.val + 7 = 12 by omega))) $$ L1
    ihave L2 := (Entails.of_eq (congrArg (slotAny c false) (show k.val + 7 = 12 by omega))) $$ L2
    isplitl [L1]; · iexact L1
    iexact L2

theorem off12_7 (c : Dev nD) : k0_off12 c 10#32 = ![512 * (gk true c 7 % 8), col0 true] :=
  (k0_off12_eq c 1).trans (congrArg (fun j => ![512 * j, 0]) (show (c.val + 9 * 1 + 1) % 8 = (c.val + 17 - 7) % 8 % 8 by omega))
theorem off20_7 (c : Dev nD) : k0_off20 c = ![512 * (gk false c 7 % 8), col0 false] :=
  (k0_off20_eq c).trans (congrArg (fun j => ![512 * j, 4096]) (show (c.val + 6) % 8 = (c.val + 7 + 7) % 8 % 8 by omega))

theorem part29 (c : Dev nD) (v2 v4 v7 : BitVec 32) {Q : _ → sProp 𝕄} :
    iprop(G m K ιs c ⟨8, 8, 7, 6, 7⟩ ⟨8, 7, 7, 6, 7⟩ 7 ∗ sendPts fullShare.right c false (V m false 7 c) ∗ Sto m c true (1) (0) ∗ Sto m c false (1) (0))
      ⊢ iprop((∀ v552 v554, iprop(G m K ιs c ⟨14, 14, 14, 12, 13⟩ ⟨14, 14, 14, 12, 13⟩ 7 ∗ slotPts fullShare c true 13 (V m true 14 c) ∗ slotPts fullShare c false 13 (V m false 14 c) ∗ Sto m c true (7) (7) ∗ Sto m c false (7) (6) ∗ slotAny c true 12 ∗ slotAny c false 12 ∗ sendAny c false ∗ accAny c true) -∗ Q ⟨v552, v554⟩)
          -∗ WP c (k0_part29 xM (Memref.isWhole_whole _) wM (Memref.isWhole_whole _) oM (Memref.isWhole_whole _) (sM true) (Memref.isWhole_whole _) (sM false) (Memref.isWhole_whole _) (rM true) (Memref.isWhole_whole _) (rM false) (Memref.isWhole_whole _) (cM true) (Memref.isWhole_whole _) (cM false) (Memref.isWhole_whole _) aM (Memref.isWhole_whole _) cc0_scratch7 cc0_scratch8 cc0_scratch9 cc0_scratch10 cc0_scratch11 cc0_scratch12 cc0_scratch13 cc0_scratch14 cc0_scratch15 cc0_scratch16 c v2 v4 v7 (scale m c)) Q) := by
  rw [k0_part29_eq_skeleton]
  unfold k0_part29_skel
  simp only [semSignalWord, semWaitWord, Prog.lift, Prog.bind_op, Prog.bind_ret, Prog.pure_eq_ret, Prog.bind_assoc, wp_deviceId]
  iintro ⟨G, S2, T1, T2⟩ Hk
  iapply (g_waitRecv true (m := m) (K := K) (ιs := ιs) (c := c) (s := 8) (w := 8) (cw := 6) (cg := 7) (y := ⟨8, 7, 7, 6, 7⟩) (h := 7) (n := 7) (by first | omega | (dsimp only; omega)) (by first | omega | (dsimp only; omega)) (by first | omega | (dsimp only; omega)) (by first | omega | (dsimp only; omega)) (by first | omega | (dsimp only; omega)) (by first | omega | (dsimp only; omega)) rfl) $$ G
  iintro ⟨G, N1⟩
  ihave N1 := (Entails.of_eq (congrArg (slotPts fullShare c true _) (V_pass m true (n := 7) (by first | omega | (dsimp only; omega)) c).symm)) $$ N1
  iapply (g_waitSend false (m := m) (K := K) (ιs := ιs) (c := c) (r := 7) (cw := 6) (cg := 7) (y := ⟨8, 8, 8, 6, 7⟩) (h := 7) (n := 7) (by first | omega | (dsimp only; omega)) rfl) $$ G
  iintro ⟨G, S2l⟩
  ihave S2l := (Entails.of_eq (src_send (by first | omega | (dsimp only; omega)) _)) $$ S2l
  ihave S2 := (sendPts_share c false _).2 $$ [S2l S2]
  · isplitl [S2l]; · iexact S2l
    iexact S2
  ihave S2 := (sendAny_of c false _) $$ S2
  iapply (g_waitRecv false (m := m) (K := K) (ιs := ιs) (c := c) (s := 8) (w := 8) (cw := 6) (cg := 7) (y := ⟨8, 8, 8, 6, 7⟩) (h := 7) (n := 7) (by first | omega | (dsimp only; omega)) (by first | omega | (dsimp only; omega)) (by first | omega | (dsimp only; omega)) (by first | omega | (dsimp only; omega)) (by first | omega | (dsimp only; omega)) (by first | omega | (dsimp only; omega)) rfl) $$ G
  iintro ⟨G, N2⟩
  ihave N2 := (Entails.of_eq (congrArg (slotPts fullShare c false _) (V_pass m false (n := 7) (by first | omega | (dsimp only; omega)) c).symm)) $$ N2
  iapply bind_WP
  iapply (Scf.wp_for frame (wpE (defs₀ (F := F)) 𝒱₀ (c : Thread nD τ) none) Set.univ _ _ _ _ _ _ (fun k _ => AS m K ιs c k) (fun k u => t3_trip c v2 v4 v7 k u))
  isplitl [G N1 N2 T1 T2]
  · unfold AS
    rw [if_pos (show 0 < 6 by decide)]
    isplitl [G]; · iexact G
    isplitl [N1]; · iexact N1
    isplitl [N2]; · iexact N2
    isplitl [T1]; · iexact T1
    isplitl [T2]; · iexact T2
    iempintro
  iintro %_ H
  ihave H := (Entails.of_eq (congrArg (AS m K ιs c) (show _ = 6 by decide))) $$ H
  unfold AS
  rw [if_neg (show ¬ 6 < 6 by decide)]
  icases H with ⟨G, N1, N2, T1, T2, L1, L2⟩
  iapply (g_waitStore true (t := 6) (c := c) (by first | omega | (dsimp only; omega)) rfl) $$ [G T1]
  · isplitl [G]; · iexact G
    iexact T1
  iintro ⟨G, T1, A1⟩
  ihave A1 := (accAny_of c true _) $$ A1
  iapply ret_WP
  iapply Hk
  isplitl [G]; · iexact G
  isplitl [N1]; · iexact N1
  isplitl [N2]; · iexact N2
  isplitl [T1]; · iexact T1
  isplitl [T2]; · iexact T2
  isplitl [L1]; · iexact L1
  isplitl [L2]; · iexact L2
  isplitl [S2]; · iexact S2
  iexact A1

end Cert.RingProof

end
-- ==== Proof.Body5.lean ====
/-
  The last tiles, and the whole body.
-/
module

public import proofs.«01_k».proof.Proof.Body4

@[expose] public section

noncomputable section

namespace Cert.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {K : GSem nD τ sig → ℕ} {ιs : Key → ℕ}

theorem part30 (c : Dev nD) {Q : _ → sProp 𝕄} :
    iprop(G m K ιs c ⟨14, 14, 14, 12, 13⟩ ⟨14, 14, 14, 12, 13⟩ 7 ∗ slotPts fullShare c true 13 (V m true 14 c) ∗ Sto m c false (7) (6))
      ⊢ iprop((iprop(G m K ιs c ⟨14, 14, 14, 12, 13⟩ ⟨14, 14, 14, 12, 13⟩ 7 ∗ slotPts fullShare c true 13 (V m true 14 c) ∗ Sto m c false (7) (7) ∗ accAny c false) -∗ Q ⟨k0_pay80 (scale m c) (half (V m true 14 c) 0), k0_pay81 (scale m c) (half (V m true 14 c) 0), k0_pay82 (scale m c) (half (V m true 14 c) 0), k0_pay83 (scale m c) (half (V m true 14 c) 0)⟩)
          -∗ WP c (k0_part30 xM (Memref.isWhole_whole _) wM (Memref.isWhole_whole _) oM (Memref.isWhole_whole _) (sM true) (Memref.isWhole_whole _) (sM false) (Memref.isWhole_whole _) (rM true) (Memref.isWhole_whole _) (rM false) (Memref.isWhole_whole _) (cM true) (Memref.isWhole_whole _) (cM false) (Memref.isWhole_whole _) aM (Memref.isWhole_whole _) cc0_scratch7 cc0_scratch8 cc0_scratch9 cc0_scratch10 cc0_scratch11 cc0_scratch12 cc0_scratch13 cc0_scratch14 cc0_scratch15 cc0_scratch16 c (scale m c)) Q) := by
  rw [k0_part30_eq_skeleton]
  unfold k0_part30_skel
  simp only [semSignalWord, semWaitWord, Prog.lift, Prog.bind_op, Prog.bind_ret, Prog.pure_eq_ret, Prog.bind_assoc, wp_deviceId]
  iintro ⟨G, L1, T2⟩ Hk
  iapply (g_waitStore false (t := 6) (c := c) (by first | omega | (dsimp only; omega)) rfl) $$ [G T2]
  · isplitl [G]; · iexact G
    iexact T2
  iintro ⟨G, T2, A2⟩
  ihave A2 := (accAny_of c false _) $$ A2
  iapply (ld_slotHalf true (13) 0 rfl rfl) $$ L1
  iintro L1
  iapply ret_WP
  iapply Hk
  isplitl [G]; · iexact G
  isplitl [L1]; · iexact L1
  isplitl [T2]; · iexact T2
  iexact A2

theorem part31 (c : Dev nD) {Q : _ → sProp 𝕄} :
    iprop(slotPts fullShare c true 13 (V m true 14 c) ∗ accAny c true)
      ⊢ iprop((iprop(slotPts fullShare c true 13 (V m true 14 c) ∗ accLo c true (dq (scale m c) (half (V m true 14 c) 0))) -∗ Q ⟨k0_pay85 (scale m c) (half (V m true 14 c) 1), k0_pay86 (scale m c) (half (V m true 14 c) 1), k0_pay87 (scale m c) (half (V m true 14 c) 1), k0_pay88 (scale m c) (half (V m true 14 c) 1), Scalar.ofBits .f32 0x40800000#32⟩)
          -∗ WP c (k0_part31 xM (Memref.isWhole_whole _) wM (Memref.isWhole_whole _) oM (Memref.isWhole_whole _) (sM true) (Memref.isWhole_whole _) (sM false) (Memref.isWhole_whole _) (rM true) (Memref.isWhole_whole _) (rM false) (Memref.isWhole_whole _) (cM true) (Memref.isWhole_whole _) (cM false) (Memref.isWhole_whole _) aM (Memref.isWhole_whole _) cc0_scratch7 cc0_scratch8 cc0_scratch9 cc0_scratch10 cc0_scratch11 cc0_scratch12 cc0_scratch13 cc0_scratch14 cc0_scratch15 cc0_scratch16 (scale m c) (k0_pay80 (scale m c) (half (V m true 14 c) 0)) (k0_pay81 (scale m c) (half (V m true 14 c) 0)) (k0_pay82 (scale m c) (half (V m true 14 c) 0)) (k0_pay83 (scale m c) (half (V m true 14 c) 0))) Q) := by
  rw [k0_part31_eq_skeleton]
  unfold k0_part31_skel
  simp only [semSignalWord, semWaitWord, Prog.lift, Prog.bind_op, Prog.bind_ret, Prog.pure_eq_ret, Prog.bind_assoc, wp_deviceId]
  rw [dq_i]
  iintro ⟨L1, A1⟩ Hk
  iapply (ld_accAny true rfl) $$ A1
  iintro %_ A1
  iapply (st_lo true rfl rfl) $$ A1
  iintro A1
  iapply (ld_slotHalf true (13) 1 rfl rfl) $$ L1
  iintro L1
  iapply ret_WP
  iapply Hk
  isplitl [L1]; · iexact L1
  iexact A1

theorem part32 (c : Dev nD) {Q : _ → sProp 𝕄} :
    iprop(slotPts fullShare c false 13 (V m false 14 c) ∗ accLo c true (dq (scale m c) (half (V m true 14 c) 0)))
      ⊢ iprop((iprop(slotPts fullShare c false 13 (V m false 14 c) ∗ accPts c true (tile m true 7 c)) -∗ Q (k0_pay90 (scale m c) (half (V m false 14 c) 0)))
          -∗ WP c (k0_part32 xM (Memref.isWhole_whole _) wM (Memref.isWhole_whole _) oM (Memref.isWhole_whole _) (sM true) (Memref.isWhole_whole _) (sM false) (Memref.isWhole_whole _) (rM true) (Memref.isWhole_whole _) (rM false) (Memref.isWhole_whole _) (cM true) (Memref.isWhole_whole _) (cM false) (Memref.isWhole_whole _) aM (Memref.isWhole_whole _) cc0_scratch7 cc0_scratch8 cc0_scratch9 cc0_scratch10 cc0_scratch11 cc0_scratch12 cc0_scratch13 cc0_scratch14 cc0_scratch15 cc0_scratch16 (scale m c) (k0_pay85 (scale m c) (half (V m true 14 c) 1)) (k0_pay86 (scale m c) (half (V m true 14 c) 1)) (k0_pay87 (scale m c) (half (V m true 14 c) 1)) (k0_pay88 (scale m c) (half (V m true 14 c) 1)) (Scalar.ofBits .f32 0x40800000#32)) Q) := by
  rw [k0_part32_eq_skeleton]
  unfold k0_part32_skel
  simp only [semSignalWord, semWaitWord, Prog.lift, Prog.bind_op, Prog.bind_ret, Prog.pure_eq_ret, Prog.bind_assoc, wp_deviceId]
  rw [dq_j, show tile m true 7 c = dqT (scale m c) (V m true 14 c) from rfl]
  iintro ⟨L2, A1⟩ Hk
  iapply (ld_accLo true rfl) $$ A1
  iintro %_ A1
  iapply (st_hi true rfl rfl) $$ A1
  iintro A1
  iapply (ld_slotHalf false (13) 0 rfl rfl) $$ L2
  iintro L2
  iapply ret_WP
  iapply Hk
  isplitl [L2]; · iexact L2
  iexact A1

theorem part33 (c : Dev nD) (v : FVec F S512x2048 .f32) {Q : _ → sProp 𝕄} :
    Q ⟨k0_pay91 v, k0_pay92 (F := F)⟩ ⊢ WP c (k0_part33 xM (Memref.isWhole_whole _) wM (Memref.isWhole_whole _) oM (Memref.isWhole_whole _) (sM true) (Memref.isWhole_whole _) (sM false) (Memref.isWhole_whole _) (rM true) (Memref.isWhole_whole _) (rM false) (Memref.isWhole_whole _) (cM true) (Memref.isWhole_whole _) (cM false) (Memref.isWhole_whole _) aM (Memref.isWhole_whole _) cc0_scratch7 cc0_scratch8 cc0_scratch9 cc0_scratch10 cc0_scratch11 cc0_scratch12 cc0_scratch13 cc0_scratch14 cc0_scratch15 cc0_scratch16 v) Q := by
  rw [k0_part33_eq_skeleton]
  exact ret_WP

theorem part34 (c : Dev nD) {Q : _ → sProp 𝕄} :
    iprop(slotPts fullShare c false 13 (V m false 14 c) ∗ accAny c false)
      ⊢ iprop((iprop(slotPts fullShare c false 13 (V m false 14 c) ∗ accLo c false (dq (scale m c) (half (V m false 14 c) 0))) -∗ Q ⟨k0_pay94 (scale m c) (half (V m false 14 c) 1), k0_pay95 (scale m c) (half (V m false 14 c) 1), k0_pay96 (scale m c) (half (V m false 14 c) 1), Scalar.ofBits .f32 0x3E000000#32⟩)
          -∗ WP c (k0_part34 xM (Memref.isWhole_whole _) wM (Memref.isWhole_whole _) oM (Memref.isWhole_whole _) (sM true) (Memref.isWhole_whole _) (sM false) (Memref.isWhole_whole _) (rM true) (Memref.isWhole_whole _) (rM false) (Memref.isWhole_whole _) (cM true) (Memref.isWhole_whole _) (cM false) (Memref.isWhole_whole _) aM (Memref.isWhole_whole _) cc0_scratch7 cc0_scratch8 cc0_scratch9 cc0_scratch10 cc0_scratch11 cc0_scratch12 cc0_scratch13 cc0_scratch14 cc0_scratch15 cc0_scratch16 (scale m c) (k0_pay90 (scale m c) (half (V m false 14 c) 0)) (k0_pay91 (k0_pay90 (scale m c) (half (V m false 14 c) 0))) (k0_pay92 (F := F))) Q) := by
  rw [k0_part34_eq_skeleton]
  unfold k0_part34_skel
  simp only [semSignalWord, semWaitWord, Prog.lift, Prog.bind_op, Prog.bind_ret, Prog.pure_eq_ret, Prog.bind_assoc, wp_deviceId]
  rw [dq_k]
  iintro ⟨L2, A2⟩ Hk
  iapply (ld_accAny false rfl) $$ A2
  iintro %_ A2
  iapply (st_lo false rfl rfl) $$ A2
  iintro A2
  iapply (ld_slotHalf false (13) 1 rfl rfl) $$ L2
  iintro L2
  iapply ret_WP
  iapply Hk
  isplitl [L2]; · iexact L2
  iexact A2

theorem part35 (c : Dev nD) (v552 v554 : BitVec 32) {Q : _ → sProp 𝕄} :
    iprop(G m K ιs c ⟨14, 14, 14, 12, 13⟩ ⟨14, 14, 14, 12, 13⟩ 7 ∗ accPts c true (tile m true 7 c) ∗ accLo c false (dq (scale m c) (half (V m false 14 c) 0)) ∗ Sto m c true (7) (7) ∗ Sto m c false (7) (7))
      ⊢ iprop((iprop(G m K ιs c ⟨14, 14, 14, 12, 13⟩ ⟨14, 14, 14, 12, 13⟩ 7 ∗ accAny c true ∗ Sto m c true (8) (8) ∗ Sto m c false (8) (7)) -∗ Q ⟨⟩)
          -∗ WP c (k0_part35 xM (Memref.isWhole_whole _) wM (Memref.isWhole_whole _) oM (Memref.isWhole_whole _) (sM true) (Memref.isWhole_whole _) (sM false) (Memref.isWhole_whole _) (rM true) (Memref.isWhole_whole _) (rM false) (Memref.isWhole_whole _) (cM true) (Memref.isWhole_whole _) (cM false) (Memref.isWhole_whole _) aM (Memref.isWhole_whole _) cc0_scratch7 cc0_scratch8 cc0_scratch9 cc0_scratch10 cc0_scratch11 cc0_scratch12 cc0_scratch13 cc0_scratch14 cc0_scratch15 cc0_scratch16 c (scale m c) v552 v554 (k0_pay94 (scale m c) (half (V m false 14 c) 1)) (k0_pay95 (scale m c) (half (V m false 14 c) 1)) (k0_pay96 (scale m c) (half (V m false 14 c) 1)) (Scalar.ofBits .f32 0x3E000000#32)) Q) := by
  rw [k0_part35_eq_skeleton]
  unfold k0_part35_skel
  simp only [semSignalWord, semWaitWord, Prog.lift, Prog.bind_op, Prog.bind_ret, Prog.pure_eq_ret, Prog.bind_assoc, wp_deviceId]
  rw [dq_l]
  iintro ⟨G, A1, A2, T1, T2⟩ Hk
  iapply (ld_accLo false rfl) $$ A2
  iintro %_ A2
  iapply (st_hi false rfl rfl) $$ A2
  iintro A2
  ihave G := (G_ctx c _ _ _) $$ G
  icases G with ⟨#HX, G⟩
  iapply (g_store (m := m) (K := K) (ιs := ιs) true (t := 7) (c := c) (by first | omega | (dsimp only; omega)) rfl (tileM_off (off12_7 c)) rfl) $$ [T1 A1]
  · isplitr; · iexact HX
    isplitl [T1]; · iexact T1
    iexact A1
  iintro T1
  iapply (g_waitStore true (t := 7) (c := c) (by first | omega | (dsimp only; omega)) rfl) $$ [G T1]
  · isplitl [G]; · iexact G
    iexact T1
  iintro ⟨G, T1, A1⟩
  ihave G := (G_ctx c _ _ _) $$ G
  icases G with ⟨#HX, G⟩
  iapply (g_store (m := m) (K := K) (ιs := ιs) false (t := 7) (c := c) (by first | omega | (dsimp only; omega)) rfl (tileM_off (off20_7 c)) rfl) $$ [T2 A2]
  · isplitr; · iexact HX
    isplitl [T2]; · iexact T2
    iexact A2
  iintro T2
  ihave A1 := (accAny_of c true _) $$ A1
  iapply ret_WP
  iapply Hk
  isplitl [G]; · iexact G
  isplitl [A1]; · iexact A1
  isplitl [T1]; · iexact T1
  iexact T2

variable (m K ιs) in
/-- What a device starts the body with. -/
def Begin (c : Dev nD) : sProp 𝕄 :=
  iprop(Start m K ιs c ∗ AmT c ∗ Sto m c true 0 0 ∗ Sto m c false 0 0 ∗ xPts m c ∗ wPts m c ∗ accAny c true ∗ accAny c false ∗ sendAny c true ∗ sendAny c false
    ∗ rowAny c 7)
/-- Where a device's own ring cells stand at the end. -/
def DoneCells (c : Dev nD) (b : Bool) : sProp 𝕄 :=
  iprop(Pos (sendCell c b) 14 ∗ Pos (recvCell c b) 14 ∗ atPos ER (credCell c b) 1 ∅ 0)
variable (m K ιs) in
/-- What it ends with. -/
def Done (c : Dev nD) : sProp 𝕄 :=
  iprop(Ctx m K ιs ∗ ow c 0 ∗ atPos ER (barCell c) 1 ∅ 0 ∗ DoneCells c true ∗ DoneCells c false ∗ Sto m c true 8 8 ∗ Sto m c false 8 8 ∗ AmD c 7
    ∗ xPts m c ∗ wPts m c ∗ accAny c true ∗ accAny c false ∗ sendAny c true ∗ sendAny c false
    ∗ slotAny c true 12 ∗ slotAny c true 13 ∗ slotAny c false 12 ∗ slotAny c false 13 ∗ rowAny c 7)

set_option maxHeartbeats 4000000 in
theorem body (c : Dev nD) : Begin m K ιs c ⊢ WP c (cc0__body xM (Memref.isWhole_whole _) wM (Memref.isWhole_whole _) oM (Memref.isWhole_whole _) (sM true) (Memref.isWhole_whole _) (sM false) (Memref.isWhole_whole _) (rM true) (Memref.isWhole_whole _) (rM false) (Memref.isWhole_whole _) (cM true) (Memref.isWhole_whole _) (cM false) (Memref.isWhole_whole _) aM (Memref.isWhole_whole _) cc0_scratch7 cc0_scratch8 cc0_scratch9 cc0_scratch10 cc0_scratch11 cc0_scratch12 cc0_scratch13 cc0_scratch14 cc0_scratch15 cc0_scratch16) (fun _ => Done m K ιs c) := by
  rw [cc0__body_eq_skeleton]
  unfold cc0__body_skel Begin
  simp only [semSignalWord, semWaitWord, Prog.lift, Prog.bind_op, Prog.bind_ret, Prog.pure_eq_ret, Prog.bind_assoc]
  iintro ⟨G, K, T1, T2, X, W, A1, A2, S1, S2, R⟩
  iapply bind_WP
  iapply (part13 (m := m) (K := K) (ιs := ιs) c) $$ [G X W A1]
  · isplitl [G]; · iexact G
    isplitl [X]; · iexact X
    isplitl [W]; · iexact W
    iexact A1
  iintro %v2 %v4 %v7 ⟨G, B, NR, X, W, A1⟩
  ihave K := (AmK_of c) $$ [K NR]
  · isplitl [K]; · iexact K
    iexact NR
  iapply bind_WP
  iapply (part14 (m := m) c v2 v4) $$ [X W A1 A2 S1 S2]
  · isplitl [X]; · iexact X
    isplitl [W]; · iexact W
    isplitl [A1]; · iexact A1
    isplitl [A2]; · iexact A2
    isplitl [S1]; · iexact S1
    iexact S2
  iintro  ⟨X, W, A1, A2, S1, S2⟩
  iapply bind_WP
  iapply (part15 (m := m) (K := K) (ιs := ιs) c v2 v7) $$ [G X W S1 S2 A1]
  · isplitl [G]; · iexact G
    isplitl [X]; · iexact X
    isplitl [W]; · iexact W
    isplitl [S1]; · iexact S1
    isplitl [S2]; · iexact S2
    iexact A1
  iintro %v75 ⟨G, X, W, S1, S2, A1⟩
  iapply bind_WP
  iapply (part16 (m := m) (K := K) (ιs := ιs) c v4 v75) $$ [G X W S1 A1 A2]
  · isplitl [G]; · iexact G
    isplitl [X]; · iexact X
    isplitl [W]; · iexact W
    isplitl [S1]; · iexact S1
    isplitl [A1]; · iexact A1
    iexact A2
  iintro  ⟨G, X, W, S1, L1, A1, A2⟩
  iapply bind_WP
  iapply (part17 (m := m) (K := K) (ιs := ιs) c v7) $$ [G S1 S2 L1 A1 A2]
  · isplitl [G]; · iexact G
    isplitl [S1]; · iexact S1
    isplitl [S2]; · iexact S2
    isplitl [L1]; · iexact L1
    isplitl [A1]; · iexact A1
    iexact A2
  iintro %w0 ⟨G, S1, S2, L1, L2, A1, A2⟩
  iapply bind_WP
  iapply (part18 (m := m) (K := K) (ιs := ιs) c v2 v4 v7 w0) $$ [G X S1 S2 L1 L2]
  · isplitl [G]; · iexact G
    isplitl [X]; · iexact X
    isplitl [S1]; · iexact S1
    isplitl [S2]; · iexact S2
    isplitl [L1]; · iexact L1
    iexact L2
  iintro %v170 ⟨G, X, S1, S2⟩
  iapply bind_WP
  iapply (part19 (m := m) c v170) $$ [X W A1 A2]
  · isplitl [X]; · iexact X
    isplitl [W]; · iexact W
    isplitl [A1]; · iexact A1
    iexact A2
  iintro  ⟨X, W, A1, A2⟩
  iapply bind_WP
  iapply (part20 (m := m) (K := K) (ιs := ιs) c v4 v7) $$ [G S1 S2 A1]
  · isplitl [G]; · iexact G
    isplitl [S1]; · iexact S1
    isplitl [S2]; · iexact S2
    iexact A1
  iintro  ⟨G, S1, S2, L1, L2, A1⟩
  iapply bind_WP
  iapply (part21 (m := m) (K := K) (ιs := ιs) c v2 v4 v7) $$ [G X W S1 S2 L1 L2 A1 A2 R]
  · isplitl [G]; · iexact G
    isplitl [X]; · iexact X
    isplitl [W]; · iexact W
    isplitl [S1]; · iexact S1
    isplitl [S2]; · iexact S2
    isplitl [L1]; · iexact L1
    isplitl [L2]; · iexact L2
    isplitl [A1]; · iexact A1
    isplitl [A2]; · iexact A2
    iexact R
  iintro %v262 ⟨G, X, W, S1, S2, A1, A2, R⟩
  iapply bind_WP
  iapply (part22 (m := m) (K := K) (ιs := ιs) c v4 v7 v262) $$ [G S1 S2 K R]
  · isplitl [G]; · iexact G
    isplitl [S1]; · iexact S1
    isplitl [S2]; · iexact S2
    isplitl [K]; · iexact K
    iexact R
  iintro  ⟨G, S1, S2, D, R⟩
  iapply bind_WP
  iapply (part23 (m := m) c) $$ S1
  iintro S1
  iapply bind_WP
  iapply (part24 (m := m) c) $$ [S1 A1]
  · isplitl [S1]; · iexact S1
    iexact A1
  iintro  ⟨S1, A1⟩
  iapply bind_WP
  iapply (part25 (m := m) c) $$ [S2 A1]
  · isplitl [S2]; · iexact S2
    iexact A1
  iintro  ⟨S2, A1⟩
  iapply bind_WP
  iapply (part26 (m := m) c) $$ [S2 A2]
  · isplitl [S2]; · iexact S2
    iexact A2
  iintro  ⟨S2, A2⟩
  iapply bind_WP
  iapply part27
  iapply bind_WP
  iapply (part28 (m := m) (K := K) (ιs := ιs) c v2 v4) $$ [G S1 A1 A2 T1 T2]
  · isplitl [G]; · iexact G
    isplitl [S1]; · iexact S1
    isplitl [A1]; · iexact A1
    isplitl [A2]; · iexact A2
    isplitl [T1]; · iexact T1
    iexact T2
  iintro  ⟨G, S1, T1, T2⟩
  iapply bind_WP
  iapply (part29 (m := m) (K := K) (ιs := ιs) c v2 v4 v7) $$ [G S2 T1 T2]
  · isplitl [G]; · iexact G
    isplitl [S2]; · iexact S2
    isplitl [T1]; · iexact T1
    iexact T2
  iintro %v552 %v554 ⟨G, L1, L2, T1, T2, M1, M2, S2, A1⟩
  iapply bind_WP
  iapply (part30 (m := m) (K := K) (ιs := ιs) c) $$ [G L1 T2]
  · isplitl [G]; · iexact G
    isplitl [L1]; · iexact L1
    iexact T2
  iintro  ⟨G, L1, T2, A2⟩
  iapply bind_WP
  iapply (part31 (m := m) c) $$ [L1 A1]
  · isplitl [L1]; · iexact L1
    iexact A1
  iintro  ⟨L1, A1⟩
  iapply bind_WP
  iapply (part32 (m := m) c) $$ [L2 A1]
  · isplitl [L2]; · iexact L2
    iexact A1
  iintro  ⟨L2, A1⟩
  iapply bind_WP
  iapply part33
  iapply bind_WP
  iapply (part34 (m := m) c) $$ [L2 A2]
  · isplitl [L2]; · iexact L2
    iexact A2
  iintro  ⟨L2, A2⟩
  iapply bind_WP
  iapply (part35 (m := m) (K := K) (ιs := ιs) c v552 v554) $$ [G A1 A2 T1 T2]
  · isplitl [G]; · iexact G
    isplitl [A1]; · iexact A1
    isplitl [A2]; · iexact A2
    isplitl [T1]; · iexact T1
    iexact T2
  iintro  ⟨G, A1, T1, T2⟩
  iapply (g_waitStore false (t := 7) (c := c) (by first | omega | (dsimp only; omega)) rfl) $$ [G T2]
  · isplitl [G]; · iexact G
    iexact T2
  iintro ⟨G, T2, A2⟩
  ihave A2 := (accAny_of c false _) $$ A2
  iapply (g_credLast true (m := m) (K := K) (ιs := ιs) (c := c) (s := 14) (w := 14) (r := 14) (cw := 12) (y := ⟨14, 14, 14, 12, 13⟩) (h := 7) (j := 13) (Fin.ext (k0_dev22_eq c)) (by first | omega | (dsimp only; omega)) (by first | omega | (dsimp only; omega))) $$ G
  iintro G
  iapply (g_credLast false (m := m) (K := K) (ιs := ιs) (c := c) (s := 14) (w := 14) (r := 14) (cw := 12) (y := ⟨14, 14, 14, 12, 14⟩) (h := 7) (j := 13) (Fin.ext (k0_dev23_eq c)) (by first | omega | (dsimp only; omega)) (by first | omega | (dsimp only; omega))) $$ G
  iintro G
  unfold GB G Dir
  dsimp only
  icases G with ⟨#HX, ⟨-, Ps1, -, -, Pr1, Cw1, -⟩, ⟨-, Ps2, -, -, Pr2, Cw2, -⟩, HO⟩
  iapply (g_credEnd (m := m) (K := K) (ιs := ιs) true (c := c) (s := 14) (w := 14) (r := 14) (cg := 14) (y := ⟨14, 14, 14, 12, 14⟩) (h := 7) (by decide) (by decide) (by decide) (by decide) (by decide)) $$ [Cw1 HO]
  · isplitr; · iexact HX
    isplitl [Cw1]; · iexact Cw1
    iexact HO
  iintro ⟨Pc1, HO⟩
  iapply (g_credEnd (m := m) (K := K) (ιs := ιs) false (c := c) (s := 14) (w := 14) (r := 14) (cg := 14) (y := ⟨14, 14, 14, 12, 14⟩) (h := 7) (by decide) (by decide) (by decide) (by decide) (by decide)) $$ [Cw2 HO]
  · isplitr; · iexact HX
    isplitl [Cw2]; · iexact Cw2
    iexact HO
  iintro ⟨Pc2, HO⟩
  iapply ret_WP
  ihave HO := (Entails.of_eq (congrArg (ow c) (show OwB c false ⟨14, 14, 14, 12, 14⟩ ⟨14, 14, 14, 12, 14⟩ 7 = 0 from Ow_end c))) $$ HO
  unfold Done DoneCells
  ihave L1 := (slotAny_of c true 13 _) $$ L1
  ihave L2 := (slotAny_of c false 13 _) $$ L2
  ihave R := (rowAny_of c 7 _) $$ R
  isplitr; · iexact HX
  isplitl [HO]; · iexact HO
  isplitl [B]; · iexact B
  isplitl [Ps1 Pr1 Pc1]
  · isplitl [Ps1]; · iexact Ps1
    isplitl [Pr1]; · iexact Pr1
    iexact Pc1
  isplitl [Ps2 Pr2 Pc2]
  · isplitl [Ps2]; · iexact Ps2
    isplitl [Pr2]; · iexact Pr2
    iexact Pc2
  isplitl [T1]; · iexact T1
  isplitl [T2]; · iexact T2
  isplitl [D]; · iexact D
  isplitl [X]; · iexact X
  isplitl [W]; · iexact W
  isplitl [A1]; · iexact A1
  isplitl [A2]; · iexact A2
  isplitl [S1]; · iexact S1
  isplitl [S2]; · iexact S2
  isplitl [M1]; · iexact M1
  isplitl [L1]; · iexact L1
  isplitl [M2]; · iexact M2
  isplitl [L2]; · iexact L2
  iexact R

end Cert.RingProof

end
-- ==== Proof.Deal.lean ====
/-
  The launch's ghost resources: the tokens and positions of every cell, minted cell by cell, grouped into what a device's
  own cells give, and handed to the devices that use them.
-/
module

public import proofs.«01_k».proof.Proof.Body5

@[expose] public section

noncomputable section

namespace Cert.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {K : GSem nD τ sig → ℕ} {ιs : Key → ℕ}

/-! ## The semaphores one by one -/

/-- A conjunct for every semaphore of the protocol. -/
def Each (Φ : SemLoc sig → sProp 𝕄) : sProp 𝕄 :=
  iprop(Φ (.reg barS) ∗ Φ (.reg (credS true)) ∗ Φ (.reg (credS false)) ∗ Φ (.dma (sendS true 0)) ∗ Φ (.dma (sendS true 1)) ∗ Φ (.dma (recvS true 0)) ∗ Φ (.dma (recvS true 1)) ∗ Φ (.dma (sendS false 0)) ∗ Φ (.dma (sendS false 1)) ∗ Φ (.dma (recvS false 0)) ∗ Φ (.dma (recvS false 1)) ∗ Φ (.dma (storS true 0)) ∗ Φ (.dma (storS true 1)) ∗ Φ (.dma (storS false 0)) ∗ Φ (.dma (storS false 1)) ∗ Φ (.dma (amSS 0)) ∗ Φ (.dma (amSS 1)) ∗ Φ (.dma (amSS 2)) ∗ Φ (.dma (amSS 3)) ∗ Φ (.dma (amSS 4)) ∗ Φ (.dma (amSS 5)) ∗ Φ (.dma (amSS 6)) ∗ Φ (.dma (amRS 0)) ∗ Φ (.dma (amRS 1)) ∗ Φ (.dma (amRS 2)) ∗ Φ (.dma (amRS 3)) ∗ Φ (.dma (amRS 4)) ∗ Φ (.dma (amRS 5)) ∗ Φ (.dma (amRS 6)))

theorem mySems_each (Φ : SemLoc sig → sProp 𝕄) : bigSep mySems Φ = Each Φ :=
  bigSep_eq_bigSepL_of_eq [(.reg barS), (.reg (credS true)), (.reg (credS false)), (.dma (sendS true 0)), (.dma (sendS true 1)), (.dma (recvS true 0)), (.dma (recvS true 1)), (.dma (sendS false 0)), (.dma (sendS false 1)), (.dma (recvS false 0)), (.dma (recvS false 1)), (.dma (storS true 0)), (.dma (storS true 1)), (.dma (storS false 0)), (.dma (storS false 1)), (.dma (amSS 0)), (.dma (amSS 1)), (.dma (amSS 2)), (.dma (amSS 3)), (.dma (amSS 4)), (.dma (amSS 5)), (.dma (amSS 6)), (.dma (amRS 0)), (.dma (amRS 1)), (.dma (amRS 2)), (.dma (amRS 3)), (.dma (amRS 4)), (.dma (amRS 5)), (.dma (amRS 6))] (by decide +kernel) (by decide +kernel) Φ

/-- The same, direction by direction. -/
def EachDir (Φ : SemLoc sig → sProp 𝕄) (b : Bool) : sProp 𝕄 :=
  iprop(Φ (.reg (credS b)) ∗ (Φ (.dma (sendS b 0)) ∗ Φ (.dma (sendS b 1))) ∗ (Φ (.dma (recvS b 0)) ∗ Φ (.dma (recvS b 1))) ∗ (Φ (.dma (storS b 0)) ∗ Φ (.dma (storS b 1))))
def Grouped (Φ : SemLoc sig → sProp 𝕄) : sProp 𝕄 :=
  iprop(Φ (.reg barS) ∗ EachDir Φ true ∗ EachDir Φ false ∗ bigSep (Finset.range 7) (fun i => Φ (.dma (amSS i))) ∗ bigSep (Finset.range 7) (fun i => Φ (.dma (amRS i))))

theorem sep_emp_left (P : sProp 𝕄) : iprop(P ∗ (BI.emp : sProp 𝕄)) ⊢ (P : sProp 𝕄) := by iintro ⟨H, -⟩; iexact H
theorem sep_emp_right (P : sProp 𝕄) : P ⊢ (iprop(P ∗ (BI.emp : sProp 𝕄)) : sProp 𝕄) := by
  iintro H
  isplitl [H]; · iexact H
  iempintro
theorem range7 (A : ℕ → sProp 𝕄) : bigSep (Finset.range 7) A = iprop(A 6 ∗ A 5 ∗ A 4 ∗ A 3 ∗ A 2 ∗ A 1 ∗ A 0) := by
  iterate 7 rw [bigSep_range_succ]
  rw [Finset.range_zero, bigSep_empty]
  have h : iprop(A 0 ∗ (BI.emp : sProp 𝕄)) = A 0 :=
    Entails.antisymm (sep_emp_left (A 0)) (sep_emp_right (A 0))
  rw [h]

theorem Each_group (Φ : SemLoc sig → sProp 𝕄) : Each Φ ⊢ Grouped Φ := by
  unfold Each Grouped EachDir
  rw [range7, range7]
  iintro ⟨B, Ct, Cf, St0, St1, Rt0, Rt1, Sf0, Sf1, Rf0, Rf1, Ot0, Ot1, Of0, Of1, X0, X1, X2, X3, X4, X5, X6, Y0, Y1, Y2, Y3, Y4, Y5, Y6⟩
  isplitl [B]; · iexact B
  isplitl [Ct St0 St1 Rt0 Rt1 Ot0 Ot1]
  · isplitl [Ct]; · iexact Ct
    isplitl [St0 St1]
    · isplitl [St0]; · iexact St0
      iexact St1
    isplitl [Rt0 Rt1]
    · isplitl [Rt0]; · iexact Rt0
      iexact Rt1
    isplitl [Ot0]; · iexact Ot0
    iexact Ot1
  isplitl [Cf Sf0 Sf1 Rf0 Rf1 Of0 Of1]
  · isplitl [Cf]; · iexact Cf
    isplitl [Sf0 Sf1]
    · isplitl [Sf0]; · iexact Sf0
      iexact Sf1
    isplitl [Rf0 Rf1]
    · isplitl [Rf0]; · iexact Rf0
      iexact Rf1
    isplitl [Of0]; · iexact Of0
    iexact Of1
  isplitl [X0 X1 X2 X3 X4 X5 X6]
  · isplitl [X6]; · iexact X6
    isplitl [X5]; · iexact X5
    isplitl [X4]; · iexact X4
    isplitl [X3]; · iexact X3
    isplitl [X2]; · iexact X2
    isplitl [X1]; · iexact X1
    iexact X0
  isplitl [Y6]; · iexact Y6
  isplitl [Y5]; · iexact Y5
  isplitl [Y4]; · iexact Y4
  isplitl [Y3]; · iexact Y3
  isplitl [Y2]; · iexact Y2
  isplitl [Y1]; · iexact Y1
  iexact Y0

theorem Grouped_each (Φ : SemLoc sig → sProp 𝕄) : Grouped Φ ⊢ Each Φ := by
  unfold Each Grouped EachDir
  rw [range7, range7]
  iintro ⟨B, ⟨Ct, ⟨St0, St1⟩, ⟨Rt0, Rt1⟩, ⟨Ot0, Ot1⟩⟩, ⟨Cf, ⟨Sf0, Sf1⟩, ⟨Rf0, Rf1⟩, ⟨Of0, Of1⟩⟩, ⟨X6, X5, X4, X3, X2, X1, X0⟩, ⟨Y6, Y5, Y4, Y3, Y2, Y1, Y0⟩⟩
  isplitl [B]; · iexact B
  isplitl [Ct]; · iexact Ct
  isplitl [Cf]; · iexact Cf
  isplitl [St0]; · iexact St0
  isplitl [St1]; · iexact St1
  isplitl [Rt0]; · iexact Rt0
  isplitl [Rt1]; · iexact Rt1
  isplitl [Sf0]; · iexact Sf0
  isplitl [Sf1]; · iexact Sf1
  isplitl [Rf0]; · iexact Rf0
  isplitl [Rf1]; · iexact Rf1
  isplitl [Ot0]; · iexact Ot0
  isplitl [Ot1]; · iexact Ot1
  isplitl [Of0]; · iexact Of0
  isplitl [Of1]; · iexact Of1
  isplitl [X0]; · iexact X0
  isplitl [X1]; · iexact X1
  isplitl [X2]; · iexact X2
  isplitl [X3]; · iexact X3
  isplitl [X4]; · iexact X4
  isplitl [X5]; · iexact X5
  isplitl [X6]; · iexact X6
  isplitl [Y0]; · iexact Y0
  isplitl [Y1]; · iexact Y1
  isplitl [Y2]; · iexact Y2
  isplitl [Y3]; · iexact Y3
  isplitl [Y4]; · iexact Y4
  isplitl [Y5]; · iexact Y5
  iexact Y6
theorem mySems_grouped (Φ : SemLoc sig → sProp 𝕄) : bigSep mySems Φ = Grouped Φ :=
  (mySems_each Φ).trans (Entails.antisymm (Each_group Φ) (Grouped_each Φ))

/-! ## Tokens -/

/-- Every token a cell could need, and some it does not. -/
def mint (g : GSem nD τ sig) : sProp 𝕄 := bigSep (Finset.range 7 ×ˢ Finset.range 14) (fun p => dutyTok ER g p.1 p.2)

theorem big_product {α β : Type} [DecidableEq α] [DecidableEq β] (s : Finset α) (t : Finset β) (Φ : α × β → sProp 𝕄) :
    bigSep (s ×ˢ t) Φ = bigSep s fun a => bigSep t fun b => Φ (a, b) := by
  induction s using Finset.induction_on with
  | empty => rw [Finset.empty_product, bigSep_empty, bigSep_empty]
  | insert a s ha ih =>
    have hd : Disjoint ({a} ×ˢ t) (s ×ˢ t) := Finset.disjoint_product.mpr (Or.inl (Finset.disjoint_singleton_left.mpr ha))
    rw [Finset.insert_eq, Finset.union_product, bigSep_union hd, Finset.singleton_product, bigSep_map, ← Finset.insert_eq, bigSep_insert ha, ih]
    rfl
theorem big_ringCells (Φ : GSem nD τ sig → sProp 𝕄) :
    bigSep ringCells Φ = bigSep Finset.univ fun c : Dev nD => bigSep mySems fun s => Φ ((c : Thread nD τ), s) := by
  unfold ringCells
  rw [bigSep_map, big_product]
  rfl

theorem mint_rounds (g : GSem nD τ sig) {n : ℕ} (hn : n ≤ 7) : mint g ⊢ (bigSep (Finset.range n) (fun r => dutyTok ER g r 0) : sProp 𝕄) := by
  unfold mint
  rw [big_product]
  refine (bigSep_subset (Finset.range_mono hn)).trans (bigSep_mono fun r _ => ?_)
  exact big_elim (i := 0) (by decide) (Φ := fun d => dutyTok ER g r d)
theorem mint_duties (g : GSem nD τ sig) {n : ℕ} (hn : n ≤ 14) : mint g ⊢ (bigSep (Finset.range n) (fun d => dutyTok ER g 0 d) : sProp 𝕄) := by
  unfold mint
  rw [big_product]
  refine (big_elim (i := 0) (by decide) (Φ := fun r => bigSep (Finset.range 14) fun d => dutyTok ER g r d)).trans (bigSep_subset (Finset.range_mono hn))
theorem mint_one (g : GSem nD τ sig) : mint g ⊢ (dutyTok ER g 0 0 : sProp 𝕄) := by
  refine (mint_duties g (n := 1) (by decide)).trans ?_
  rw [Finset.range_one, bigSep_singleton]

/-- Two families alternate. -/
theorem zip2 {A B Ψ : ℕ → sProp 𝕄} (hA : ∀ r, A r ⊢ Ψ (2 * r)) (hB : ∀ r, B r ⊢ Ψ (2 * r + 1)) (k : ℕ) :
    iprop(bigSep (Finset.range k) A ∗ bigSep (Finset.range k) B) ⊢ bigSep (Finset.Ico 0 (2 * k)) Ψ := by
  rw [← Finset.range_eq_Ico]
  induction k with
  | zero => rw [Nat.mul_zero, Finset.range_zero, bigSep_empty, bigSep_empty]; iintro -; iempintro
  | succ k ih =>
    rw [show 2 * (k + 1) = 2 * k + 1 + 1 by omega, bigSep_range_succ, bigSep_range_succ, bigSep_range_succ, bigSep_range_succ]
    iintro ⟨⟨HA, HAs⟩, HB, HBs⟩
    isplitl [HB]; · iapply (hB k); iexact HB
    isplitl [HA]; · iapply (hA k); iexact HA
    iapply ih
    isplitl [HAs]; · iexact HAs
    iexact HBs

theorem tok_zip {cell : ℕ → GSem nD τ sig} (hmod : ∀ n, cell (n % 2) = cell n) {k : ℕ} (hk : k ≤ 7) :
    iprop(mint (cell 0) ∗ mint (cell 1)) ⊢ (bigSep (Finset.Ico 0 (2 * k)) (fun i => dutyTok ER (cell i) (i / 2) 0) : sProp 𝕄) := by
  refine (BI.sep_mono (mint_rounds _ hk) (mint_rounds _ hk)).trans (zip2 (fun r => Entails.of_eq ?_) (fun r => Entails.of_eq ?_) k)
  · rw [← hmod (2 * r), show 2 * r % 2 = 0 by omega, show 2 * r / 2 = r by omega]
  · rw [← hmod (2 * r + 1), show (2 * r + 1) % 2 = 1 by omega, show (2 * r + 1) / 2 = r by omega]

/-- Families of tokens of a device's own cells, and of its slots. -/
def TS (c : Dev nD) (b : Bool) : sProp 𝕄 := bigSep (Finset.Ico 0 14) (fun i => dutyTok ER (sendCell c b i) (i / 2) 0)
def TR (c : Dev nD) (b : Bool) : sProp 𝕄 := bigSep (Finset.Ico 0 14) (fun i => dutyTok ER (recvCell c b i) (i / 2) 0)
def TO (c : Dev nD) (b : Bool) : sProp 𝕄 := bigSep (Finset.Ico 0 8) (fun i => dutyTok ER (storCell c b i) (i / 2) 0)
def TC (c : Dev nD) (b : Bool) : sProp 𝕄 := bigSep (Finset.Ico 0 14) (fun i => dutyTok ER (credCell c b) 0 i)
def TW (c : Dev nD) (b : Bool) : sProp 𝕄 := bigSep (Finset.Ico 0 14) (fun i => Release.writeTok ES (key c b i) (i / 2 + 1))
def TX (c : Dev nD) : sProp 𝕄 := bigSep (Finset.range 7) (fun i => dutyTok ER (amSCell c i) 0 0)
def TY (c : Dev nD) : sProp 𝕄 := bigSep (Finset.range 7) (fun i => dutyTok ER (amRCell c i) 0 0)
def TB (c : Dev nD) (d : ℕ) : sProp 𝕄 := dutyTok ER (barCell c) 0 d

/-- What a direction's cells of a device give. -/
def TDir (c : Dev nD) (b : Bool) : sProp 𝕄 := iprop(TC c b ∗ TS c b ∗ TR c b ∗ TO c b)
theorem TDir_of (c : Dev nD) (b : Bool) : EachDir (fun s => mint ((c : Thread nD τ), s)) b ⊢ (TDir c b : sProp 𝕄) := by
  unfold EachDir TDir
  refine BI.sep_mono ?_ (BI.sep_mono (tok_zip (cell := sendCell c b) (sendCell_mod c b) (k := 7) le_rfl)
    (BI.sep_mono (tok_zip (cell := recvCell c b) (recvCell_mod c b) (k := 7) le_rfl) (tok_zip (cell := storCell c b) (storCell_mod c b) (k := 4) (by decide))))
  unfold TC
  rw [← Finset.range_eq_Ico]
  exact mint_duties _ le_rfl

/-- What a device's own cells give. -/
def Own (c : Dev nD) : sProp 𝕄 := iprop((TB c 0 ∗ TB c 1) ∗ TDir c true ∗ TDir c false ∗ TX c ∗ TY c)
theorem Own_of (c : Dev nD) : bigSep mySems (fun s => mint ((c : Thread nD τ), s)) ⊢ (Own c : sProp 𝕄) := by
  rw [mySems_grouped]
  unfold Grouped Own
  refine BI.sep_mono ?_ (BI.sep_mono (TDir_of c true) (BI.sep_mono (TDir_of c false) (BI.sep_mono (bigSep_mono fun i _ => mint_one _) (bigSep_mono fun i _ => mint_one _))))
  refine (mint_duties _ (n := 2) (by decide)).trans ?_
  rw [bigSep_range_succ, Finset.range_one, bigSep_singleton]
  unfold TB
  iintro ⟨H1, H0⟩
  isplitl [H0]; · iexact H0
  iexact H1

/-! ## Positions -/

theorem keep_left {P Q : sProp 𝕄} : iprop(P ∗ Q) ⊢ (P : sProp 𝕄) := by iintro ⟨H, -⟩; iexact H
def PDir (c : Dev nD) (b : Bool) : sProp 𝕄 :=
  iprop(atPos ER (credCell c b) 0 ∅ 0 ∗ Pos (sendCell c b) 0 ∗ Pos (recvCell c b) 0 ∗ Pos (storCell c b) 0)
theorem Pos_zero {cell : ℕ → GSem nD τ sig} :
    iprop((atPos ER (cell 0) 0 ∅ 0 ∗ reached ER (cell 0) 0) ∗ (atPos ER (cell 1) 0 ∅ 0 ∗ reached ER (cell 1) 0)) ⊢ (Pos cell 0 : sProp 𝕄) := by
  unfold Pos
  iintro ⟨⟨H0, Hr0⟩, H1, Hr1⟩
  isplitl [H0]; · iexact H0
  isplitl [H1]; · iexact H1
  isplitl [Hr0]; · iexact Hr0
  iexact Hr1
def Poss (c : Dev nD) : sProp 𝕄 :=
  iprop(atPos ER (barCell c) 0 ∅ 0 ∗ PDir c true ∗ PDir c false ∗ bigSep (Finset.range 7) (fun i => atPos ER (amSCell c i) 0 ∅ 0)
    ∗ bigSep (Finset.range 7) (fun i => atPos ER (amRCell c i) 0 ∅ 0))
theorem PDir_of (c : Dev nD) (b : Bool) :
    EachDir (fun s => iprop(atPos ER ((c : Thread nD τ), s) 0 ∅ 0 ∗ reached ER ((c : Thread nD τ), s) 0)) b ⊢ (PDir c b : sProp 𝕄) := by
  unfold EachDir PDir
  exact BI.sep_mono (keep_left (F := F)) (BI.sep_mono (Pos_zero (cell := sendCell c b)) (BI.sep_mono (Pos_zero (cell := recvCell c b)) (Pos_zero (cell := storCell c b))))
theorem Poss_of (c : Dev nD) :
    bigSep mySems (fun s => iprop(atPos ER ((c : Thread nD τ), s) 0 ∅ 0 ∗ reached ER ((c : Thread nD τ), s) 0)) ⊢ (Poss c : sProp 𝕄) := by
  rw [mySems_grouped]
  unfold Grouped Poss
  exact BI.sep_mono (keep_left (F := F)) (BI.sep_mono (PDir_of c true) (BI.sep_mono (PDir_of c false) (BI.sep_mono (bigSep_mono fun i _ => (keep_left (F := F))) (bigSep_mono fun i _ => (keep_left (F := F))))))

/-! ## The slots' keys -/

theorem big_keys (Φ : Key → sProp 𝕄) :
    bigSep keys Φ = bigSep Finset.univ fun c : Dev nD => iprop((Φ (c, true, 0) ∗ Φ (c, true, 1)) ∗ (Φ (c, false, 0) ∗ Φ (c, false, 1))) := by
  unfold keys
  rw [big_product]
  refine bigSep_congr fun c _ => ?_
  rw [big_product, bigSep_univ_eq_bigSepL [true, false] (by decide) (by decide)]
  have h2 (Ψ : ℕ → sProp 𝕄) : bigSep (Finset.range 2) Ψ = iprop(Ψ 0 ∗ Ψ 1) := bigSep_eq_bigSepL_of_eq [0, 1] (by decide) (by decide) Ψ
  rw [bigSepL, bigSepL, h2, h2]
  rfl
theorem TW_of (c : Dev nD) (b : Bool) :
    iprop(bigSep (Finset.range 7) (fun t => Release.writeTok ES (c, b, 0) (t + 1)) ∗ bigSep (Finset.range 7) (fun t => Release.writeTok ES (c, b, 1) (t + 1)))
      ⊢ (TW c b : sProp 𝕄) := by
  refine zip2 (fun r => Entails.of_eq ?_) (fun r => Entails.of_eq ?_) 7
  · rw [show (key c b (2 * r)) = (c, b, 0) by unfold key; rw [show 2 * r % 2 = 0 by omega], show 2 * r / 2 = r by omega]
  · rw [show (key c b (2 * r + 1)) = (c, b, 1) by unfold key; rw [show (2 * r + 1) % 2 = 1 by omega], show (2 * r + 1) / 2 = r by omega]

/-! ## The exchange -/

/-- What a direction of a device needs of tokens. -/
def NDir (c : Dev nD) (b : Bool) : sProp 𝕄 := iprop(TC (up b c) b ∗ TS c b ∗ TR (dn b c) b ∗ TO c b ∗ TW (dn b c) b)
def Needs (c : Dev nD) : sProp 𝕄 := iprop((TB (nxt c) 0 ∗ TB (prv c) 1) ∗ NDir c true ∗ NDir c false ∗ TX c ∗ TY (nxt c))

theorem around (b : Bool) (Φ : Dev nD → sProp 𝕄) : bigSep Finset.univ Φ = bigSep Finset.univ fun c => Φ (dn b c) := bigSep_univ_equiv (ring b) Φ
theorem around' (b : Bool) (Φ : Dev nD → sProp 𝕄) : bigSep Finset.univ Φ = bigSep Finset.univ fun c => Φ (up b c) := bigSep_univ_equiv (ring b).symm Φ

theorem dir_around (b : Bool) : bigSep Finset.univ (fun c => iprop(TDir c b ∗ TW c b)) ⊢ (bigSep Finset.univ (fun c => NDir c b) : sProp 𝕄) := by
  unfold TDir NDir
  simp only [bigSep_sep']
  rw [around' b (fun c => TC c b), around b (fun c => TR c b), around b (fun c => TW c b)]
  iintro ⟨⟨C, S, R, O⟩, W⟩
  isplitl [C]; · iexact C
  isplitl [S]; · iexact S
  isplitl [R]; · iexact R
  isplitl [O]; · iexact O
  iexact W

theorem exchange : bigSep Finset.univ (fun c => iprop(Own c ∗ TW c true ∗ TW c false)) ⊢ (bigSep Finset.univ Needs : sProp 𝕄) := by
  have ht := dir_around (F := F) true
  have hf := dir_around (F := F) false
  unfold Own Needs
  simp only [bigSep_sep'] at ht hf ⊢
  rw [around true (fun c => TB (F := F) c 0), around' true (fun c => TB (F := F) c 1), around true (fun c => TY (F := F) c)]
  iintro ⟨⟨⟨B0, B1⟩, Dt, Df, X, Y⟩, Wt, Wf⟩
  isplitl [B0 B1]
  · isplitl [B0]; · iexact B0
    iexact B1
  isplitl [Dt Wt]
  · iapply ht
    isplitl [Dt]; · iexact Dt
    iexact Wt
  isplitl [Df Wf]
  · iapply hf
    isplitl [Df]; · iexact Df
    iexact Wf
  isplitl [X]; · iexact X
  iexact Y

end Cert.RingProof

end
-- ==== Proof.Alloc.lean ====
/-
  The launch: the ghost state every device starts from, the cells' invariants, and the credit the launch issues.
-/
module

public import proofs.«01_k».proof.Proof.Deal

@[expose] public section

noncomputable section

namespace Cert.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {K : GSem nD τ sig → ℕ} {ιs : Key → ℕ}

variable (m : (ℓ : Loc nD τ sig) → Buf (Elt F) ℓ)

/-- The kernel's own semaphores: the two credit semaphores and those of its transfers. -/
def osem (k : Fin 28) : SemLoc sig := if k.val < 2 then .reg ⟨k.val % 2, by have := Nat.mod_lt k.val (show 0 < 2 by decide); show _ < 3; omega⟩ else .dma ⟨k.val, k.isLt⟩

theorem ownSemFacts : Pipeline.OwnSemFacts cfg0.spec osem := by decide +kernel

/-- The semaphores of a device, at the launch and at the end. -/
theorem sems_eq (c : Dev nD) :
    iprop(unscopedSems0 (Ix := ℕ) (Name := ℕ) (U := UU) (Lvl := ℕ) (Val := Elt F) (τ := τ) (sig := sig) c
      ∗ Pipeline.ownSems0 (Ix := ℕ) (Name := ℕ) (U := UU) (Lvl := ℕ) (Val := Elt F) (τ := τ) osem c)
      = bigSep mySems fun s => (semVal ((c : Thread nD τ), s) 0 : sProp 𝕄) := by
  rw [mySems_each, Pipeline.ownSems0_eq_of_list c osem [0, 1, 2, 3, 4, 5, 6, 7, 8, 9, 10, 11, 12, 13, 14, 15, 16, 17, 18, 19, 20, 21, 22, 23, 24, 25, 26, 27]
    (by decide) (by decide)]
  unfold unscopedSems0
  rw [bigSep_eq_bigSepL_of_eq [SemLoc.reg barS] (by decide) (by decide)]
  rfl

/-- The tokens minted for every cell. -/
def toks : Finset (GSem nD τ sig × ℕ × ℕ) := ringCells ×ˢ (Finset.range 7 ×ˢ Finset.range 14)

def u₀ : UU :=
  (initOf (Pipeline.cells cfgs cellOf_inj) (Pipeline.launchToks cfgs cellOf_inj), (initOf ringCells toks, Release.initSlots keys 7))

/-- The slots' part of a device's share. -/
def Slots (c : Dev nD) : sProp 𝕄 :=
  iprop((∃ ιs : Key → ℕ, bigSep keys (fun k => Release.slotInv ES (ιs k) k (slotOf (F := F) k))) ∗ (RdS c true 0 ∗ RdS c false 0) ∗ TW c true ∗ TW c false)

/-- What the launch's element deals device `c`. -/
def Minted (c : Dev nD) : sProp 𝕄 :=
  iprop((bigSep mySems fun s => roundState ER (Rd m) ((c : Thread nD τ), s) 0)
    ∗ (bigSep mySems fun s => iprop(atPos ER ((c : Thread nD τ), s) 0 ∅ 0 ∗ reached ER ((c : Thread nD τ), s) 0)) ∗ Own c ∗ Slots c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

theorem all_own : bigSep Finset.univ (fun c : Dev nD => bigSep mySems fun s => mint ((c : Thread nD τ), s)) ⊢ (bigSep Finset.univ Own : sProp 𝕄) :=
  bigSep_mono fun c _ => Own_of c
theorem all_slots : bigSep Finset.univ (fun c : Dev nD => iprop((bigSep (Finset.range 7) (fun t => Release.writeTok ES (c, true, 0) (t + 1)) ∗ bigSep (Finset.range 7) (fun t => Release.writeTok ES (c, true, 1) (t + 1)))
      ∗ (bigSep (Finset.range 7) (fun t => Release.writeTok ES (c, false, 0) (t + 1)) ∗ bigSep (Finset.range 7) (fun t => Release.writeTok ES (c, false, 1) (t + 1)))))
    ⊢ (bigSep Finset.univ (fun c => iprop(TW c true ∗ TW c false)) : sProp 𝕄) :=
  bigSep_mono fun c _ => BI.sep_mono (TW_of c true) (TW_of c false)
instance (k : Key) : BI.Storable (upEmb : UEmb _ 𝕄) (slotOf (F := F) k) := by unfold slotOf; infer_instance

theorem fund_rounds : BI.own (ER (initOf ringCells toks))
    ⊢ (|==> bigSep Finset.univ (fun c : Dev nD => iprop((bigSep mySems fun s => roundState ER (Rd m) ((c : Thread nD τ), s) 0)
      ∗ (bigSep mySems fun s => iprop(atPos ER ((c : Thread nD τ), s) 0 ∅ 0 ∗ reached ER ((c : Thread nD τ), s) 0)) ∗ Own c)) : sProp 𝕄) := by
  iintro HX
  imod (Rounds.fund ER (Rd m) ringCells toks) $$ HX with ⟨Hst, Hr, Hat, Htok⟩
  imodintro
  ihave Hst' := (Entails.of_eq (big_ringCells fun g => roundState ER (Rd m) g 0)) $$ Hst
  ihave Hat' := (Entails.of_eq (big_ringCells (F := F) fun g => atPos ER g 0 ∅ 0)) $$ Hat
  ihave Hr' := (Entails.of_eq (big_ringCells (F := F) fun g => reached ER g 0)) $$ Hr
  ihave Htok1 := (show bigSep toks (fun x => dutyTok ER x.1 x.2.1 x.2.2) ⊢ (bigSep ringCells mint : sProp 𝕄) from by
    unfold toks mint
    rw [big_product]) $$ Htok
  ihave Htok' := (Entails.of_eq (big_ringCells (F := F) mint)) $$ Htok1
  ihave Hown := (all_own (F := F)) $$ Htok'
  simp only [bigSep_sep']
  isplitl [Hst']; · iexact Hst'
  isplitl [Hat' Hr']
  · isplitl [Hat']; · iexact Hat'
    iexact Hr'
  iexact Hown

theorem fund_slots : BI.own (ES (Release.initSlots keys 7)) ⊢ (|={Set.univ}=> bigSep Finset.univ Slots : sProp 𝕄) := by
  iintro H
  imod (Release.slots_init ES keys 7 (slotOf (F := F))) $$ H with ⟨%ιs, -, #Hi, Hr, Hw⟩
  imodintro
  ihave Hr1 := (Entails.of_eq (big_keys (F := F) fun k => Release.readerAt ES k 0)) $$ Hr
  ihave Hw0 := (Entails.of_eq (big_product (F := F) keys (Finset.range 7) fun x => Release.writeTok ES x.1 (x.2 + 1))) $$ Hw
  ihave Hw1 := (Entails.of_eq (big_keys (F := F) fun k => bigSep (Finset.range 7) fun t => Release.writeTok ES k (t + 1))) $$ Hw0
  ihave Hw2 := (all_slots (F := F)) $$ Hw1
  iapply (with_persistent (R := bigSep keys (fun k => Release.slotInv ES (ιs k) k (slotOf (F := F) k)))
    (Φ := fun c : Dev nD => iprop((RdS c true 0 ∗ RdS c false 0) ∗ TW c true ∗ TW c false)) fun c _ => (by
      unfold Slots
      iintro ⟨Hi, H⟩
      isplitl [Hi]; · iexists ιs; iexact Hi
      iexact H))
  isplitr; · iexact Hi
  iapply (Entails.of_eq (bigSep_sep' Finset.univ (fun c : Dev nD => iprop(RdS (F := F) c true 0 ∗ RdS c false 0)) fun c => iprop(TW c true ∗ TW c false)).symm)
  isplitl [Hr1]
  · iexact Hr1
  iexact Hw2

theorem minted_join : iprop(bigSep Finset.univ (fun c : Dev nD => iprop((bigSep mySems fun s => roundState ER (Rd m) ((c : Thread nD τ), s) 0)
      ∗ (bigSep mySems fun s => iprop(atPos ER ((c : Thread nD τ), s) 0 ∅ 0 ∗ reached ER ((c : Thread nD τ), s) 0)) ∗ Own c)) ∗ bigSep Finset.univ Slots)
    ⊢ (bigSep Finset.univ (Minted m) : sProp 𝕄) := by
  unfold Minted
  simp only [bigSep_sep']
  iintro ⟨⟨H1, H2, H3⟩, H4⟩
  isplitl [H1]; · iexact H1
  isplitl [H2]; · iexact H2
  isplitl [H3]; · iexact H3
  iexact H4
theorem of_same {P Q : sProp 𝕄} (h : P = Q) : Idealize.SL.BI.Entails P Q := by
  rw [h]
theorem own_split : (ownU u₀ : sProp 𝕄) ⊢ iprop(BI.own (EP (initOf (Pipeline.cells cfgs cellOf_inj) (Pipeline.launchToks cfgs cellOf_inj)))
    ∗ BI.own (ER (initOf ringCells toks)) ∗ BI.own (ES (Release.initSlots keys 7))) := by
  unfold u₀
  refine (ownU_pair _ _).trans (BI.sep_mono (of_same (F := F) ?_) ((own_pair_emb _ _ _).trans (BI.sep_mono (of_same (F := F) ?_) (of_same (F := F) ?_))))
  · unfold EP; rfl
  · unfold ER; rfl
  · unfold ES; rfl

theorem fund_all : (ownU u₀ : sProp 𝕄)
    ⊢ |={Set.univ}=> iprop(BI.own (EP (initOf (Pipeline.cells cfgs cellOf_inj) (Pipeline.launchToks cfgs cellOf_inj))) ∗ bigSep Finset.univ (Minted m)) := by
  iintro Hu
  ihave H := (own_split (F := F)) $$ Hu
  icases H with ⟨HP, HR', HS'⟩
  imod (fund_rounds m) $$ HR' with HG
  imod (fund_slots (F := F)) $$ HS' with HG'
  imodintro
  isplitl [HP]; · iexact HP
  iapply (minted_join m)
  isplitl [HG]; · iexact HG
  iexact HG'

/-! ## The invariants, for all devices at once -/

/-- The invariants and the rounds reached, at given names. -/
def Base (K : GSem nD τ sig → ℕ) : sProp 𝕄 := bigSep ringCells (fun g => iprop(cellInv ER (Rd m) (K g) g ∗ reached ER g 0))
instance (K) : BI.Persistent (Base (F := F) m K) := by unfold Base; infer_instance

/-- What the global step hands device `c`. -/
def Dealt (c : Dev nD) : sProp 𝕄 :=
  iprop((∃ K, Base m K) ∗ (∃ ιs : Key → ℕ, bigSep keys (fun k => Release.slotInv ES (ιs k) k (slotOf (F := F) k)))
    ∗ (RdS c true 0 ∗ RdS c false 0) ∗ Poss c ∗ Needs c)

theorem core_alloc (c : Dev nD) :
    iprop(Pipeline.ownSems0 (Ix := ℕ) (Name := ℕ) (U := UU) (Lvl := ℕ) (Val := Elt F) (τ := τ) osem c ∗ unscopedSems0 c ∗ Minted m c)
      ⊢ |={Set.univ}=> iprop((bigSep mySems fun s => iprop((∃ κ : ℕ, cellInv ER (Rd m) κ ((c : Thread nD τ), s)) ∗ reached ER ((c : Thread nD τ), s) 0))
          ∗ (Poss c ∗ (∃ ιs : Key → ℕ, bigSep keys (fun k => Release.slotInv ES (ιs k) k (slotOf (F := F) k))) ∗ (RdS c true 0 ∗ RdS c false 0))
          ∗ (Own c ∗ TW c true ∗ TW c false)) := by
  unfold Minted Slots
  iintro ⟨Hos, Hus, Hst, Hat, Htok, Hi, HR, HW⟩
  ihave Hv := (Entails.of_eq (sems_eq (F := F) c)) $$ [Hos Hus]
  · isplitl [Hus] <;> iassumption
  imod (show iprop((bigSep mySems fun s => semVal ((c : Thread nD τ), s) 0) ∗ bigSep mySems fun s => roundState ER (Rd m) ((c : Thread nD τ), s) 0)
      ⊢ (|={Set.univ}=> bigSep mySems fun s => iprop(∃ κ : ℕ, cellInv ER (Rd m) κ ((c : Thread nD τ), s)) : sProp 𝕄) from by
        rw [← bigSep_sep']
        exact (bigSep_mono fun s _ => (Rounds.body_intro ER (Rd m) ((c : Thread nD τ), s)).trans inv_alloc).trans (bigSep_fupd _ _)) $$ [Hv Hst] with Hinv
  · isplitl [Hv] <;> iassumption
  imodintro
  ihave Hat' := (show (bigSep mySems fun s => iprop(atPos ER ((c : Thread nD τ), s) 0 ∅ 0 ∗ reached ER ((c : Thread nD τ), s) 0))
      ⊢ (iprop((bigSep mySems fun s => iprop(atPos ER ((c : Thread nD τ), s) 0 ∅ 0 ∗ reached ER ((c : Thread nD τ), s) 0))
        ∗ (bigSep mySems fun s => reached ER ((c : Thread nD τ), s) 0)) : sProp 𝕄) from by
    rw [← bigSep_sep']
    refine bigSep_mono fun s _ => (?_ : iprop(atPos ER ((c : Thread nD τ), s) 0 ∅ 0 ∗ reached ER ((c : Thread nD τ), s) 0) ⊢ (_ : sProp 𝕄))
    iintro ⟨H, #Hr⟩
    isplitl [H]
    · isplitl [H]; · iexact H
      iexact Hr
    iexact Hr) $$ Hat
  icases Hat' with ⟨Hat, Hre⟩
  ihave Hp := (Poss_of (F := F) c) $$ Hat
  isplitl [Hinv Hre]
  · iapply (Entails.of_eq (bigSep_sep' mySems (fun s => iprop(∃ κ : ℕ, cellInv ER (Rd m) κ ((c : Thread nD τ), s))) fun s => reached ER ((c : Thread nD τ), s) 0).symm)
    isplitl [Hinv]; · iexact Hinv
    iexact Hre
  isplitl [Hp Hi HR]
  · isplitl [Hp]; · iexact Hp
    isplitl [Hi]; · iexact Hi
    iexact HR
  isplitl [Htok]; · iexact Htok
  iexact HW

theorem names : bigSep ringCells (fun g => iprop((∃ κ : ℕ, cellInv ER (Rd m) κ g) ∗ reached ER g 0)) ⊢ (iprop(∃ K, Base m K) : sProp 𝕄) := by
  unfold Base
  refine (bigSep_mono fun g _ => (?_ : iprop((∃ κ : ℕ, cellInv ER (Rd m) κ g) ∗ reached ER g 0)
      ⊢ (iprop(∃ κ : ℕ, cellInv ER (Rd m) κ g ∗ reached ER g 0) : sProp 𝕄))).trans
    (BI.bigSep_exists_pi ringCells (fun g (κ : ℕ) => iprop(cellInv ER (Rd m) κ g ∗ reached ER g 0)))
  iintro ⟨⟨%κ, H⟩, Hr⟩
  iexists κ
  isplitl [H]; · iexact H
  iexact Hr

theorem regroup :
    (bigSep Finset.univ fun c : Dev nD => iprop((bigSep mySems fun s => iprop((∃ κ : ℕ, cellInv ER (Rd m) κ ((c : Thread nD τ), s)) ∗ reached ER ((c : Thread nD τ), s) 0))
          ∗ (Poss c ∗ (∃ ιs : Key → ℕ, bigSep keys (fun k => Release.slotInv ES (ιs k) k (slotOf (F := F) k))) ∗ (RdS c true 0 ∗ RdS c false 0))
          ∗ (Own c ∗ TW c true ∗ TW c false)) : sProp 𝕄)
      ⊢ bigSep Finset.univ (Dealt m) := by
  rw [bigSep_sep', bigSep_sep', ← big_ringCells (fun g => iprop((∃ κ : ℕ, cellInv ER (Rd m) κ g) ∗ reached ER g 0))]
  iintro ⟨HI, HP, HT⟩
  ihave HN := (exchange (F := F)) $$ HT
  ihave HK := (names m) $$ HI
  icases HK with ⟨%K, #HB'⟩
  iapply (with_persistent (R := Base m K) (Φ := fun c : Dev nD => iprop((Poss c ∗ (∃ ιs : Key → ℕ, bigSep keys (fun k => Release.slotInv ES (ιs k) k (slotOf (F := F) k))) ∗ (RdS c true 0 ∗ RdS c false 0)) ∗ Needs c)) fun c _ => (by
      unfold Dealt
      iintro ⟨HB, ⟨HP, Hi, HR⟩, HN⟩
      isplitl [HB]; · iexists K; iexact HB
      isplitl [Hi]; · iexact Hi
      isplitl [HR]; · iexact HR
      isplitl [HP]; · iexact HP
      iexact HN))
  isplitr; · iexact HB'
  iapply (Entails.of_eq (bigSep_sep' Finset.univ (fun c : Dev nD => iprop(Poss c ∗ (∃ ιs : Key → ℕ, bigSep keys (fun k => Release.slotInv ES (ιs k) k (slotOf (F := F) k))) ∗ (RdS c true 0 ∗ RdS c false 0))) Needs).symm)
  isplitl [HP]; · iexact HP
  iexact HN

theorem glob : (bigSep Finset.univ fun c => iprop(Pipeline.ownSems0 (Ix := ℕ) (Name := ℕ) (U := UU) (Lvl := ℕ) (Val := Elt F) (τ := τ) osem c ∗ unscopedSems0 c ∗ Minted m c) : sProp 𝕄)
    ⊢ |={Set.univ}=> bigSep Finset.univ (Dealt m) :=
  ((bigSep_mono fun c _ => core_alloc m c).trans (bigSep_fupd _ _)).trans (BI.fupd_mono (regroup m))

/-! ## The credit -/

theorem cred_LD (c : Dev nD) (b : Bool) : (Pipeline.launchCred (fun d => LD d b 0) c : sProp 𝕄) ⊢ RecvKit c b 0 := by
  unfold LD RecvKit
  rw [Pipeline.launchCred_sum]
  exact bigSep_mono fun i _ => Pipeline.launchCred_tallyAt (.dma (recvS b i)) (dn b) (up b) (fun c => dn_up b c) (fun c => up_dn b c) i NB c
theorem cred_CD (c : Dev nD) (b : Bool) :
    (Pipeline.launchCred (fun d => CD d b 0) c : sProp 𝕄) ⊢ bigSep (Finset.Ico 0 14) (fun j => cred (tallyAt (credCell c b) j 1)) := by
  unfold CD
  rw [Pipeline.launchCred_sum]
  exact bigSep_mono fun i _ => Pipeline.launchCred_tallyAt (.reg (credS b)) (up b) (dn b) (fun c => up_dn b c) (fun c => dn_up b c) i 1 c
theorem cred_AD (c : Dev nD) :
    (Pipeline.launchCred (fun d => AD d 0) c : sProp 𝕄) ⊢ bigSep (Finset.range 7) (fun i => cred (tallyAt (amRCell c i) i NA)) := by
  unfold AD
  rw [Pipeline.launchCred_sum, Finset.range_eq_Ico]
  exact bigSep_mono fun i _ => Pipeline.launchCred_tallyAt (.dma (amRS i)) nxt prv (fun c => dn_up true c) (fun c => up_dn true c) i NA c
theorem cred_bar (c : Dev nD) :
    iprop(Pipeline.launchCred (fun d => tallyAt (barCell (nxt d)) 0 1) c ∗ Pipeline.launchCred (fun d => tallyAt (barCell (prv d)) 0 1) c)
      ⊢ (cred (tallyAt (barCell c) 0 2) : sProp 𝕄) := by
  rw [← tallyAt_add (barCell c) 0 1 1]
  refine BI.Entails.trans ?_ (cred_add _ _).2
  exact BI.sep_mono (Pipeline.launchCred_tallyAt (.reg barS) nxt prv (fun c => dn_up true c) (fun c => up_dn true c) 0 1 c)
    (Pipeline.launchCred_tallyAt (.reg barS) prv nxt (fun c => up_dn true c) (fun c => dn_up true c) 0 1 c)

theorem creds (c : Dev nD) : (Pipeline.launchCred O₀ c : sProp 𝕄) ⊢ iprop(RecvKit c true 0 ∗ RecvKit c false 0
    ∗ bigSep (Finset.Ico 0 14) (fun j => cred (tallyAt (credCell c true) j 1)) ∗ bigSep (Finset.Ico 0 14) (fun j => cred (tallyAt (credCell c false) j 1))
    ∗ bigSep (Finset.range 7) (fun i => cred (tallyAt (amRCell c i) i NA)) ∗ cred (tallyAt (barCell c) 0 2)) := by
  unfold O₀ Ow
  simp only [Pipeline.launchCred_add]
  iintro ⟨⟨⟨⟨⟨⟨Lt, Lf⟩, Ct⟩, Cf⟩, A⟩, B⟩, B'⟩
  isplitl [Lt]; · iapply (cred_LD c true); iexact Lt
  isplitl [Lf]; · iapply (cred_LD c false); iexact Lf
  isplitl [Ct]; · iapply (cred_CD c true); iexact Ct
  isplitl [Cf]; · iapply (cred_CD c false); iexact Cf
  isplitl [A]; · iapply (cred_AD c); iexact A
  iapply (cred_bar c)
  isplitl [B]; · iexact B
  iexact B'

end Cert.RingProof

end
-- ==== Proof.Joins.lean ====
/-
  The buffers whole and piece by piece: the two slots of a receive buffer, the eight rows of the maxima's buffer, the
  sixteen tiles of the result.
-/
module

public import proofs.«01_k».proof.Proof.Alloc

@[expose] public section

noncomputable section

namespace Cert.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {K : GSem nD τ sig → ℕ} {ιs : Key → ℕ}

theorem fin_range (n : ℕ) (Φ : ℕ → sProp 𝕄) : bigSep Finset.univ (fun t : Fin n => Φ t.val) = bigSep (Finset.range n) Φ := by
  have h : Finset.range n = Finset.univ.map (Fin.valEmbedding (n := n)) := by
    ext i
    simp only [Finset.mem_range, Finset.mem_map, Finset.mem_univ, true_and, Fin.valEmbedding_apply]
    exact ⟨fun h => ⟨⟨i, h⟩, rfl⟩, fun ⟨a, ha⟩ => ha ▸ a.isLt⟩
  rw [h, bigSep_map]
  rfl

/-! ## Slots -/

def slotSet (n : Fin 2) : Finset S2x512x4096.Idx := (slotR n.val).set
theorem slotSet_eq (b : Bool) (n : Fin 2) : (slotM b n.val).view.set = (match b with | true => slotSet n | false => slotSet n) := by
  cases b <;> exact (slot_set _ n.val).trans (View.set_slice_whole _ _)
theorem slots_disjoint (n n' : Fin 2) (h : n ≠ n') : Disjoint (slotSet n) (slotSet n') := by
  rw [Finset.disjoint_left]
  intro i hi hi'
  have h1 := (Rect.mem_set_unit.mp hi) 0
  have h2 := (Rect.mem_set_unit.mp hi') 0
  have hn : n.val ≠ n'.val := fun e => h (Fin.ext e)
  have e1 : n.val % 2 ≤ (i 0).val ∧ (i 0).val < n.val % 2 + 1 := h1
  have e2 : n'.val % 2 ≤ (i 0).val ∧ (i 0).val < n'.val % 2 + 1 := h2
  omega
theorem slots_cover : Finset.univ.biUnion slotSet = Finset.univ := by
  ext i
  simp only [Finset.mem_biUnion, Finset.mem_univ, true_and, iff_true]
  have h0 : (i 0).val < 2 := (i 0).isLt
  have h1 : (i 1).val < 512 := (i 1).isLt
  have h2 : (i 2).val < 4096 := (i 2).isLt
  refine ⟨⟨(i 0).val, h0⟩, Rect.mem_set_unit.mpr fun a => ?_⟩
  fin_cases a
  · show (i 0).val % 2 ≤ (i 0).val ∧ (i 0).val < (i 0).val % 2 + 1; omega
  · show 0 ≤ (i 1).val ∧ (i 1).val < 0 + 512; omega
  · show 0 ≤ (i 2).val ∧ (i 2).val < 0 + 4096; omega

/-- A receive buffer whole, at some contents. -/
def recvAny (c : Dev nD) (b : Bool) : sProp 𝕄 := iprop(∃ f, (rM b).view.loc (c : Thread nD τ) ↦{fullShare} f)

theorem slots_in (c : Dev nD) (b : Bool) : recvAny c b ⊢ (iprop(slotAny c b 0 ∗ slotAny c b 1) : sProp 𝕄) := by
  unfold recvAny slotAny Release.slot
  cases b
  · exact Ring.slots2_split (U := UU) (ℓ := (rM false).view.loc (c : Thread nD τ)) (q := fullShare) slotSet slots_disjoint slots_cover _ _
      (fun f => by rw [show slotSet 0 = _ from (slotSet_eq false 0).symm]; rfl) (fun f => by rw [show slotSet 1 = _ from (slotSet_eq false 1).symm]; rfl)
  · exact Ring.slots2_split (U := UU) (ℓ := (rM true).view.loc (c : Thread nD τ)) (q := fullShare) slotSet slots_disjoint slots_cover _ _
      (fun f => by rw [show slotSet 0 = _ from (slotSet_eq true 0).symm]; rfl) (fun f => by rw [show slotSet 1 = _ from (slotSet_eq true 1).symm]; rfl)
theorem slots_out (c : Dev nD) (b : Bool) : iprop(slotAny c b 0 ∗ slotAny c b 1) ⊢ (recvAny c b : sProp 𝕄) := by
  unfold recvAny slotAny Release.slot
  cases b
  · exact Ring.slots2_join (U := UU) (ℓ := (rM false).view.loc (c : Thread nD τ)) (q := fullShare) slotSet slots_disjoint slots_cover _ _
      (fun f => by rw [show slotSet 0 = _ from (slotSet_eq false 0).symm]; rfl) (fun f => by rw [show slotSet 1 = _ from (slotSet_eq false 1).symm]; rfl)
  · exact Ring.slots2_join (U := UU) (ℓ := (rM true).view.loc (c : Thread nD τ)) (q := fullShare) slotSet slots_disjoint slots_cover _ _
      (fun f => by rw [show slotSet 0 = _ from (slotSet_eq true 0).symm]; rfl) (fun f => by rw [show slotSet 1 = _ from (slotSet_eq true 1).symm]; rfl)

/-! ## Rows -/

def rowSet (n : Fin 8) : Finset S8x8x128.Idx := (rowR n.val).set
theorem rowSet_eq (n : Fin 8) : (rowM n.val).view.set = rowSet n := (row_set n.val).trans (View.set_slice_whole _ _)
theorem rows_disjoint (n n' : Fin 8) (h : n ≠ n') : Disjoint (rowSet n) (rowSet n') := by
  rw [Finset.disjoint_left]
  intro i hi hi'
  have h1 := (Rect.mem_set_unit.mp hi) 0
  have h2 := (Rect.mem_set_unit.mp hi') 0
  have hn : n.val ≠ n'.val := fun e => h (Fin.ext e)
  have e1 : n.val % 8 ≤ (i 0).val ∧ (i 0).val < n.val % 8 + 1 := h1
  have e2 : n'.val % 8 ≤ (i 0).val ∧ (i 0).val < n'.val % 8 + 1 := h2
  omega
theorem rows_cover : Finset.univ.biUnion rowSet = Finset.univ := by
  ext i
  simp only [Finset.mem_biUnion, Finset.mem_univ, true_and, iff_true]
  have h0 : (i 0).val < 8 := (i 0).isLt
  have h1 : (i 1).val < 8 := (i 1).isLt
  have h2 : (i 2).val < 128 := (i 2).isLt
  refine ⟨⟨(i 0).val, h0⟩, Rect.mem_set_unit.mpr fun a => ?_⟩
  fin_cases a
  · show (i 0).val % 8 ≤ (i 0).val ∧ (i 0).val < (i 0).val % 8 + 1; omega
  · show 0 ≤ (i 1).val ∧ (i 1).val < 0 + 8; omega
  · show 0 ≤ (i 2).val ∧ (i 2).val < 0 + 128; omega

def maxAny (c : Dev nD) : sProp 𝕄 := iprop(∃ f, (aM).view.loc (c : Thread nD τ) ↦{fullShare} f)
theorem rowAny_eq (c : Dev nD) (n : Fin 8) : rowAny (F := F) c n.val = iprop(∃ f, (aM).view.loc (c : Thread nD τ) ↦[rowSet n]{fullShare} f) := by
  unfold rowAny
  rw [rowSet_eq]
theorem rows_eight (c : Dev nD) : bigSep Finset.univ (fun n : Fin 8 => rowAny (F := F) c n.val) = iprop(rowAny c 7 ∗ rowsAny c) := by
  rw [fin_range 8 (rowAny (F := F) c), bigSep_range_succ]
  rfl
theorem rows_split (c : Dev nD) (f : Buf (Elt F) ((aM).view.loc (c : Thread nD τ))) :
    ((aM).view.loc (c : Thread nD τ) ↦{fullShare} f) ⊢ (bigSep Finset.univ (fun n : Fin 8 => rowAny c n.val) : sProp 𝕄) := by
  refine (Entails.of_eq (Ring.pointsTo_blocks (Ix := ℕ) (Name := ℕ) (U := UU) (Lvl := ℕ) (ℓ := (aM).view.loc (c : Thread nD τ)) (q := fullShare)
    rowSet rows_disjoint rows_cover f)).trans (bigSep_mono fun n _ => (?_ : (_ : sProp 𝕄) ⊢ rowAny (F := F) c n.val))
  rw [rowAny_eq]
  iintro H
  iexists f
  iexact H
theorem rows_in (c : Dev nD) : maxAny c ⊢ (iprop(rowAny c 7 ∗ rowsAny c) : sProp 𝕄) := by
  rw [← rows_eight]
  unfold maxAny
  iintro ⟨%f, H⟩
  ihave H' := (rows_split c f) $$ H
  iexact H'
theorem rows_out (c : Dev nD) : iprop(rowAny c 7 ∗ rowsAny c) ⊢ (maxAny c : sProp 𝕄) := by
  unfold maxAny
  iintro ⟨H7, H⟩
  ihave H7 := (show rowAny c 7 ⊢ (iprop(∃ f, (c : Thread nD τ).loc cc0_scratch6 ↦[rowSet 7]{fullShare} f) : sProp 𝕄) from Entails.of_eq (rowAny_eq (F := F) c 7)) $$ H7
  icases H7 with ⟨%f, H7⟩
  iapply (Ring.pointsTo_blocks_join_exists (U := UU) (ℓ := (aM).view.loc (c : Thread nD τ)) (q := fullShare) rowSet rows_disjoint rows_cover f)
  iapply (show iprop(rowAny c 7 ∗ rowsAny c) ⊢ (_ : sProp 𝕄) from Entails.of_eq ((rows_eight (F := F) c).symm.trans (bigSep_congr fun n _ => rowAny_eq c n)))
  isplitl [H7]
  · iapply (Entails.of_eq (rowAny_eq (F := F) c 7).symm)
    iexists f; iexact H7
  iexact H

/-! ## Tiles -/

variable (m : (ℓ : Loc nD τ sig) → Buf (Elt F) ℓ)

def tileSet (c : Dev nD) (p : Bool × Fin 8) : Finset S4096x8192.Idx := (tileR p.1 (gk p.1 c p.2.val)).set
theorem tileSet_eq (c : Dev nD) (p : Bool × Fin 8) : (tileM p.1 (gk p.1 c p.2.val)).view.set = tileSet c p := View.set_slice_whole _ _
theorem mem_tileSet (c : Dev nD) (b : Bool) (t : Fin 8) (i : S4096x8192.Idx) :
    i ∈ tileSet c (b, t) ↔ (512 * gk b c t.val ≤ (i 0).val ∧ (i 0).val < 512 * gk b c t.val + 512) ∧ (col0 b ≤ (i 1).val ∧ (i 1).val < col0 b + 4096) := by
  have hg : gk b c t.val % 8 = gk b c t.val := Nat.mod_eq_of_lt (gk_lt b c t.val)
  unfold tileSet
  rw [Rect.mem_set_unit]
  constructor
  · intro h
    have h0 : 512 * (gk b c t.val % 8) ≤ (i 0).val ∧ (i 0).val < 512 * (gk b c t.val % 8) + 512 := h 0
    have h1 : col0 b ≤ (i 1).val ∧ (i 1).val < col0 b + 4096 := h 1
    rw [hg] at h0
    exact ⟨h0, h1⟩
  · intro h a
    fin_cases a
    · show 512 * (gk b c t.val % 8) ≤ (i 0).val ∧ (i 0).val < 512 * (gk b c t.val % 8) + 512
      rw [hg]; exact h.1
    · exact h.2
theorem tiles_disjoint (c : Dev nD) (p p' : Bool × Fin 8) (h : p ≠ p') : Disjoint (tileSet c p) (tileSet c p') := by
  obtain ⟨b, t⟩ := p
  obtain ⟨b', t'⟩ := p'
  rw [Finset.disjoint_left]
  intro i hi hi'
  rw [mem_tileSet] at hi hi'
  have ht := t.isLt
  have ht' := t'.isLt
  have hc : c.val < 8 := c.isLt
  have hne : ¬ (b = b' ∧ t.val = t'.val) := fun e => h (by rw [e.1, Fin.ext e.2])
  cases b <;> cases b' <;> simp only [gk, col0, if_true, if_false, Bool.false_eq_true, true_and] at hi hi' hne <;> omega
theorem tiles_cover (c : Dev nD) : Finset.univ.biUnion (tileSet c) = Finset.univ := by
  ext i
  simp only [Finset.mem_biUnion, Finset.mem_univ, true_and, iff_true]
  have h0 : (i 0).val < 4096 := (i 0).isLt
  have h1 : (i 1).val < 8192 := (i 1).isLt
  have hc : c.val < 8 := c.isLt
  by_cases h : (i 1).val < 4096
  · refine ⟨(true, ⟨(c.val + 17 - (i 0).val / 512) % 8, Nat.mod_lt _ (by decide)⟩), ?_⟩
    rw [mem_tileSet]
    simp only [gk, col0, if_true]
    omega
  · refine ⟨(false, ⟨((i 0).val / 512 + 9 - c.val) % 8, Nat.mod_lt _ (by decide)⟩), ?_⟩
    rw [mem_tileSet]
    simp only [gk, col0, if_false, Bool.false_eq_true]
    omega

theorem tiles_sixteen (Φ : Bool → ℕ → sProp 𝕄) :
    bigSep Finset.univ (fun p : Bool × Fin 8 => Φ p.1 p.2.val) = iprop(bigSep (Finset.range 8) (Φ true) ∗ bigSep (Finset.range 8) (Φ false)) := by
  rw [bigSep_univ_prod, bigSep_univ_eq_bigSepL [true, false] (by decide) (by decide), ← fin_range 8 (Φ true), ← fin_range 8 (Φ false)]
  rfl

theorem tiles_in (c : Dev nD) (f : Buf (Elt F) ((c : Thread nD τ).loc main_v1)) :
    ((c : Thread nD τ).loc main_v1 ↦{fullShare} f) ⊢ (iprop(bigSep (Finset.range 8) (fun t => tileAny c true (gk true c t))
      ∗ bigSep (Finset.range 8) (fun t => tileAny c false (gk false c t))) : sProp 𝕄) := by
  rw [← tiles_sixteen fun b t => tileAny (F := F) c b (gk b c t)]
  refine (Entails.of_eq (Ring.pointsTo_blocks (Ix := ℕ) (Name := ℕ) (U := UU) (Lvl := ℕ) (ℓ := (oM).view.loc (c : Thread nD τ)) (q := fullShare)
    (tileSet c) (tiles_disjoint c) (tiles_cover c) f)).trans (bigSep_mono fun p _ => (?_ : (_ : sProp 𝕄) ⊢ tileAny (F := F) c p.1 (gk p.1 c p.2.val)))
  unfold tileAny
  rw [tileSet_eq c p]
  iintro H
  iexists f
  iexact H
theorem tiles_out (c : Dev nD) :
    iprop(bigSep (Finset.range 8) (tilePts m c true) ∗ bigSep (Finset.range 8) (tilePts m c false)) ⊢ ((c : Thread nD τ).loc main_v1 ↦{fullShare} OUT m c : sProp 𝕄) := by
  rw [← tiles_sixteen fun b t => tilePts m c b t]
  refine (bigSep_mono fun p _ => of_same (F := F) ?_).trans
    (Entails.of_eq (Ring.pointsTo_blocks (Ix := ℕ) (Name := ℕ) (U := UU) (Lvl := ℕ) (ℓ := (oM).view.loc (c : Thread nD τ)) (q := fullShare)
      (tileSet c) (tiles_disjoint c) (tiles_cover c) (OUT m c)).symm)
  unfold tilePts
  rw [tileSet_eq c p]

end Cert.RingProof

end
-- ==== Proof.Region.lean ====
/-
  The whole program: every device's body from the launch to the end, and what every run of the eight devices leaves in
  memory.
-/
module

public import proofs.«01_k».proof.Proof.Joins
public import Idealize.ShloMosaic.Lib.Pipeline.CollectiveSegs

@[expose] public section

noncomputable section

namespace Cert.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {K : GSem nD τ sig → ℕ} {ιs : Key → ℕ}

variable (m : (ℓ : Loc nD τ sig) → Buf (Elt F) ℓ) (ρ : Dev nD → PrngReg)

/-! ## The launch's share as the body takes it -/

theorem dir_of (c : Dev nD) (b : Bool) :
    iprop(NDir c b ∗ PDir c b ∗ RecvKit c b 0 ∗ bigSep (Finset.Ico 0 14) (fun j => cred (tallyAt (credCell c b) j 1)))
      ⊢ (iprop(DirT c b ∗ TO c b ∗ Pos (storCell c b) 0) : sProp 𝕄) := by
  unfold NDir PDir DirT SendKit TC TS TR TW
  simp only [bigSep_sep']
  iintro ⟨⟨C, S, R, O, W⟩, ⟨P, Ps, Pr, Po⟩, Rk, Cr⟩
  isplitl [C S R W P Ps Pr Rk Cr]
  · isplitl [S R W]
    · isplitl [S]; · iexact S
      isplitl [R]; · iexact R
      iexact W
    isplitl [Ps]; · iexact Ps
    isplitl [Rk]; · iexact Rk
    isplitl [Pr]; · iexact Pr
    isplitl [P]; · iexact P
    isplitl [Cr]; · iexact Cr
    iexact C
  isplitl [O]; · iexact O
  iexact Po

theorem sto_of (c : Dev nD) (b : Bool) :
    iprop((TO c b ∗ Pos (storCell c b) 0) ∗ bigSep (Finset.range 8) (fun t => tileAny c b (gk b c t))) ⊢ (Sto m c b 0 0 : sProp 𝕄) := by
  unfold Sto TO
  simp only [bigSep_sep']
  rw [show Finset.Ico 0 8 = Finset.range 8 from (Finset.range_eq_Ico 8).symm]
  iintro ⟨⟨O, P⟩, T⟩
  isplitl [O T]
  · isplitl [O]; · iexact O
    iexact T
  isplitl [P]; · iexact P
  rw [if_neg (Nat.lt_irrefl 0)]
  isplitr; · iempintro
  rw [Finset.range_zero, bigSep_empty]
  iempintro

theorem am_of (c : Dev nD) :
    iprop((TX c ∗ TY (nxt c)) ∗ bigSep (Finset.range 7) (fun i => cred (tallyAt (amRCell c i) i NA))
      ∗ bigSep (Finset.range 7) (fun i => atPos ER (amSCell c i) 0 ∅ 0) ∗ bigSep (Finset.range 7) (fun i => atPos ER (amRCell c i) 0 ∅ 0)) ⊢ (AmT c : sProp 𝕄) := by
  unfold AmT TX TY
  simp only [bigSep_sep']
  iintro ⟨⟨X, Y⟩, C, S, R⟩
  isplitl [X]; · iexact X
  isplitl [Y]; · iexact Y
  isplitl [C]; · iexact C
  isplitl [S]; · iexact S
  iexact R

/-! ## The cells closed -/

variable {m} in
theorem close_cell {K : GSem nD τ sig → ℕ} {ιs : Key → ℕ} (c : Dev nD) (s : SemLoc sig) (hs : kindOf s ≠ .other) (R : ℕ) (hR : ∀ r, R ≤ r → dutK (kindOf s) r = ∅) :
    iprop(Ctx m K ιs ∗ atPos ER ((c : Thread nD τ), s) R ∅ 0) ⊢ |={Set.univ}=> semVal ((c : Thread nD τ), s) 0 := by
  iintro ⟨#HX, Hat⟩
  ihave HC := (Ctx_cell c (s := s) hs) $$ HX
  icases HC with ⟨HI, -⟩
  iapply (Rounds.cell_close ER (Rd m) (Set.mem_univ _) (fun h => h) (R := R) (fun r hr => (duties_eq m rfl r).trans (hR r hr)))
  isplitl [HI]; · iexact HI
  iexact Hat

variable {m} in
theorem close_two {K : GSem nD τ sig → ℕ} {ιs : Key → ℕ} (c : Dev nD) (s : ℕ → SemLoc sig) (hs : ∀ n, kindOf (s n) ≠ .other) (n R : ℕ)
    (hn : (n + 1) / 2 = R ∧ n / 2 = R) (hR : ∀ n r, R ≤ r → dutK (kindOf (s n)) r = ∅) :
    iprop(Ctx m K ιs ∗ Pos (fun n => ((c : Thread nD τ), s n)) n) ⊢ |={Set.univ}=> iprop(semVal ((c : Thread nD τ), s 0) 0 ∗ semVal ((c : Thread nD τ), s 1) 0) := by
  unfold Pos
  rw [hn.1, hn.2]
  iintro ⟨#HX, H0, H1, -, -⟩
  imod (close_cell c (s 0) (hs 0) R (hR 0)) $$ [H0] with V0
  · isplitr; · iexact HX
    iexact H0
  imod (close_cell c (s 1) (hs 1) R (hR 1)) $$ [H1] with V1
  · isplitr; · iexact HX
    iexact H1
  imodintro
  isplitl [V0]; · iexact V0
  iexact V1

theorem none_send (b : Bool) (n r : ℕ) (h : 7 ≤ r) : dutK (kindOf (.dma (sendS b n))) r = ∅ := by rw [kind_send]; exact if_neg (by omega)
theorem none_recv (b : Bool) (n r : ℕ) (h : 7 ≤ r) : dutK (kindOf (.dma (recvS b n))) r = ∅ := by rw [kind_recv]; exact if_neg (by omega)
theorem none_stor (b : Bool) (n r : ℕ) (h : 4 ≤ r) : dutK (kindOf (.dma (storS b n))) r = ∅ := by rw [kind_stor]; exact if_neg (by omega)
theorem none_cred (b : Bool) (r : ℕ) (h : 1 ≤ r) : dutK (kindOf (.reg (credS b))) r = ∅ := by rw [kind_cred]; exact if_neg (by omega)
theorem none_bar (r : ℕ) (h : 1 ≤ r) : dutK (kindOf (.reg barS)) r = ∅ := by rw [kind_bar]; exact if_neg (by omega)
theorem none_amS (n r : ℕ) (h : 1 ≤ r) : dutK (kindOf (.dma (amSS n))) r = ∅ := by rw [kind_amS]; exact if_neg (by omega)
theorem none_amR (n r : ℕ) (h : 1 ≤ r) : dutK (kindOf (.dma (amRS n))) r = ∅ := by rw [kind_amR]; exact if_neg (by omega)

variable {m} in
theorem close_dir {K : GSem nD τ sig → ℕ} {ιs : Key → ℕ} (c : Dev nD) (b : Bool) :
    iprop(Ctx m K ιs ∗ DoneCells c b ∗ Sto m c b 8 8)
      ⊢ |={Set.univ}=> iprop(EachDir (fun s => semVal ((c : Thread nD τ), s) 0) b ∗ bigSep (Finset.range 8) (tilePts m c b)) := by
  unfold DoneCells Sto EachDir
  iintro ⟨#HX, ⟨Ps, Pr, Pc⟩, -, Po, -, T⟩
  imod (close_two c (fun n => .dma (sendS b n)) (fun n => by rw [kind_send]; simp) 14 7 (by decide) (none_send b)) $$ [Ps] with Vs
  · isplitr; · iexact HX
    iexact Ps
  imod (close_two c (fun n => .dma (recvS b n)) (fun n => by rw [kind_recv]; simp) 14 7 (by decide) (none_recv b)) $$ [Pr] with Vr
  · isplitr; · iexact HX
    iexact Pr
  imod (close_two c (fun n => .dma (storS b n)) (fun n => by rw [kind_stor]; simp) 8 4 (by decide) (none_stor b)) $$ [Po] with Vo
  · isplitr; · iexact HX
    iexact Po
  imod (close_cell c (.reg (credS b)) (by rw [kind_cred]; simp) 1 (none_cred b)) $$ [Pc] with Vc
  · isplitr; · iexact HX
    iexact Pc
  imodintro
  isplitl [Vs Vr Vo Vc]
  · isplitl [Vc]; · iexact Vc
    isplitl [Vs]; · iexact Vs
    isplitl [Vr]; · iexact Vr
    iexact Vo
  iexact T

variable {m} in
theorem close_am {K : GSem nD τ sig → ℕ} {ιs : Key → ℕ} (c : Dev nD) :
    iprop(Ctx m K ιs ∗ AmD c 7)
      ⊢ |={Set.univ}=> iprop(bigSep (Finset.range 7) (fun i => semVal (amSCell c i) 0) ∗ bigSep (Finset.range 7) (fun i => semVal (amRCell c i) 0) ∗ rowsAny c) := by
  unfold AmD rowsAny
  rw [← bigSep_sep', ← bigSep_sep']
  refine (with_persistent (R := Ctx m K ιs) fun i _ => (?_ : _ ⊢ (iprop(|={Set.univ}=> (semVal (amSCell c i) 0 ∗ semVal (amRCell c i) 0 ∗ rowAny c i)) : sProp 𝕄))).trans
    (bigSep_fupd _ _)
  iintro ⟨#HX, P, Q, R⟩
  imod (close_cell c (.dma (amSS i)) (by rw [kind_amS]; simp) 1 (none_amS i)) $$ [P] with V
  · isplitr; · iexact HX
    iexact P
  imod (close_cell c (.dma (amRS i)) (by rw [kind_amR]; simp) 1 (none_amR i)) $$ [Q] with W
  · isplitr; · iexact HX
    iexact Q
  imodintro
  isplitl [V]; · iexact V
  isplitl [W]; · iexact W
  iexact R

/-! ## The body between its two ends -/

/-- What a device takes into its body besides its scratch buffers. -/
def Taken (c : Dev nD) : sProp 𝕄 :=
  iprop(Dealt m c ∗ levAts L lv ∗ (RecvKit c true 0 ∗ RecvKit c false 0
    ∗ bigSep (Finset.Ico 0 14) (fun j => cred (tallyAt (credCell c true) j 1)) ∗ bigSep (Finset.Ico 0 14) (fun j => cred (tallyAt (credCell c false) j 1))
    ∗ bigSep (Finset.range 7) (fun i => cred (tallyAt (amRCell c i) i NA)) ∗ cred (tallyAt (barCell c) 0 2))
    ∗ ((c : Thread nD τ).loc main_v1) ↦{fullShare} m ((c : Thread nD τ).loc main_v1))
/-- What it gives back besides its scratch buffers and its own semaphores. -/
def Given (c : Dev nD) : sProp 𝕄 := iprop(unscopedSems0 c ∗ ((c : Thread nD τ).loc main_v1) ↦{fullShare} OUT m c)
/-- Its scratch buffers. -/
def Scratch (c : Dev nD) : sProp 𝕄 :=
  iprop(sendAny c true ∗ sendAny c false ∗ recvAny c true ∗ recvAny c false ∗ accAny c true ∗ accAny c false ∗ maxAny c)
theorem scratch_eq (c : Dev nD) :
    (Pipeline.scopedRest (Ix := ℕ) (Name := ℕ) (U := UU) (Lvl := ℕ) (Val := Elt F) spec0 c : sProp 𝕄) = Scratch c := by
  rw [scopedRest0_eq]
  rfl

theorem begins (c : Dev nD) :
    iprop(Taken m c ∗ Scratch c ∗ ow c (O₀ c) ∗ xPts m c ∗ wPts m c) ⊢ |={Set.univ}=> iprop(∃ K ιs, Begin m K ιs c) := by
  unfold Taken Dealt Scratch Poss Needs
  iintro ⟨⟨⟨⟨%K, HB⟩, ⟨%ιs, HI⟩, ⟨Rt, Rf⟩, ⟨Pb, Pt, Pf, Ps, Pr⟩, ⟨Bn, Bp⟩, Nt, Nf, X, Y⟩, HL, ⟨Kt, Kf, Ct, Cf, Ca, Cb⟩, V⟩, ⟨S1, S2, R1, R2, A1, A2, Ma⟩, HO, Hx, Hw⟩
  ihave HX := (show iprop(Base m K ∗ bigSep keys (fun k => Release.slotInv ES (ιs k) k (slotOf (F := F) k)) ∗ levAts L lv) ⊢ (Ctx m K ιs : sProp 𝕄) from Entails.of_eq (by unfold Base Ctx; rfl)) $$ [HB HI HL]
  · isplitl [HB]; · iexact HB
    isplitl [HI]; · iexact HI
    iexact HL
  icases HX with #HX
  ihave R1 := (slots_in c true) $$ R1
  ihave R2 := (slots_in c false) $$ R2
  ihave Ma := (rows_in c) $$ Ma
  icases Ma with ⟨M7, Ms⟩
  imod (dir_release (m := m) (K := K) (ιs := ιs) c true) $$ [Rt R1] with ⟨Rt, At⟩
  · isplitr; · iexact HX
    isplitl [Rt]; · iexact Rt
    iexact R1
  imod (dir_release (m := m) (K := K) (ιs := ιs) c false) $$ [Rf R2] with ⟨Rf, Af⟩
  · isplitr; · iexact HX
    isplitl [Rf]; · iexact Rf
    iexact R2
  ihave Dt := (dir_of c true) $$ [Nt Pt Kt Ct]
  · isplitl [Nt]; · iexact Nt
    isplitl [Pt]; · iexact Pt
    isplitl [Kt]; · iexact Kt
    iexact Ct
  icases Dt with ⟨Dt, Ot⟩
  ihave Df := (dir_of c false) $$ [Nf Pf Kf Cf]
  · isplitl [Nf]; · iexact Nf
    isplitl [Pf]; · iexact Pf
    isplitl [Kf]; · iexact Kf
    iexact Cf
  icases Df with ⟨Df, Of⟩
  ihave T := (tiles_in c _) $$ V
  icases T with ⟨Tt, Tf⟩
  ihave St := (sto_of m c true) $$ [Ot Tt]
  · isplitl [Ot]; · iexact Ot
    iexact Tt
  ihave Sf := (sto_of m c false) $$ [Of Tf]
  · isplitl [Of]; · iexact Of
    iexact Tf
  ihave Am := (am_of c) $$ [X Y Ca Ps Pr]
  · isplitl [X Y]
    · isplitl [X]; · iexact X
      iexact Y
    isplitl [Ca]; · iexact Ca
    isplitl [Ps]; · iexact Ps
    iexact Pr
  imodintro
  iexists K
  iexists ιs
  unfold Begin Start BarT TB
  isplitl [HO Bn Bp Cb Pb Ms Dt Df Rt Rf At Af]
  · isplitr; · iexact HX
    isplitl [HO]; · iexact HO
    isplitl [Bn Bp Cb Pb]
    · isplitl [Bp]; · iexact Bp
      isplitl [Bn]; · iexact Bn
      isplitl [Cb]; · iexact Cb
      iexact Pb
    isplitl [Ms]; · iexact Ms
    isplitl [Dt]; · iexact Dt
    isplitl [Df]; · iexact Df
    isplitl [Rt]; · iexact Rt
    isplitl [Rf]; · iexact Rf
    isplitl [At]; · iexact At
    iexact Af
  isplitl [Am]; · iexact Am
  isplitl [St]; · iexact St
  isplitl [Sf]; · iexact Sf
  isplitl [Hx]; · iexact Hx
  isplitl [Hw]; · iexact Hw
  isplitl [A1]; · iexact A1
  isplitl [A2]; · iexact A2
  isplitl [S1]; · iexact S1
  isplitl [S2]; · iexact S2
  iexact M7

theorem slots_last (c : Dev nD) (b : Bool) : iprop(slotAny c b 12 ∗ slotAny c b 13) ⊢ (recvAny c b : sProp 𝕄) := by
  rw [← slotAny_mod c b 12, ← slotAny_mod c b 13]
  exact slots_out c b

theorem ends (K : GSem nD τ sig → ℕ) (ιs : Key → ℕ) (c : Dev nD) :
    Done m K ιs c ⊢ |={Set.univ}=> iprop((Given m c ∗ Pipeline.ownSems0 osem c ∗ Scratch c) ∗ ow c 0 ∗ xPts m c ∗ wPts m c) := by
  unfold Done
  iintro ⟨#HX, HO, Pb, Dt, Df, St, Sf, Am, Hx, Hw, A1, A2, S1, S2, T0, T1, F0, F1, M7⟩
  imod (close_dir (K := K) (ιs := ιs) c true) $$ [Dt St] with ⟨Vt, Tt⟩
  · isplitr; · iexact HX
    isplitl [Dt]; · iexact Dt
    iexact St
  imod (close_dir (K := K) (ιs := ιs) c false) $$ [Df Sf] with ⟨Vf, Tf⟩
  · isplitr; · iexact HX
    isplitl [Df]; · iexact Df
    iexact Sf
  imod (close_am (K := K) (ιs := ιs) c) $$ [Am] with ⟨Vs, Vr, Ms⟩
  · isplitr; · iexact HX
    iexact Am
  imod (close_cell (K := K) (ιs := ιs) c (.reg barS) (by rw [kind_bar]; simp) 1 none_bar) $$ [Pb] with Vb
  · isplitr; · iexact HX
    iexact Pb
  ihave V := (show iprop(Grouped fun s => semVal ((c : Thread nD τ), s) 0) ⊢ (_ : sProp 𝕄) from
    Entails.of_eq ((mySems_grouped fun s => semVal ((c : Thread nD τ), s) 0).symm.trans (sems_eq (F := F) c).symm)) $$ [Vb Vt Vf Vs Vr]
  · unfold Grouped
    isplitl [Vb]; · iexact Vb
    isplitl [Vt]; · iexact Vt
    isplitl [Vf]; · iexact Vf
    isplitl [Vs]; · iexact Vs
    iexact Vr
  icases V with ⟨Vu, Vo⟩
  ihave O := (tiles_out m c) $$ [Tt Tf]
  · isplitl [Tt]; · iexact Tt
    iexact Tf
  ihave R1 := (slots_last c true) $$ [T0 T1]
  · isplitl [T0]; · iexact T0
    iexact T1
  ihave R2 := (slots_last c false) $$ [F0 F1]
  · isplitl [F0]; · iexact F0
    iexact F1
  ihave Ma := (rows_out c) $$ [M7 Ms]
  · isplitl [M7]; · iexact M7
    iexact Ms
  imodintro
  unfold Given Scratch
  isplitl [Vu O Vo S1 S2 R1 R2 A1 A2 Ma]
  · isplitl [Vu O]
    · isplitl [Vu]; · iexact Vu
      iexact O
    isplitl [Vo]; · iexact Vo
    isplitl [S1]; · iexact S1
    isplitl [S2]; · iexact S2
    isplitl [R1]; · iexact R1
    isplitl [R2]; · iexact R2
    isplitl [A1]; · iexact A1
    isplitl [A2]; · iexact A2
    iexact Ma
  isplitl [HO]; · iexact HO
  isplitl [Hx]; · iexact Hx
  iexact Hw

end Cert.RingProof

end
-- ==== Proof.LaunchRun.lean ====
/-
  The run of the eight devices: the body set between the pipeline's windows, the launch, and what every final state holds.
-/
module

public import proofs.«01_k».proof.Proof.Region
public import Idealize.ShloMosaic.Lib.Pipeline.CollectiveSegs
public import Idealize.ShloMosaic.Lib.Pipeline.Launch
public import Idealize.ShloMosaic.Lib.Pipeline.Kit

@[expose] public section

noncomputable section

namespace Cert.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf owesWithin)

variable {F : FTy → Type} [FloatOps F]

local notation "𝕄" => MT nD τ sig ℕ (Elt F) ℕ UU ℕ

variable {m : (ℓ : Loc nD τ sig) → Buf (Elt F) ℓ} {K : GSem nD τ sig → ℕ} {ιs : Key → ℕ}

variable (m : (ℓ : Loc nD τ sig) → Buf (Elt F) ℓ) (ρ : Dev nD → PrngReg)

/-! ## The windows -/

/-- The proof data of the one region: the arrays as launched, both windows' blocks left in place. -/
def dats (_ : Fin 1) (c : Dev nD) : Dat τ (Elt F) ℕ ℕ UU ℕ cfg0 c where
  A w := m ((cfg0.win w).arr.view.loc (c : Thread nD τ))
  after w _ := match w with
    | ⟨0, _⟩ => xB m c
    | ⟨1, _⟩ => wB m c
  Φ t := match t with
    | ⟨0, _⟩ => iprop(Taken m c ∗ Pipeline.scopedRest cfg0.spec c)
    | ⟨_ + 1, _⟩ => iprop(Given m c ∗ Pipeline.ownSems0 osem c ∗ Pipeline.scopedRest cfg0.spec c)
  q _ := fullShare
  owed t := match t with
    | ⟨0, _⟩ => O₀ c
    | ⟨_ + 1, _⟩ => 0

/-- A staging buffer at a value. -/
def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_stg (c : Dev nD) (b : Ref sig .tc) (X : b.ty.Contents (Elt F)) :
    (owns (Ix := ℕ) (Name := ℕ) (U := UU) (Lvl := ℕ) (c : Thread nD τ) (Memref.whole b) fullShare X : sProp 𝕄) = stg c b X := by
  unfold owns stg; simp only [Memref.view_whole, View.read_whole, View.set_whole]

theorem stg_at (c : Dev nD) (b : Ref sig .tc) (X : b.ty.Contents (Elt F)) :
    stg c b X ⊢ (((c : Thread nD τ).loc b ↦{fullShare} X) : sProp 𝕄) := by
  unfold stg
  iintro ⟨%f, %h, H⟩
  subst h
  iexact H
theorem at_stg (c : Dev nD) (b : Ref sig .tc) (X : b.ty.Contents (Elt F)) :
    (((c : Thread nD τ).loc b ↦{fullShare} X) : sProp 𝕄) ⊢ stg c b X := by
  unfold stg
  iintro H
  iexists X
  isplitr; · ipureintro; rfl
  iexact H

theorem owes_start (c : Dev nD) : (dats m 0 c).owesAt (0 : ℕ) t0_0.castSucc ⊢ (ow c (O₀ c) : sProp 𝕄) := by
  unfold Dat.owesAt owesWithin ow
  rw [show (dats m 0 c).owed t0_0.castSucc = O₀ c from rfl]
  iintro ⟨%W, -, H⟩
  iexists W
  iexact H
theorem owes_end (c : Dev nD) : (ow c 0 : sProp 𝕄) ⊢ (dats m 0 c).owesAt (0 : ℕ) t0_0.succ := by
  unfold Dat.owesAt owesWithin ow
  rw [show (dats m 0 c).owed t0_0.succ = 0 from rfl]
  iintro ⟨%W, H⟩
  iexists W
  isplitr; · ipureintro; exact fun _ _ => Or.inl trivial
  iexact H

def bodyPre (c : Dev nD) : sProp 𝕄 :=
  iprop((Taken m c ∗ Pipeline.scopedRest cfg0.spec c) ∗ (dats m 0 c).owesAt (0 : ℕ) t0_0.castSucc
    ∗ (∃ d, stg c cc0_stg0_0 ((dats m 0 c).before (0 : Fin 2) t0_0 d))
    ∗ (∃ d, stg c cc0_stg1_0 ((dats m 0 c).before (1 : Fin 2) t0_0 d)))
def bodyPost (c : Dev nD) : sProp 𝕄 :=
  iprop((Given m c ∗ Pipeline.ownSems0 osem c ∗ Pipeline.scopedRest cfg0.spec c) ∗ (dats m 0 c).owesAt (0 : ℕ) t0_0.succ
    ∗ stg c cc0_stg0_0 (xB m c) ∗ stg c cc0_stg1_0 (wB m c))

theorem before_x (c : Dev nD) (d) : (dats m 0 c).before (0 : Fin 2) t0_0 d = xB m c := by
  unfold Dat.before; rw [if_pos (fetch0_0 t0_0)]; rfl
theorem before_w (c : Dev nD) (d) : (dats m 0 c).before (1 : Fin 2) t0_0 d = wB m c := by
  unfold Dat.before; rw [if_pos (fetch0_1 t0_0)]; rfl

theorem pre_begin (c : Dev nD) : bodyPre m c ⊢ |={Set.univ}=> iprop(∃ K ιs, Begin m K ιs c) := by
  unfold bodyPre
  rw [show (Pipeline.scopedRest (Ix := ℕ) (Name := ℕ) (U := UU) (Lvl := ℕ) (Val := Elt F) cfg0.spec c : sProp 𝕄) = Scratch c from scratch_eq c]
  simp only [before_x, before_w]
  iintro ⟨⟨HT, HS⟩, HO, ⟨%d, Hx⟩, ⟨%e, Hw⟩⟩
  iapply (begins m c)
  isplitl [HT]; · iexact HT
  isplitl [HS]; · iexact HS
  isplitl [HO]; · iapply (owes_start m c); iexact HO
  isplitl [Hx]
  · unfold xPts; iapply (stg_at c cc0_stg0_0 (xB m c)); iexact Hx
  · unfold wPts; iapply (stg_at c cc0_stg1_0 (wB m c)); iexact Hw

theorem done_post (K : GSem nD τ sig → ℕ) (ιs : Key → ℕ) (c : Dev nD) : Done m K ιs c ⊢ |={Set.univ}=> bodyPost m c := by
  unfold bodyPost
  rw [show (Pipeline.scopedRest (Ix := ℕ) (Name := ℕ) (U := UU) (Lvl := ℕ) (Val := Elt F) cfg0.spec c : sProp 𝕄) = Scratch c from scratch_eq c]
  iintro H
  imod (ends m K ιs c) $$ H with ⟨HG, HO, Hx, Hw⟩
  imodintro
  isplitl [HG]; · iexact HG
  isplitl [HO]; · iapply (owes_end m c); iexact HO
  isplitl [Hx]
  · unfold xPts; iapply (at_stg c cc0_stg0_0 (xB m c)); iexact Hx
  · unfold wPts; iapply (at_stg c cc0_stg1_0 (wB m c)); iexact Hw

set_option maxHeartbeats 1000000 in
theorem body_run (c : Dev nD) : bodyPre m c ⊢ WP c (cc0__body xM (Memref.isWhole_whole _) wM (Memref.isWhole_whole _) oM (Memref.isWhole_whole _) (sM true) (Memref.isWhole_whole _) (sM false) (Memref.isWhole_whole _) (rM true) (Memref.isWhole_whole _) (rM false) (Memref.isWhole_whole _) (cM true) (Memref.isWhole_whole _) (cM false) (Memref.isWhole_whole _) aM (Memref.isWhole_whole _) cc0_scratch7 cc0_scratch8 cc0_scratch9 cc0_scratch10 cc0_scratch11 cc0_scratch12 cc0_scratch13 cc0_scratch14 cc0_scratch15 cc0_scratch16) (fun _ => bodyPost m c) := by
  refine (pre_begin m c).trans ((fupd_mono ?_).trans (fupd_wp _ _ _ _ _))
  iintro ⟨%K, %ιs, H⟩
  iapply (wp_fupd _ _ _ _ _)
  iapply (wp_mono _ _ _ (fun _ => done_post m K ιs c))
  iapply (body (m := m) (K := K) (ιs := ιs) c)
  iexact H

set_option maxRecDepth 4000 in
set_option maxHeartbeats 1000000 in
theorem body_obligation (c : Dev nD) : BodyObligation (dats (F := F) m 0 c) (defs₀ (F := F)) 𝒱₀ (0 : ℕ) Set.univ := fun t => by
  rw [fin_N0 t]
  rw [bigSep_W0, bigSep_W0]
  simp only [owns_stg]
  exact body_run m c

/-! ## The launch -/

theorem share_eq (c : Dev nD) (w : Fin cfg0.W) : (dats m 0 c).share w = fullShare := by unfold Dat.share; split <;> rfl

theorem stage_wait (c : Dev nD) (q : DmaSem sig) (hq : kindOf (.dma q) = .other) (O : CellTallies nD τ sig ℕ) (hO : O = O₀ c ∨ O = 0) :
    (levAts L lv : sProp 𝕄) ⊢ MayWait (c : Thread nD τ) (.dma q) 0 O := by
  have h0 (u : ℕ) : lv ((c : Thread nD τ), .dma q) u = 0 := by unfold lv; dsimp only; rw [hq]
  rcases hO with rfl | rfl
  · have hb (d : Dev nD) : lv (barCell d) 0 = 1 := by unfold lv; dsimp only; rw [kind_bar]
    have hpos : ∀ (g : GSem nD τ sig) (u : ℕ), 0 < O₀ c g u → 0 < lv g u ∧ u < 64 ∧ g.1.2 = .tc := fun g u hg => by
      unfold O₀ at hg
      simp only [Pi.add_apply, Finsupp.add_apply] at hg
      have hg : 0 < Ow c 0 0 0 0 0 g u ∨ 0 < tallyAt (barCell (nxt c)) 0 1 g u ∨ 0 < tallyAt (barCell (prv c)) 0 1 g u := by omega
      rcases hg with hg | hg | hg
      · exact Ow_lv (by omega) (by omega) (by omega) (by omega) (by omega) hg
      all_goals
        rw [tallyAt_apply] at hg
        split at hg
        · rename_i h; obtain ⟨rfl, rfl⟩ := h; rw [hb]; exact ⟨by omega, by omega, rfl⟩
        · omega
    exact MayOwe.of_cut (L := L) (lev := lv) 0 (fun p hp => by rw [Finset.mem_singleton.mp hp, L_tc]; exact Finset.mem_range.mpr (Nat.succ_pos 63))
      (fun g u hg => by unfold L; rw [if_pos (hpos g u hg).2.2]; exact Finset.mem_range.mpr (hpos g u hg).2.1)
      (fun p hp => by rw [Finset.mem_singleton.mp hp]; exact (h0 0).le) (fun g u hg => (hpos g u hg).1)
  · rw [MayWait_zero]; iintro -; iempintro

theorem waits (c : Dev nD) : (levAts L lv : sProp 𝕄) ⊢ Pipeline.cellsWaits cfgs (dats m) (0 : ℕ) 0 c :=
  Pipeline.cellsWaits_intro cfgs (dats m) (0 : ℕ) 0 c fun w s t =>
    stage_wait c _ (by fin_cases w <;> fin_cases s <;> decide) _ (by
      rcases t with ⟨_ | _, ht⟩
      · exact Or.inl rfl
      · exact Or.inr rfl)

theorem enter (c : Dev nD) :
    iprop(Pipeline.unscopedRestP Pipeline.Prefetch.none cfg0.spec c (fun b => m ((c : Thread nD τ).loc b)) ∗ levAts L lv
        ∗ Pipeline.launchCred O₀ c ∗ prngReg c (ρ c) ∗ Dealt m c)
      ⊢ |={Set.univ}=> iprop(Taken m c ∗ emp) := by
  rw [Pipeline.unscopedRestP_none]
  rw [show (Pipeline.unscopedRest (Ix := ℕ) (Name := ℕ) (U := UU) (Lvl := ℕ) (Val := Elt F) cfg0.spec c (fun b => m ((c : Thread nD τ).loc b)) : sProp 𝕄)
    = (((c : Thread nD τ).loc main_v1) ↦{fullShare} m ((c : Thread nD τ).loc main_v1)) from unscopedRest0_eq c _]
  iintro ⟨HV, HL, HC, -, HD⟩
  ihave HC := (creds (F := F) c) $$ HC
  imodintro
  isplitl
  · unfold Taken
    isplitl [HD]; · iexact HD
    isplitl [HL]; · iexact HL
    isplitl [HC]; · iexact HC
    iexact HV
  · iempintro

theorem opened (c : Dev nD) :
    iprop(Taken m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(Taken m c ∗ Pipeline.scopedRest cfg0.spec c) from rfl]
  iintro ⟨Hs, -, Hr⟩
  isplitl [Hs]; · iexact Hs
  iexact Hr

theorem read_out (c : Dev nD) (s' : Phys nD τ sig (Elt F)) :
    iprop((((c : Thread nD τ).loc main_v1) ↦{fullShare} OUT m c) ∗ SI s') ⊢ (iprop(⌜s'.mem.mem ((c : Thread nD τ).loc main_v1) = OUT m c⌝ ∗ SI s') : sProp 𝕄) := by
  iintro ⟨H, HS⟩
  ihave HR := (pointsTo_read_all ({()} : Finset Unit) (fun _ => (c : Thread nD τ).loc main_v1) (fun _ => OUT m c) s') $$ [H HS]
  · isplitl [H]
    · rw [bigSep_singleton]; iexact H
    iexact HS
  icases HR with ⟨%h, HS⟩
  isplitr
  · ipureintro; exact h () (Finset.mem_singleton_self _)
  iexact HS

/-! ## The run -/

def s₀ : MemSt nD τ sig (Elt F) := ⟨m, fun _ => 0, ρ⟩

/-- What every final state holds: each window's array as the region leaves it, and the whole result. -/
def QC : PUnit × MemSt nD τ sig (Elt F) → Prop := fun r =>
  ∀ c : Dev nD, (∀ w : Fin cfg0.W, r.2.mem ((cfg0.win w).arr.view.loc (c : Thread nD τ)) = (dats m 0 c).arrAt w cfg0.N)
    ∧ r.2.mem ((c : Thread nD τ).loc main_v1) = OUT m c

set_option maxRecDepth 8000 in
set_option maxHeartbeats 2000000 in
/-- Every run of the eight devices ends, with each device's result array at `OUT`, its arguments as they were and every
    semaphore at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) (0 : ℕ) cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := Minted m) (G' := Dealt m) (u₀ := u₀)
    (hu₀ := fund_all m)
    (hglob := glob m)
    (hA := fun _ _ => rfl) (hpf := fun _ k => k.elim0)
    (X := Taken m) (Y := Given m) (Z := fun _ => iprop(emp))
    (hX := enter m ρ) (hin := opened m) (hout := fun _ => Entails.of_eq rfl)
    (QY := fun c s => (∀ sm : SemLoc sig, sm.isScoped .tc = false → s.sem ((c.tc : Thread nD τ), sm) = 0) ∧ s.mem ((c : Thread nD τ).loc main_v1) = OUT m c)
    (hY := fun c s' => by
      unfold Given
      iintro ⟨⟨Hu, HV⟩, -, HSI⟩
      ihave HR := (read_out m c s') $$ [HV HSI]
      · isplitl [HV] <;> iassumption
      icases HR with ⟨%h, HSI⟩
      imod (Pipeline.unscopedSems0_read (X := unscopedSems0 c) (c := c) fupd_intro s') $$ [Hu HSI] with ⟨%h', HSI⟩
      · isplitl [Hu] <;> iassumption
      imodintro
      isplitr
      · ipureintro; exact ⟨h', h⟩
      iexact HSI)
    (hQ := fun _ h hs => ⟨fun c => ⟨fun w => (h c).1 w, (h c).2.2.2⟩, sem_eq_zero hs fun c => (h c).2.2.1⟩)

/-- The arguments end as they were. -/
theorem end_x (c : Dev nD) : (dats m 0 c).arrAt (0 : Fin 2) cfg0.N = m ((c : Thread nD τ).loc main_arg0) := (dats m 0 c).arrAt_in (0 : Fin 2) rfl _
theorem end_w (c : Dev nD) : (dats m 0 c).arrAt (1 : Fin 2) cfg0.N = m ((c : Thread nD τ).loc main_arg1) := (dats m 0 c).arrAt_in (1 : Fin 2) rfl _

end Cert.RingProof

end
-- ==== Proof.Quant.lean ====
/-
  The quantiser at one element, over the extended reals. The kernel finds the power of two at or below `a` by a search
  (`grow`: multiply by 256, 16, 4, 2 while the product is not above `a`), the reference by a logarithm; both then round
  `a` to a multiple of an eighth of that power, or of 2⁻⁹ below 2⁻⁶. The two agree wherever the scale is the largest
  magnitude over 448: `kq_eq_rq`.
-/
module

public import Idealize.ShloMosaic.Lib.Pointwise
public import Idealize.ShloMosaic.PureOps.Ideal.Laws
public import Idealize.ShloMosaic.Lib.IdealHost
public import Mathlib.Tactic.IntervalCases
public import Mathlib.Tactic.Linarith
public import Mathlib.Tactic.Positivity

@[expose] public section

noncomputable section

namespace Cert.RingProof

open Idealize.ShloMosaic

/-! ## The constants -/

theorem b64 : Ideal.ofBits .f32 0x3C800000#32 = ((1 / 64 : ℝ) : EReal) := by simp [Ideal.ofBits, Ideal.ieee, -EReal.coe_mul]; norm_num
theorem b256 : Ideal.ofBits .f32 0x43800000#32 = ((256 : ℝ) : EReal) := by simp [Ideal.ofBits, Ideal.ieee, -EReal.coe_mul]; norm_num
theorem b16 : Ideal.ofBits .f32 0x41800000#32 = ((16 : ℝ) : EReal) := by simp [Ideal.ofBits, Ideal.ieee, -EReal.coe_mul]; norm_num
theorem b4 : Ideal.ofBits .f32 0x40800000#32 = ((4 : ℝ) : EReal) := by simp [Ideal.ofBits, Ideal.ieee, -EReal.coe_mul]; norm_num
theorem b2 : Ideal.ofBits .f32 0x40000000#32 = ((2 : ℝ) : EReal) := by simp [Ideal.ofBits, Ideal.ieee, -EReal.coe_mul]; norm_num
theorem b3 : Ideal.ofBits .f32 0x40400000#32 = ((3 : ℝ) : EReal) := by simp [Ideal.ofBits, Ideal.ieee, -EReal.coe_mul]; norm_num
theorem b8th : Ideal.ofBits .f32 0x3E000000#32 = ((1 / 8 : ℝ) : EReal) := by simp [Ideal.ofBits, Ideal.ieee, -EReal.coe_mul]; norm_num
theorem b512 : Ideal.ofBits .f32 0x44000000#32 = ((512 : ℝ) : EReal) := by simp [Ideal.ofBits, Ideal.ieee, -EReal.coe_mul]; norm_num
theorem b512th : Ideal.ofBits .f32 0x3B000000#32 = ((1 / 512 : ℝ) : EReal) := by simp [Ideal.ofBits, Ideal.ieee, -EReal.coe_mul]; norm_num
theorem b448 : Ideal.ofBits .f32 0x43E00000#32 = ((448 : ℝ) : EReal) := by simp [Ideal.ofBits, Ideal.ieee, -EReal.coe_mul]; norm_num
theorem bbot : Ideal.ofBits .f32 0xFF800000#32 = ⊥ := by simp [Ideal.ofBits, Ideal.ieee]

/-! ## The two quantisers -/

/-- One step of the search: `p · k` where that is not above `a`, else `p`. -/
def grow (a p k : EReal) : EReal := if p * k ≤ a then p * k else p

/-- The power of two at or below `a`, as the kernel searches it. -/
def kpow (a : EReal) : EReal :=
  grow a (grow a (grow a (grow a (Ideal.ofBits .f32 0x3C800000#32) (Ideal.ofBits .f32 0x43800000#32))
    (Ideal.ofBits .f32 0x41800000#32)) (Ideal.ofBits .f32 0x40800000#32)) (Ideal.ofBits .f32 0x40000000#32)

/-- The kernel's rounded magnitude; -/
def kmag (a : EReal) : EReal :=
  min (if Ideal.ofBits .f32 0x3C800000#32 ≤ a then
      Ideal.liftRound Ideal.roundHalfEven (Ideal.div a (kpow a * Ideal.ofBits .f32 0x3E000000#32)) * (kpow a * Ideal.ofBits .f32 0x3E000000#32)
    else Ideal.liftRound Ideal.roundHalfEven (a * Ideal.ofBits .f32 0x44000000#32) * Ideal.ofBits .f32 0x3B000000#32)
    (Ideal.ofBits .f32 0x43E00000#32)

/-- the value it stores. -/
def kq (s y : EReal) : EReal :=
  (if Ideal.div y s < 0 then 0 - kmag (max (Ideal.div y s) (-Ideal.div y s)) else kmag (max (Ideal.div y s) (-Ideal.div y s))) * s

/-- The reference's rounding step at magnitude `a`; -/
def rstep (a : EReal) : EReal :=
  if Ideal.ofBits .f32 0x3C800000#32 ≤ a then
    Ideal.pow (Ideal.ofBits .f32 0x40000000#32)
      (Ideal.liftRound Int.floor (Ideal.div (Ideal.log a) (Ideal.log (Ideal.ofBits .f32 0x40000000#32))) - Ideal.ofBits .f32 0x40400000#32)
  else Ideal.ofBits .f32 0x3B000000#32

/-- its rounded magnitude; -/
def rmag (a : EReal) : EReal :=
  min (Ideal.liftRound Ideal.roundHalfEven (Ideal.div a (rstep a)) * rstep a) (Ideal.ofBits .f32 0x43E00000#32)

/-- the value it returns. -/
def rq (s y : EReal) : EReal := Ideal.sign (Ideal.div y s) * rmag (max (Ideal.div y s) (-Ideal.div y s)) * s

/-! ## They agree -/

theorem grow_coe (a p k : ℝ) : grow a p k = ((if p * k ≤ a then p * k else p : ℝ) : EReal) := by
  unfold grow
  rw [← EReal.coe_mul]
  by_cases h : p * k ≤ a
  · rw [if_pos h, if_pos (EReal.coe_le_coe_iff.mpr h)]
  · rw [if_neg h, if_neg (fun h' => h (EReal.coe_le_coe_iff.mp h'))]

/-- The exponent of the power of two at or below `a`. -/
def lg (a : ℝ) : ℤ := ⌊Real.log a * (1 / Real.log 2)⌋

theorem lg_bounds (a : ℝ) (ha : 0 < a) : (2 : ℝ) ^ lg a ≤ a ∧ a < (2 : ℝ) ^ (lg a + 1) := by
  have hl : Real.log 2 ≠ 0 := (Real.log_pos (by norm_num)).ne'
  have hx : (2 : ℝ) ^ (Real.log a * (1 / Real.log 2)) = a := by
    rw [Real.rpow_def_of_pos (by norm_num), mul_one_div, mul_div_cancel₀ _ hl, Real.exp_log ha]
  constructor
  · calc (2 : ℝ) ^ lg a = (2 : ℝ) ^ ((lg a : ℤ) : ℝ) := (Real.rpow_intCast _ _).symm
      _ ≤ (2 : ℝ) ^ (Real.log a * (1 / Real.log 2)) := Real.rpow_le_rpow_of_exponent_le (by norm_num) (Int.floor_le _)
      _ = a := hx
  · calc a = (2 : ℝ) ^ (Real.log a * (1 / Real.log 2)) := hx.symm
      _ < (2 : ℝ) ^ (((lg a + 1 : ℤ)) : ℝ) := Real.rpow_lt_rpow_of_exponent_lt (by norm_num) (by push_cast; exact Int.lt_floor_add_one _)
      _ = (2 : ℝ) ^ (lg a + 1) := Real.rpow_intCast _ _

theorem kpow_eq (a : ℝ) (h0 : 1 / 64 ≤ a) (h1 : a ≤ 448) : kpow a = (((2 : ℝ) ^ lg a : ℝ) : EReal) := by
  obtain ⟨lo, hi⟩ := lg_bounds a (by linarith)
  have e0 : -6 < lg a + 1 := (zpow_lt_zpow_iff_right₀ (a := (2 : ℝ)) (by norm_num)).mp (lt_of_le_of_lt (by norm_num; linarith) hi)
  have e1 : lg a < 9 := (zpow_lt_zpow_iff_right₀ (a := (2 : ℝ)) (by norm_num)).mp (lt_of_le_of_lt lo (by norm_num; linarith))
  generalize lg a = e at *
  have e2 : -6 ≤ e := by omega
  unfold kpow
  rw [b64, b256, b16, b4, b2, grow_coe, grow_coe, grow_coe, grow_coe, EReal.coe_eq_coe_iff]
  interval_cases e <;> norm_num at lo hi ⊢ <;> split_ifs <;> first | (exfalso; linarith) | norm_num

theorem rstep_hi (a : ℝ) (h0 : 1 / 64 ≤ a) (h1 : a ≤ 448) : rstep a = kpow a * Ideal.ofBits .f32 0x3E000000#32 := by
  have ha : 0 < a := by linarith
  have hl : Real.log 2 ≠ 0 := (Real.log_pos (by norm_num)).ne'
  have hf : ⌊Real.log a * (1 / Real.log 2)⌋ = lg a := rfl
  rw [kpow_eq a h0 h1, b8th, rstep, b64, if_pos (EReal.coe_le_coe_iff.mpr h0), b2, b3, Ideal.log_coe, Ideal.log_coe,
    if_neg (by linarith), if_neg (by norm_num), Ideal.div_coe hl, ← EReal.coe_mul, Ideal.liftRound_coe, hf, ← EReal.coe_sub,
    Ideal.pow_coe_coe, ← EReal.coe_mul, EReal.coe_eq_coe_iff]
  show (2 : ℝ) ^ ((lg a : ℝ) - 3) = _
  rw [Real.rpow_sub (by norm_num), Real.rpow_intCast]
  norm_num
  ring

theorem mag_eq (a : ℝ) (h1 : a ≤ 448) : kmag a = rmag a := by
  unfold kmag rmag
  by_cases h : 1 / 64 ≤ a
  · rw [rstep_hi a h h1, if_pos (by rw [b64]; exact EReal.coe_le_coe_iff.mpr h)]
  · have h' : ¬ Ideal.ofBits .f32 0x3C800000#32 ≤ (a : EReal) := by rw [b64]; exact fun h' => h (EReal.coe_le_coe_iff.mp h')
    rw [rstep, if_neg h', if_neg h', b512, b512th, Ideal.div_coe (by norm_num)]
    norm_num

theorem kmag_zero : kmag 0 = 0 := by
  unfold kmag
  rw [if_neg (by rw [b64, ← EReal.coe_zero, EReal.coe_le_coe_iff]; norm_num), zero_mul, ← EReal.coe_zero, Ideal.liftRound_coe, b512th, b448]
  simp [Ideal.roundHalfEven]

theorem rmag_zero : rmag 0 = 0 := by
  rw [← EReal.coe_zero, ← mag_eq 0 (by norm_num), EReal.coe_zero, kmag_zero]

theorem signed_eq (z : ℝ) (h : |z| ≤ 448) :
    (if (z : EReal) < 0 then 0 - kmag (max z (-z)) else kmag (max z (-z))) = Ideal.sign z * rmag (max z (-z)) := by
  have hm : max (z : EReal) (-z) = ((|z| : ℝ) : EReal) := by
    rw [← EReal.coe_neg, ← EReal.coe_strictMono.monotone.map_max]; rfl
  rw [hm, mag_eq _ h]
  have hs : Ideal.sign z = ((SignType.sign z : ℝ) : EReal) := rfl
  rw [hs]
  rcases lt_trichotomy z 0 with hz | hz | hz
  · rw [if_pos (by exact_mod_cast hz), sign_neg hz]
    simp
  · subst hz
    simp [rmag_zero]
  · rw [if_neg (by simpa using hz.le), sign_pos hz]
    simp

/-- The quantisers agree at the scale `A / 448` on every value whose magnitude is at most `A`. -/
theorem kq_eq_rq (A y : EReal) (h : max y (-y) ≤ A) :
    kq (Ideal.div A (Ideal.ofBits .f32 0x43E00000#32)) y = rq (Ideal.div A (Ideal.ofBits .f32 0x43E00000#32)) y := by
  rw [b448, Ideal.div_coe (by norm_num)]
  induction A using EReal.rec with
  | bot =>
    have h1 : y = ⊥ := le_bot_iff.mp ((le_max_left _ _).trans h)
    have h2 : -y = ⊥ := le_bot_iff.mp ((le_max_right _ _).trans h)
    rw [h1] at h2
    simp at h2
  | top =>
    rw [EReal.top_mul_coe_of_pos (by norm_num)]
    have hz : Ideal.div y ⊤ = 0 := by simp [Ideal.div]
    unfold kq rq
    rw [hz]
    simp [kmag_zero, rmag_zero]
  | coe A =>
    have hyt : y ≠ ⊤ := by rintro rfl; simp at h
    have hyb : y ≠ ⊥ := by rintro rfl; simp at h
    lift y to ℝ using ⟨hyt, hyb⟩
    rw [← EReal.coe_neg, ← EReal.coe_strictMono.monotone.map_max, EReal.coe_le_coe_iff] at h
    change |y| ≤ A at h
    rw [← EReal.coe_mul]
    unfold kq rq
    have hA : 0 ≤ A := (abs_nonneg y).trans h
    rcases hA.eq_or_lt with hA | hA
    · subst hA
      simp
    · rw [Ideal.div_coe (by positivity), ← EReal.coe_mul, signed_eq]
      rw [abs_mul, abs_of_pos (a := 1 / (A * (1 / 448))) (by positivity)]
      rw [mul_one_div, div_le_iff₀ (by positivity)]
      linarith

end Cert.RingProof

end
-- ==== Proof.Value.lean ====
/-
  The value of the result over the extended reals. The reduce-scatter leaves on each device the whole sums of one row
  chunk (`V_full`), which the all-gather carries round (`V_tile`); the maxima's ring leaves on every device the largest
  magnitude of the product (`scale_eq`). `YY` is the product, as a sum over the devices of their partial products `PP`.
-/
module

public import proofs.«01_k».proof.Proof.Vals
public import proofs.«01_k».proof.Proof.Quant
public import proofs.«01_k».proof.Proof.Gen.ReferenceIdeal.Run
public import Idealize.ShloMosaic.Lib.Tactic.CleanTypes
public import Idealize.ShloMosaic.Lib.Layout

@[expose] public section

noncomputable section

namespace Cert.RingProof

open Cert.KernelIdeal Cert.KernelIdeal.Gen
open Idealize.ShloMosaic Idealize.ShloMosaic.TcCoe Idealize.ShloMosaic.Pointwise

/-! ## Matrices at natural coordinates -/

def at2 {a b : ℕ} (v : (⟨2, ![a, b]⟩ : Shape).Idx → EReal) (i j : ℕ) : EReal :=
  if h : i < a ∧ j < b then v (ix2 ⟨i, h.1⟩ ⟨j, h.2⟩) else 0

theorem at2_ix {a b : ℕ} (v : (⟨2, ![a, b]⟩ : Shape).Idx → EReal) (i : Fin a) (j : Fin b) : at2 v i.val j.val = v (ix2 i j) :=
  dif_pos ⟨i.isLt, j.isLt⟩

theorem at2_of {a b : ℕ} (v : (⟨2, ![a, b]⟩ : Shape).Idx → EReal) (x : (⟨2, ![a, b]⟩ : Shape).Idx) : v x = at2 v (x 0).val (x 1).val :=
  (congrArg v (by funext b; fin_cases b <;> rfl)).trans (at2_ix v (x 0) (x 1)).symm

abbrev MX := (⟨2, ![4096, 4096]⟩ : Shape).Idx → EReal
abbrev MW := (⟨2, ![4096, 8192]⟩ : Shape).Idx → EReal

/-- The `c`-th partial product at row `i`, column `j`; the product. -/
def PP (X : MX) (W : MW) (c i j : ℕ) : EReal := ∑ q : Fin 512, at2 X i (512 * c + q.val) * at2 W (512 * c + q.val) j
def YY (X : MX) (W : MW) (i j : ℕ) : EReal := ∑ c : Dev nD, PP X W c.val i j

theorem YY_eq (X : MX) (W : MW) (r : Fin 4096) (l : Fin 8192) :
    ∑ k : Fin 4096, X (ix2 r k) * W (ix2 k l) = YY X W r.val l.val := by
  rw [Fin.sum_univ_tiles 8 512 rfl]
  unfold YY PP
  refine Finset.sum_congr rfl fun c _ => Finset.sum_congr rfl fun q _ => ?_
  rw [← at2_ix X, ← at2_ix W]
  simp only [Nat.mul_comm]

section

variable (m : (ℓ : Loc nD τ sig) → Buf (Elt Ideal) ℓ)

/-! ## The partial products -/

theorem xB_of (c : Dev nD) (i : S4096x512.Idx) : xB m c i = m ((c : Thread nD τ).loc main_arg0) i := by
  unfold xB
  refine congrArg (m ((c : Thread nD τ).loc main_arg0)) ?_
  funext b; apply Fin.ext; fin_cases b
  · show 0 * 4096 + 1 * (i 0).val = (i 0).val; omega
  · show 0 * 512 + 1 * (i 1).val = (i 1).val; omega
theorem wB_of (c : Dev nD) (i : S512x8192.Idx) : wB m c i = m ((c : Thread nD τ).loc main_arg1) i := by
  unfold wB
  refine congrArg (m ((c : Thread nD τ).loc main_arg1)) ?_
  funext b; apply Fin.ext; fin_cases b
  · show 0 * 512 + 1 * (i 0).val = (i 0).val; omega
  · show 0 * 8192 + 1 * (i 1).val = (i 1).val; omega

theorem rows_at (x : Vec Ideal S4096x512 .bf16) (k : ℕ) (r q : Fin 512) : rows x k (ix2 r q) = at2 x (512 * (k % 8) + r.val) q.val := by
  unfold rows
  rw [View.readAt_apply]
  refine (at2_of x _).trans (congrArg₂ (at2 x) ?_ ?_)
  · show 512 * (k % 8) + 1 * r.val = _; omega
  · show 0 + 1 * q.val = _; omega
theorem cols_at (w : Vec Ideal S512x8192 .bf16) (j : Fin 4) (q : Fin 512) (l : Fin 2048) : cols w j (ix2 q l) = at2 w q.val (2048 * j.val + l.val) := by
  unfold cols
  rw [View.readAt_apply]
  refine (at2_of w _).trans (congrArg₂ (at2 w) ?_ ?_)
  · show 0 + 1 * q.val = _; omega
  · show 2048 * j.val + 1 * l.val = _; omega
theorem half_at (v : Vec Ideal S512x4096 .bf16) (j : Fin 2) (r : Fin 512) (l : Fin 2048) : half v j (ix2 r l) = at2 v r.val (2048 * j.val + l.val) := by
  unfold half
  rw [View.readAt_apply]
  refine (at2_of v _).trans (congrArg₂ (at2 v) ?_ ?_)
  · show 0 + 1 * r.val = _; omega
  · show 2048 * j.val + 1 * l.val = _; omega

theorem halves_ix {e : EltTy} (u v : Vec Ideal S512x2048 e) (r : Fin 512) (l : Fin 4096) : halves u v (ix2 r l) =
    if l.val < 2048 then u (ix2 r ⟨l.val % 2048, Nat.mod_lt _ (by decide)⟩) else v (ix2 r ⟨l.val % 2048, Nat.mod_lt _ (by decide)⟩) := by
  have : loIx (ix2 r l) = ix2 r ⟨l.val % 2048, Nat.mod_lt _ (by decide)⟩ := by funext b; fin_cases b <;> rfl
  unfold halves
  rw [this]
  rfl

/-- The operands are the blocks of `X` and `W`. -/
structure Cut (X : MX) (W : MW) : Prop where
  x : ∀ (c : Dev nD) (i k : ℕ), i < 4096 → k < 512 → at2 (a := 4096) (b := 512) (m ((c : Thread nD τ).loc main_arg0)) i k = at2 X i (512 * c.val + k)
  w : ∀ (c : Dev nD) (k j : ℕ), k < 512 → j < 8192 → at2 (a := 512) (b := 8192) (m ((c : Thread nD τ).loc main_arg1)) k j = at2 W (512 * c.val + k) j

variable {m} {X : MX} {W : MW} (H : Cut m X W)
include H

theorem quarter_at (c : Dev nD) (k : ℕ) (j : Fin 4) (r : Fin 512) (l : Fin 2048) :
    quarter m c k j (ix2 r l) = PP X W c.val (512 * (k % 8) + r.val) (2048 * j.val + l.val) := by
  have hk : k % 8 < 8 := Nat.mod_lt _ (by decide)
  pointwise [quarter, k0_pay34, k0_pay33]
  refine Finset.sum_congr rfl fun q _ => ?_
  rw [rows_at, cols_at, ← H.x c _ _ (by omega) q.isLt, ← H.w c _ _ q.isLt (by omega)]
  rw [show xB m c = m ((c : Thread nD τ).loc main_arg0) from funext (xB_of m c), show wB m c = m ((c : Thread nD τ).loc main_arg1) from funext (wB_of m c)]

/-- The first column of a direction's half. -/
def base (dir : Bool) : ℕ := if dir then 0 else 4096

theorem part_at (dir : Bool) (c : Dev nD) (k : ℕ) (r : Fin 512) (l : Fin 4096) :
    part m dir c k (ix2 r l) = PP X W c.val (512 * (k % 8) + r.val) (base dir + l.val) := by
  cases dir <;> unfold part <;> dsimp only <;> rw [halves_ix, quarter_at H, quarter_at H] <;> split_ifs <;> congr 1 <;> simp [base] <;> omega

/-! ## The reduce-scatter -/

/-- The row chunk device `c` sends in transfer `n`. -/
def ch (dir : Bool) (n : ℕ) (c : Dev nD) : ℕ := if dir then (c.val + 8 - n) % 8 else (c.val + n) % 8

omit H in
theorem ch_lt (dir : Bool) (n : ℕ) (c : Dev nD) : ch dir n c < 8 := by
  unfold ch; split <;> exact Nat.mod_lt _ (by decide)

omit H in
theorem ch_step (dir : Bool) (c : Dev nD) (n : Fin 7) : ch dir n.val (up dir c) = ch dir (n.val + 1) c ∧ ck dir c n.val % 8 = ch dir (n.val + 1) c := by
  revert c n; cases dir <;> decide

omit H in
theorem ch_gk (dir : Bool) (c : Dev nD) (t : Fin 8) : ch dir 7 ((up dir)^[t.val] c) = gk dir c t.val := by
  revert c t; cases dir <;> decide

omit H in
theorem up_bij (dir : Bool) (c : Dev nD) : Function.Bijective (fun s : Fin 8 => ((up dir)^[s.val] c : Dev nD)) := by
  refine (Fintype.bijective_iff_injective_and_card _).mpr ⟨?_, rfl⟩
  revert c; cases dir <;> decide

theorem V_sum (dir : Bool) (n : ℕ) (hn : n ≤ 7) (c : Dev nD) (r : Fin 512) (l : Fin 4096) :
    V m dir n c (ix2 r l) = ∑ s ∈ Finset.range (n + 1), PP X W ((up dir)^[s] c).val (512 * ch dir n c + r.val) (base dir + l.val) := by
  induction n generalizing c with
  | zero =>
    have e : ch dir 0 c = c.val % 8 := by cases dir <;> simp [ch]
    unfold V
    pointwise [k0_pay40]
    rw [part_at H, e]
    simp
  | succ n ih =>
    obtain ⟨e1, e2⟩ := ch_step dir c ⟨n, by omega⟩
    dsimp only at e1 e2
    rw [V_add m dir (by omega), Finset.sum_range_succ']
    pointwise [k0_pay49]
    rw [part_at H, e2, show lift1 (V m dir n (up dir c)) (ix3 0 r l) = V m dir n (up dir c) (ix2 r l) from
      congrArg (V m dir n (up dir c)) (by funext b; fin_cases b <;> rfl), ih (by omega), e1, add_comm]
    rfl

/-- After the reduce-scatter a device's last chunk holds the whole sums. -/
theorem V_full (dir : Bool) (c : Dev nD) (r : Fin 512) (l : Fin 4096) :
    V m dir 7 c (ix2 r l) = YY X W (512 * ch dir 7 c + r.val) (base dir + l.val) := by
  rw [V_sum H dir 7 le_rfl, Finset.sum_range]
  exact (up_bij dir c).sum_comp (fun d : Dev nD => PP X W d.val (512 * ch dir 7 c + r.val) (base dir + l.val))

omit H in
theorem V_later (dir : Bool) (t : ℕ) (c : Dev nD) : V m dir (7 + t) c = V m dir 7 ((up dir)^[t] c) := by
  induction t generalizing c with
  | zero => rfl
  | succ t ih => rw [← Nat.add_assoc, V_pass m dir (by omega), ih]; rfl

theorem V_tile (dir : Bool) (t : Fin 8) (c : Dev nD) (r : Fin 512) (l : Fin 4096) :
    V m dir (7 + t.val) c (ix2 r l) = YY X W (512 * gk dir c t.val + r.val) (base dir + l.val) := by
  rw [V_later, V_full H, ch_gk]

/-! ## The largest magnitude -/

omit H in
theorem fold_max_le {α : Type} [Fintype α] (f : α → EReal) (b : EReal) :
    Finset.fold max (Ideal.ofBits .f32 0xFF800000#32) f Finset.univ ≤ b ↔ ∀ x, f x ≤ b := by
  rw [Finset.fold_max_le, bbot]
  simp

omit H in
theorem own_le (c : Dev nD) (b : EReal) (i : Fin 1) (x : Fin 8) (y : Fin 128) :
    Mx m 0 c (ix3 i x y) ≤ b ↔ ∀ (dir : Bool) (r : Fin 512) (l : Fin 4096), max (V m dir 7 c (ix2 r l)) (-V m dir 7 c (ix2 r l)) ≤ b := by
  unfold Mx
  pointwise [k0_pay60, k0_pay59]
  rw [max_le_iff, fold_max_le, fold_max_le]
  constructor
  · rintro ⟨h1, h2⟩ dir r l
    cases dir
    · exact h2 (r, l)
    · exact h1 (r, l)
  · exact fun h => ⟨fun p => h true p.1 p.2, fun p => h false p.1 p.2⟩

omit H in
theorem Mx_le (h : ℕ) (c : Dev nD) (b : EReal) (i : Fin 1) (x : Fin 8) (y : Fin 128) :
    Mx m h c (ix3 i x y) ≤ b ↔ ∀ s ≤ h, Mx m 0 (prv^[s] c) (ix3 i x y) ≤ b := by
  induction h generalizing c with
  | zero => simp
  | succ h ih =>
    have e : Mx m (h + 1) c (ix3 i x y) = max (Mx m h c (ix3 i x y)) (Mx m h (prv c) (ix3 i x y)) := by
      conv_lhs => unfold Mx
      pointwise [k0_pay61, k0_pay10]
      rw [Subsingleton.elim i 0]
    rw [e, max_le_iff, ih, ih]
    constructor
    · rintro ⟨h1, h2⟩ s hs
      cases s with
      | zero => exact h1 0 (Nat.zero_le _)
      | succ s => exact h2 s (by omega)
    · exact fun h1 => ⟨fun s hs => h1 s (by omega), fun s hs => h1 (s + 1) (by omega)⟩

/-- The largest magnitude of the product. -/
def amax (X : MX) (W : MW) : EReal :=
  Finset.fold max (Ideal.ofBits .f32 0xFF800000#32)
    (fun x : Fin 4096 × Fin 8192 => max (∑ k, X (ix2 x.1 k) * W (ix2 k x.2)) (-∑ k, X (ix2 x.1 k) * W (ix2 k x.2))) Finset.univ

omit H in
theorem amax_le (b : EReal) : amax X W ≤ b ↔ ∀ i j : ℕ, i < 4096 → j < 8192 → max (YY X W i j) (-YY X W i j) ≤ b := by
  unfold amax
  rw [fold_max_le]
  constructor
  · intro h i j hi hj
    have := h (⟨i, hi⟩, ⟨j, hj⟩)
    rwa [YY_eq] at this
  · intro h p
    rw [YY_eq]
    exact h p.1.val p.2.val p.1.isLt p.2.isLt

omit H in
theorem ch_inv (dir : Bool) (g : Fin 8) : ∃ d : Dev nD, ch dir 7 d = g.val := by
  revert g; cases dir <;> decide

omit H in
theorem prv_reach (c d : Dev nD) : ∃ s : Fin 8, prv^[s.val] c = d := by
  obtain ⟨s, hs⟩ := (up_bij true c).2 d
  exact ⟨s, hs⟩

/-- Every device computes the reference's scale. -/
theorem scale_eq (c : Dev nD) : scale m c = Ideal.div (amax X W) (Ideal.ofBits .f32 0x43E00000#32) := by
  unfold scale
  pointwise [k0_pay62]
  refine congrArg (fun a => Ideal.div a (Ideal.ofBits .f32 0x43E00000#32)) ?_
  refine eq_of_forall_ge_iff fun b => ?_
  rw [fold_max_le, amax_le]
  constructor
  · intro h i j hi hj
    have key : ∀ dir : Bool, (∃ l : Fin 4096, base dir + l.val = j) → max (YY X W i j) (-YY X W i j) ≤ b := by
      rintro dir ⟨l, hl⟩
      obtain ⟨d, hd⟩ := ch_inv dir ⟨i / 512, by omega⟩
      obtain ⟨s, hs⟩ := prv_reach c d
      have := (Mx_le 7 c b 0 0 0).mp (h (0, 0)) s.val (by omega)
      rw [hs, own_le] at this
      have := this dir ⟨i % 512, Nat.mod_lt _ (by decide)⟩ l
      rw [V_full H, hd, hl] at this
      dsimp only at this
      rwa [show 512 * (i / 512) + i % 512 = i by omega] at this
    by_cases hj' : j < 4096
    · exact key true ⟨⟨j, hj'⟩, by simp [base]⟩
    · exact key false ⟨⟨j - 4096, by omega⟩, by simp [base]; omega⟩
  · intro h p
    refine (Mx_le 7 c b 0 p.1 p.2).mpr fun s _ => (own_le _ b 0 p.1 p.2).mpr fun dir r l => ?_
    rw [V_full H]
    have := ch_lt dir 7 (prv^[s] c)
    exact h _ _ (by omega) (by cases dir <;> simp [base] <;> omega)

/-! ## The result -/

omit H in
theorem dq_at (s : Ideal .f32) (v : Vec Ideal S512x2048 .bf16) (r : Fin 512) (l : Fin 2048) :
    dq s v (ix2 r l) = kq s (v (ix2 r l)) := by
  pointwise [dq, k0_pay16, k0_pay15, k0_pay14, k0_pay13, k0_pay12, k0_pay11, kq, kmag, kpow, grow]
  rfl

omit H in
theorem dqT_at (s : Ideal .f32) (v : Vec Ideal S512x4096 .bf16) (r : Fin 512) (l : Fin 4096) :
    dqT s v (ix2 r l) = kq s (v (ix2 r l)) := by
  unfold dqT
  rw [halves_ix, ← at2_ix v]
  split_ifs <;> rw [dq_at, half_at] <;> congr 2 <;> simp <;> omega

omit H in
theorem gk_tileOf (dir : Bool) (c : Dev nD) (g : Fin 8) : gk dir c (tileOf dir c g.val) = g.val ∧ tileOf dir c g.val < 8 := by
  revert c g; cases dir <;> decide

theorem tile_at (dir : Bool) (c : Dev nD) (g : Fin 8) (r : Fin 512) (l : Fin 4096) :
    tile m dir (tileOf dir c g.val) c (ix2 r l) =
      kq (Ideal.div (amax X W) (Ideal.ofBits .f32 0x43E00000#32)) (YY X W (512 * g.val + r.val) (base dir + l.val)) := by
  obtain ⟨h1, h2⟩ := gk_tileOf dir c g
  unfold tile
  rw [dqT_at, scale_eq H]
  have := V_tile H dir ⟨tileOf dir c g.val, h2⟩ c r l
  dsimp only at this
  rw [this, h1]

/-- The result at row `i`, column `j`. -/
theorem OUT_at (c : Dev nD) (i : Fin 4096) (j : Fin 8192) :
    OUT m c (ix2 i j) = rq (Ideal.div (amax X W) (Ideal.ofBits .f32 0x43E00000#32)) (YY X W i.val j.val) := by
  rw [← kq_eq_rq _ _ ((amax_le _).mp le_rfl i.val j.val i.isLt j.isLt)]
  have e : tileIx (ix2 i j) = ix2 ⟨i.val % 512, Nat.mod_lt _ (by decide)⟩ ⟨j.val % 4096, Nat.mod_lt _ (by decide)⟩ := by
    funext b; fin_cases b <;> rfl
  unfold OUT
  rw [e]
  have hg : i.val / 512 < 8 := by omega
  have t := fun dir => tile_at H dir c ⟨i.val / 512, hg⟩ ⟨i.val % 512, Nat.mod_lt _ (by decide)⟩ ⟨j.val % 4096, Nat.mod_lt _ (by decide)⟩
  dsimp only at t
  show (if j.val < 4096 then tile m true (tileOf true c (i.val / 512)) c _ else tile m false (tileOf false c (i.val / 512)) c _) = _
  rw [t, t, show 512 * (i.val / 512) + i.val % 512 = i.val by omega]
  split_ifs
  · rw [show base true + j.val % 4096 = j.val by simp [base]; omega]
  · rw [show base false + j.val % 4096 = j.val by simp [base]; omega]

end

/-! ## The reference -/

section

variable (m' : (ℓ : Loc ReferenceIdeal.nD ReferenceIdeal.τ ReferenceIdeal.sig) → Buf (Elt Ideal) ℓ)

/-- The whole operands. -/
def refX : MX := m' ((0 : Dev ReferenceIdeal.nD).tc.loc ReferenceIdeal.main_arg0)
def refW : MW := m' ((0 : Dev ReferenceIdeal.nD).tc.loc ReferenceIdeal.main_arg1)

theorem ref_at (r : Fin 4096) (l : Fin 8192) :
    ReferenceIdeal.Value.res_out0 m' 0 (ix2 r l) =
      (show Elt Ideal .f32 from rq (Ideal.div (amax (refX m') (refW m')) (Ideal.ofBits .f32 0x43E00000#32)) (∑ k, refX m' (ix2 r k) * refW m' (ix2 k l))) := by
  unfold ReferenceIdeal.Value.res_out0 ReferenceIdeal.Value.res_main_v29
  clean_types
  pointwise [rq, rmag, rstep]
  rfl

/-- The kernel's result is the reference's. -/
theorem OUT_eq (m : (ℓ : Loc nD τ sig) → Buf (Elt Ideal) ℓ)
    (hx : ∀ c : Dev nD, m ((c : Thread nD τ).loc main_arg0) = Layout.block ⟨2, ![4096, 512]⟩ ⟨2, ![4096, 4096]⟩ 1 8 c (refX m'))
    (hw : ∀ c : Dev nD, m ((c : Thread nD τ).loc main_arg1) = Layout.block ⟨2, ![512, 8192]⟩ ⟨2, ![4096, 8192]⟩ 0 8 c (refW m'))
    (c : Dev nD) : OUT m c = ReferenceIdeal.Value.res_out0 m' 0 := by
  have H : Cut m (refX m') (refW m') := by
    constructor
    · intro c i k hi hk
      rw [hx c]
      refine (dif_pos ⟨hi, hk⟩).trans ((at2_of (refX m') _).trans (congrArg₂ (at2 (refX m')) ?_ ?_))
      · rfl
      · show c.val * 512 + k = _; omega
    · intro c k j hk hj
      rw [hw c]
      refine (dif_pos ⟨hk, hj⟩).trans ((at2_of (refW m') _).trans (congrArg₂ (at2 (refW m')) ?_ ?_))
      · show c.val * 512 + k = _; omega
      · rfl
  funext x
  obtain ⟨i, j, rfl⟩ : ∃ (i : Fin 4096) (j : Fin 8192), x = ix2 i j := ⟨x 0, x 1, by funext b; fin_cases b <;> rfl⟩
  rw [OUT_at H]
  refine Eq.trans ?_ (ref_at m' i j).symm
  rw [YY_eq]

end

end Cert.RingProof

end
-- ==== Proof.lean ====
/-
  The claims: every program's frame, the kernel against its own idealization, the idealized kernel against the
  reference.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.LaunchRun
public import proofs.«01_k».proof.Proof.Value
public import Idealize.ShloMosaic.Adequacy
public import Idealize.ShloMosaic.Init

@[expose] public section

noncomputable section

namespace Cert.Proof

attribute [local instance] Cert.Kernel.Gen.facts Cert.KernelIdeal.Gen.facts

open Idealize.ShloMosaic Idealize.ShloMosaic.TcCoe Idealize.SL.Sem

/-- The arguments unchanged and every semaphore at zero, over any floats. -/
theorem frame_any {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run _ _ _).mono (fun _ h => ⟨fun c => ⟨((h.1 c).1 0).trans (Cert.RingProof.end_x m c), ((h.1 c).1 1).trans (Cert.RingProof.end_w m c)⟩, h.2⟩)
    (Cert.RingProof.run_main (F := F) m g)

theorem frame_KernelIdeal : Cert.quiescent_KernelIdeal (hKernelIdeal := Cert.KernelIdeal.Gen.facts) := fun m g _ => frame_any m g

section Same

variable {F : FTy → Type} [FloatOps F]

set_option maxRecDepth 100000 in
theorem body_same : Cert.Kernel.cc0__body (F := F) = Cert.KernelIdeal.cc0__body (F := F) := rfl
theorem defs₀_same : Cert.Kernel.defs₀ (F := F) = Cert.KernelIdeal.defs₀ (F := F) := by
  unfold Cert.Kernel.defs₀ Cert.KernelIdeal.defs₀
  refine congrArg Defs.onTc ?_
  funext ℓ p
  obtain ⟨_ | n, h⟩ := ℓ
  · obtain ⟨t, s⟩ := p
    dsimp only
    rw [body_same]
  · omega
/-- The kernel and its reading at the ideal instance are one text. -/
theorem defs_same : Cert.Kernel.defs (F := F) = Cert.KernelIdeal.defs (F := F) := congrArg (Pipeline.defs Cert.KernelIdeal.pcfgs) defs₀_same

end Same

theorem frame_Kernel : Cert.quiescent_Kernel (hKernel := Cert.Kernel.Gen.facts) := fun m g _ =>
  Eq.mpr (congrArg (fun d => (θ_run d (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) : Prop)) defs_same) (frame_any (F := Bits) m g)

theorem frame_ReferenceIdeal : Cert.quiescent_ReferenceIdeal (hReferenceIdeal := Cert.ReferenceIdeal.Gen.facts) := fun m g _ =>
  (θ_run Cert.ReferenceIdeal.defs _ _).mono (fun r h => ⟨fun c => ⟨(h c).2.1, (h c).2.2⟩, sem_eq_zero_of_no_sems (by decide) r.2⟩)
    (Cert.ReferenceIdeal.Value.run (F := Ideal) m g)

/-- Every device's result is the reference's. -/
theorem algebraic : Cert.algebraic_KernelIdeal_ReferenceIdeal (hKernelIdeal := Cert.KernelIdeal.Gen.facts) (hReferenceIdeal := Cert.ReferenceIdeal.Gen.facts) :=
  fun m g m' g' _ hagree => ⟨Cert.ReferenceIdeal.Value.res_out0 m' 0,
    (θ_run _ _ _).mono (fun _ h c => ⟨(h.1 c).2.trans (Cert.RingProof.OUT_eq m' m (fun c => (hagree c).1) (fun c => (hagree c).2) c),
        ((h.1 c).1 0).trans (Cert.RingProof.end_x m c), ((h.1 c).1 1).trans (Cert.RingProof.end_w m c)⟩)
      (Cert.RingProof.run_main (F := Ideal) m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  frame_Kernel, frame_KernelIdeal, frame_ReferenceIdeal, trivial, algebraic⟩

end Cert.Proof

end
